-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Merged (m : (ℓ : Loc Cert.Merged.nD Cert.Merged.τ Cert.Merged.sig) → Buf (Elt Bits) ℓ) : Prop :=
  True

def Pre_MergedIdeal (m : (ℓ : Loc Cert.MergedIdeal.nD Cert.MergedIdeal.τ Cert.MergedIdeal.sig) → Buf (Elt Ideal) ℓ) : Prop :=
  True

def Pre_MergedIdeal_sorted_lists [hPre_sorted_lists : Cert.Pre_sorted_lists.Facts] (m : (ℓ : Loc Cert.MergedIdeal.nD Cert.MergedIdeal.τ Cert.MergedIdeal.sig) → Buf (Elt Ideal) ℓ) : Prop :=
  ∀ c : Dev Cert.MergedIdeal.nD,
    (Cert.Pre_sorted_lists.fn (F := Ideal) (m ((c.tc : Thread Cert.MergedIdeal.nD Cert.MergedIdeal.τ).loc Cert.MergedIdeal.main_arg0))) = (fun _ => 1#1)

def Pre_MergedReferenceIdeal (m : (ℓ : Loc Cert.MergedReferenceIdeal.nD Cert.MergedReferenceIdeal.τ Cert.MergedReferenceIdeal.sig) → Buf (Elt Ideal) ℓ) : Prop :=
  True

def Pre_MergedReferenceIdeal_sorted_lists [hPre_sorted_lists : Cert.Pre_sorted_lists.Facts] (m : (ℓ : Loc Cert.MergedReferenceIdeal.nD Cert.MergedReferenceIdeal.τ Cert.MergedReferenceIdeal.sig) → Buf (Elt Ideal) ℓ) : Prop :=
  ∀ c : Dev Cert.MergedReferenceIdeal.nD,
    (Cert.Pre_sorted_lists.fn (F := Ideal) (m ((c.tc : Thread Cert.MergedReferenceIdeal.nD Cert.MergedReferenceIdeal.τ).loc Cert.MergedReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Merged [hMerged : Cert.Merged.Facts] : Prop :=
  ∀ (m : (ℓ : Loc Cert.Merged.nD Cert.Merged.τ Cert.Merged.sig) → Buf (Elt Bits) ℓ) (g : Dev Cert.Merged.nD → PrngReg), Pre_Merged m →
    θ_run (Cert.Merged.defs (F := Bits)) (onTc (τ := Cert.Merged.τ) (Cert.Merged.main (F := Bits))) ⟨m, fun _ => 0, g⟩ (fun r => (∀ c : Dev Cert.Merged.nD,
      r.2.mem ((c.tc : Thread Cert.Merged.nD Cert.Merged.τ).loc Cert.Merged.main_arg0) = m ((c.tc : Thread Cert.Merged.nD Cert.Merged.τ).loc Cert.Merged.main_arg0))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0))
      ∧ r.2.sem = fun _ => 0)

def quiescent_MergedIdeal_pre_sorted_lists [hMergedIdeal : Cert.MergedIdeal.Facts] [hPre_sorted_lists : Cert.Pre_sorted_lists.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal_sorted_lists m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0))
      ∧ r.2.sem = fun _ => 0)

def quiescent_MergedReferenceIdeal [hMergedReferenceIdeal : Cert.MergedReferenceIdeal.Facts] : Prop :=
  ∀ (m : (ℓ : Loc Cert.MergedReferenceIdeal.nD Cert.MergedReferenceIdeal.τ Cert.MergedReferenceIdeal.sig) → Buf (Elt Ideal) ℓ) (g : Dev Cert.MergedReferenceIdeal.nD → PrngReg), Pre_MergedReferenceIdeal m →
    θ_run (Cert.MergedReferenceIdeal.defs (F := Ideal)) (onTc (τ := Cert.MergedReferenceIdeal.τ) (Cert.MergedReferenceIdeal.main (F := Ideal))) ⟨m, fun _ => 0, g⟩ (fun r => (∀ c : Dev Cert.MergedReferenceIdeal.nD,
      r.2.mem ((c.tc : Thread Cert.MergedReferenceIdeal.nD Cert.MergedReferenceIdeal.τ).loc Cert.MergedReferenceIdeal.main_arg0) = m ((c.tc : Thread Cert.MergedReferenceIdeal.nD Cert.MergedReferenceIdeal.τ).loc Cert.MergedReferenceIdeal.main_arg0))
      ∧ r.2.sem = fun _ => 0)

def quiescent_MergedReferenceIdeal_pre_sorted_lists [hMergedReferenceIdeal : Cert.MergedReferenceIdeal.Facts] [hPre_sorted_lists : Cert.Pre_sorted_lists.Facts] : Prop :=
  ∀ (m : (ℓ : Loc Cert.MergedReferenceIdeal.nD Cert.MergedReferenceIdeal.τ Cert.MergedReferenceIdeal.sig) → Buf (Elt Ideal) ℓ) (g : Dev Cert.MergedReferenceIdeal.nD → PrngReg), Pre_MergedReferenceIdeal_sorted_lists m →
    θ_run (Cert.MergedReferenceIdeal.defs (F := Ideal)) (onTc (τ := Cert.MergedReferenceIdeal.τ) (Cert.MergedReferenceIdeal.main (F := Ideal))) ⟨m, fun _ => 0, g⟩ (fun r => (∀ c : Dev Cert.MergedReferenceIdeal.nD,
      r.2.mem ((c.tc : Thread Cert.MergedReferenceIdeal.nD Cert.MergedReferenceIdeal.τ).loc Cert.MergedReferenceIdeal.main_arg0) = m ((c.tc : Thread Cert.MergedReferenceIdeal.nD Cert.MergedReferenceIdeal.τ).loc Cert.MergedReferenceIdeal.main_arg0))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Merged_MergedIdeal : Prop :=
  True

def algebraic_MergedIdeal_MergedReferenceIdeal_pre_sorted_lists [hMergedIdeal : Cert.MergedIdeal.Facts] [hMergedReferenceIdeal : Cert.MergedReferenceIdeal.Facts] [hPre_sorted_lists : Cert.Pre_sorted_lists.Facts] : Prop :=
  ∀ (m : (ℓ : Loc Cert.MergedIdeal.nD Cert.MergedIdeal.τ Cert.MergedIdeal.sig) → Buf (Elt Ideal) ℓ) (g : Dev Cert.MergedIdeal.nD → PrngReg)
    (m' : (ℓ : Loc Cert.MergedReferenceIdeal.nD Cert.MergedReferenceIdeal.τ Cert.MergedReferenceIdeal.sig) → Buf (Elt Ideal) ℓ) (g' : Dev Cert.MergedReferenceIdeal.nD → PrngReg), Pre_MergedIdeal_sorted_lists m →
    (∀ c : Dev Cert.MergedIdeal.nD,
      m' ((c.tc : Thread Cert.MergedReferenceIdeal.nD Cert.MergedReferenceIdeal.τ).loc Cert.MergedReferenceIdeal.main_arg0) = m ((c.tc : Thread Cert.MergedIdeal.nD Cert.MergedIdeal.τ).loc Cert.MergedIdeal.main_arg0)) →
    ∃ (v0 : (c : Dev Cert.MergedIdeal.nD) → Buf (Elt Ideal) ((c.tc : Thread Cert.MergedIdeal.nD Cert.MergedIdeal.τ).loc Cert.MergedIdeal.main_v8)) (v1 : (c : Dev Cert.MergedIdeal.nD) → Buf (Elt Ideal) ((c.tc : Thread Cert.MergedIdeal.nD Cert.MergedIdeal.τ).loc Cert.MergedIdeal.main_v2)),
      θ_run (Cert.MergedIdeal.defs (F := Ideal)) (onTc (τ := Cert.MergedIdeal.τ) (Cert.MergedIdeal.main (F := Ideal))) ⟨m, fun _ => 0, g⟩ (fun r => ∀ c : Dev Cert.MergedIdeal.nD,
          r.2.mem ((c.tc : Thread Cert.MergedIdeal.nD Cert.MergedIdeal.τ).loc Cert.MergedIdeal.main_v8) = v0 c
          ∧ r.2.mem ((c.tc : Thread Cert.MergedIdeal.nD Cert.MergedIdeal.τ).loc Cert.MergedIdeal.main_v2) = v1 c
          ∧ r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0))
      ∧ θ_run (Cert.MergedReferenceIdeal.defs (F := Ideal)) (onTc (τ := Cert.MergedReferenceIdeal.τ) (Cert.MergedReferenceIdeal.main (F := Ideal))) ⟨m', fun _ => 0, g'⟩ (fun r => ∀ c : Dev Cert.MergedReferenceIdeal.nD,
          r.2.mem ((c.tc : Thread Cert.MergedReferenceIdeal.nD Cert.MergedReferenceIdeal.τ).loc Cert.MergedReferenceIdeal.main_v2) = v0 c
          ∧ r.2.mem ((c.tc : Thread Cert.MergedReferenceIdeal.nD Cert.MergedReferenceIdeal.τ).loc Cert.MergedReferenceIdeal.main_v3) = v1 c
          ∧ r.2.mem ((c.tc : Thread Cert.MergedReferenceIdeal.nD Cert.MergedReferenceIdeal.τ).loc Cert.MergedReferenceIdeal.main_arg0) = m' ((c.tc : Thread Cert.MergedReferenceIdeal.nD Cert.MergedReferenceIdeal.τ).loc Cert.MergedReferenceIdeal.main_arg0))

def Claim : Prop :=
  ∃ (hKernel : Cert.Kernel.Facts) (hKernelIdeal : Cert.KernelIdeal.Facts) (hReferenceIdeal : Cert.ReferenceIdeal.Facts) (hMerged : Cert.Merged.Facts) (hMergedIdeal : Cert.MergedIdeal.Facts) (hMergedReferenceIdeal : Cert.MergedReferenceIdeal.Facts) (hPre_pre : Cert.Pre_pre.Facts) (hPre_sorted_lists : Cert.Pre_sorted_lists.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Merged (hMerged := hMerged)
    ∧ quiescent_MergedIdeal (hMergedIdeal := hMergedIdeal)
    ∧ quiescent_MergedIdeal_pre_sorted_lists (hMergedIdeal := hMergedIdeal) (hPre_sorted_lists := hPre_sorted_lists)
    ∧ quiescent_MergedReferenceIdeal (hMergedReferenceIdeal := hMergedReferenceIdeal)
    ∧ quiescent_MergedReferenceIdeal_pre_sorted_lists (hMergedReferenceIdeal := hMergedReferenceIdeal) (hPre_sorted_lists := hPre_sorted_lists)
    ∧ preserves_Kernel_KernelIdeal
    ∧ algebraic_KernelIdeal_ReferenceIdeal_pre_pre (hKernelIdeal := hKernelIdeal) (hReferenceIdeal := hReferenceIdeal) (hPre_pre := hPre_pre)
    ∧ preserves_Merged_MergedIdeal
    ∧ algebraic_MergedIdeal_MergedReferenceIdeal_pre_sorted_lists (hMergedIdeal := hMergedIdeal) (hMergedReferenceIdeal := hMergedReferenceIdeal) (hPre_sorted_lists := hPre_sorted_lists)
-- ==== Pre_pre.lean ====
abbrev S4096x256 : Shape := ⟨2, ![4096, 256]⟩
abbrev S2x2048x4 : Shape := ⟨3, ![2, 2048, 4]⟩
abbrev S640x832x256 : Shape := ⟨3, ![640, 832, 256]⟩
abbrev S640x832 : Shape := ⟨2, ![640, 832]⟩
abbrev S640 : Shape := ⟨1, ![640]⟩
abbrev S_ : Shape := ⟨0, ![]⟩

class Facts : Prop where
  bcast_S_S2x2048x4 : S_.BroadcastsInDim S2x2048x4 (![] : Fin 0 → Fin S2x2048x4.rank)
  reducesTo_S2x2048x4_S_d0_1_2 : S2x2048x4.ReducesTo [0, 1, 2] S_
  h_S_ : 0 < S_.numel

variable [Facts]

def fn {F : FTy → Type} [FloatOps F] (main_arg0 : IVec S4096x256 32) (main_arg1 : IVec S2x2048x4 32) (main_arg2 : IVec S640x832x256 8) (main_arg3 : FVec F S640x832 .f32) (main_arg4 : IVec S640 32) : IVec S_ 1 :=
  let main_c : IVec S_ 32 := constantI S_ 32 0#32
  let main_v0 : IVec S2x2048x4 32 := broadcastInDim S2x2048x4 ![] bcast_S_S2x2048x4 main_c
  let main_v1 : IVec S2x2048x4 1 := cmpi .sge main_arg1 main_v0
  let main_c_0 : IVec S_ 32 := constantI S_ 32 640#32
  let main_v2 : IVec S2x2048x4 32 := broadcastInDim S2x2048x4 ![] bcast_S_S2x2048x4 main_c_0
  let main_v3 : IVec S2x2048x4 1 := cmpi .slt main_arg1 main_v2
  let main_v4 : IVec S2x2048x4 1 := andi main_v1 main_v3
  let main_c_1 : IVec S_ 1 := constantI S_ 1 1#1
  let main_v5 : IVec S_ 1 := (fun x v => Host.reduce IntOp.andi x v reducesTo_S2x2048x4_S_d0_1_2 h_S_) main_v4 main_c_1
  main_v5
-- ==== Pre_sorted_lists.lean ====
abbrev S4096x4x20 : Shape := ⟨3, ![4096, 4, 20]⟩
abbrev S4096x4x19 : Shape := ⟨3, ![4096, 4, 19]⟩
abbrev S_ : Shape := ⟨0, ![]⟩

class Facts : Prop where
  slices_S4096x4x20_S4096x4x19_0_0_0 : S4096x4x20.Slices ![0, 0, 0] S4096x4x19
  slices_S4096x4x20_S4096x4x19_0_0_1 : S4096x4x20.Slices ![0, 0, 1] S4096x4x19
  reducesTo_S4096x4x19_S_d0_1_2 : S4096x4x19.ReducesTo [0, 1, 2] S_
  h_S_ : 0 < S_.numel

variable [Facts]

def fn {F : FTy → Type} [FloatOps F] (main_arg0 : FVec F S4096x4x20 .f32) : IVec S_ 1 :=
  let main_v0 : FVec F S4096x4x19 .f32 := (extractStridedSlice S4096x4x19 ![0, 0, 0] · slices_S4096x4x20_S4096x4x19_0_0_0) main_arg0
  let main_v1 : FVec F S4096x4x19 .f32 := (extractStridedSlice S4096x4x19 ![0, 0, 1] · slices_S4096x4x20_S4096x4x19_0_0_1) main_arg0
  let main_v2 : IVec S4096x4x19 1 := cmpf .oge main_v0 main_v1
  let main_c : IVec S_ 1 := constantI S_ 1 1#1
  let main_v3 : IVec S_ 1 := (fun x v => Host.reduce IntOp.andi x v reducesTo_S4096x4x19_S_d0_1_2 h_S_) main_v2 main_c
  main_v3
-- ==== Kernel.lean ====
abbrev S4096x256 : Shape := ⟨2, ![4096, 256]⟩
abbrev S2x2048x4 : Shape := ⟨3, ![2, 2048, 4]⟩
abbrev S640x832x256 : Shape := ⟨3, ![640, 832, 256]⟩
abbrev S640x832 : Shape := ⟨2, ![640, 832]⟩
abbrev S640 : Shape := ⟨1, ![640]⟩
abbrev S16384 : Shape := ⟨1, ![16384]⟩
abbrev S_ : Shape := ⟨0, ![]⟩
abbrev S16384x1 : Shape := ⟨2, ![16384, 1]⟩
abbrev S1x640 : Shape := ⟨2, ![1, 640]⟩
abbrev S16384x640 : Shape := ⟨2, ![16384, 640]⟩
abbrev S32 : Shape := ⟨1, ![32]⟩
abbrev S16416 : Shape := ⟨1, ![16416]⟩
abbrev S640x1x832 : Shape := ⟨3, ![640, 1, 832]⟩
abbrev S21504x832 : Shape := ⟨2, ![21504, 832]⟩
abbrev S1x832x256 : Shape := ⟨3, ![1, 832, 256]⟩
abbrev S1x1x832 : Shape := ⟨3, ![1, 1, 832]⟩
abbrev S832x256 : Shape := ⟨2, ![832, 256]⟩
abbrev S32x256 : Shape := ⟨2, ![32, 256]⟩
abbrev S32x832 : Shape := ⟨2, ![32, 832]⟩
abbrev S208x256 : Shape := ⟨2, ![208, 256]⟩
abbrev S1 : Shape := ⟨1, ![1]⟩
abbrev S1x256 : Shape := ⟨2, ![1, 256]⟩
abbrev S1x832 : Shape := ⟨2, ![1, 832]⟩
abbrev S16384x832 : Shape := ⟨2, ![16384, 832]⟩
abbrev S4096x4x832 : Shape := ⟨3, ![4096, 4, 832]⟩

abbrev nBuf : Space → Nat
  | .hbm => 134
  | .vmem => 9
  | .smem => 5
  | _ => 0

abbrev hbmTy0_0 (i : Nat) : BufTy := match i % 128 with
  | 0 => ⟨S4096x256, .i32⟩
  | 1 => ⟨S2x2048x4, .i32⟩
  | 2 => ⟨S640x832x256, .i8⟩
  | 3 => ⟨S640x832, .f32⟩
  | 4 => ⟨S16384, .i32⟩
  | 5 => ⟨S16384, .i32⟩
  | 6 => ⟨S_, .i32⟩
  | 7 => ⟨S16384, .i32⟩
  | 8 => ⟨S16384, .i32⟩
  | 9 => ⟨S16384, .i32⟩
  | 10 => ⟨S16384, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S16384, .i32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i1⟩
  | 25 => ⟨S_, .i32⟩
  | 26 => ⟨S_, .i1⟩
  | 27 => ⟨S16384, .i1⟩
  | 28 => ⟨S16384, .i1⟩
  | 29 => ⟨S16384, .i1⟩
  | 30 => ⟨S16384, .i32⟩
  | 31 => ⟨S16384, .i32⟩
  | 32 => ⟨S16384, .i32⟩
  | 33 => ⟨S_, .i32⟩
  | 34 => ⟨S_, .i32⟩
  | 35 => ⟨S16384, .i32⟩
  | 36 => ⟨S16384, .i32⟩
  | 37 => ⟨S16384, .i32⟩
  | 38 => ⟨S_, .i32⟩
  | 39 => ⟨S16384, .i32⟩
  | 40 => ⟨S16384, .i1⟩
  | 41 => ⟨S16384, .i32⟩
  | 42 => ⟨S16384, .i32⟩
  | 43 => ⟨S_, .i32⟩
  | 44 => ⟨S16384, .i32⟩
  | 45 => ⟨S16384, .i1⟩
  | 46 => ⟨S16384, .i1⟩
  | 47 => ⟨S_, .i32⟩
  | 48 => ⟨S16384, .i32⟩
  | 49 => ⟨S16384, .i32⟩
  | 50 => ⟨S16384, .i32⟩
  | 51 => ⟨S640, .i32⟩
  | 52 => ⟨S16384x1, .i32⟩
  | 53 => ⟨S1x640, .i32⟩
  | 54 => ⟨S16384x640, .i32⟩
  | 55 => ⟨S16384x640, .i32⟩
  | 56 => ⟨S16384x640, .i1⟩
  | 57 => ⟨S16384x640, .i32⟩
  | 58 => ⟨S_, .i32⟩
  | 59 => ⟨S_, .i32⟩
  | 60 => ⟨S_, .i32⟩
  | 61 => ⟨S640, .i32⟩
  | 62 => ⟨S_, .i32⟩
  | 63 => ⟨S640, .i32⟩
  | 64 => ⟨S640, .i32⟩
  | 65 => ⟨S_, .i32⟩
  | 66 => ⟨S640, .i32⟩
  | 67 => ⟨S640, .i32⟩
  | 68 => ⟨S_, .i32⟩
  | 69 => ⟨S_, .i32⟩
  | 70 => ⟨S640, .i32⟩
  | 71 => ⟨S640, .i32⟩
  | 72 => ⟨S640, .i32⟩
  | 73 => ⟨S_, .i32⟩
  | 74 => ⟨S640, .i32⟩
  | 75 => ⟨S640, .i1⟩
  | 76 => ⟨S640, .i32⟩
  | 77 => ⟨S640, .i32⟩
  | 78 => ⟨S_, .i32⟩
  | 79 => ⟨S640, .i32⟩
  | 80 => ⟨S640, .i1⟩
  | 81 => ⟨S640, .i1⟩
  | 82 => ⟨S_, .i32⟩
  | 83 => ⟨S640, .i32⟩
  | 84 => ⟨S640, .i32⟩
  | 85 => ⟨S640, .i32⟩
  | 86 => ⟨S_, .i32⟩
  | 87 => ⟨S640, .i32⟩
  | 88 => ⟨S640, .i32⟩
  | 89 => ⟨S_, .i32⟩
  | 90 => ⟨S_, .i32⟩
  | 91 => ⟨S640, .i32⟩
  | 92 => ⟨S640, .i32⟩
  | 93 => ⟨S1x640, .i32⟩
  | 94 => ⟨S16384x1, .i32⟩
  | 95 => ⟨S16384x640, .i32⟩
  | 96 => ⟨S16384x640, .i32⟩
  | 97 => ⟨S16384x640, .i1⟩
  | 98 => ⟨S1x640, .i32⟩
  | 99 => ⟨S_, .i32⟩
  | 100 => ⟨S_, .i32⟩
  | 101 => ⟨S16384x640, .i32⟩
  | 102 => ⟨S16384x640, .i32⟩
  | 103 => ⟨S16384x640, .i32⟩
  | 104 => ⟨S_, .i32⟩
  | 105 => ⟨S16384, .i32⟩
  | 106 => ⟨S16384, .i32⟩
  | 107 => ⟨S16384, .i32⟩
  | 108 => ⟨S16384, .i32⟩
  | 109 => ⟨S_, .i32⟩
  | 110 => ⟨S_, .i32⟩
  | 111 => ⟨S16384, .i32⟩
  | 112 => ⟨S16384, .i32⟩
  | 113 => ⟨S16384, .i32⟩
  | 114 => ⟨S_, .i32⟩
  | 115 => ⟨S16384, .i32⟩
  | 116 => ⟨S16384, .i1⟩
  | 117 => ⟨S16384, .i32⟩
  | 118 => ⟨S16384, .i32⟩
  | 119 => ⟨S_, .i32⟩
  | 120 => ⟨S16384, .i32⟩
  | 121 => ⟨S16384, .i1⟩
  | 122 => ⟨S16384, .i1⟩
  | 123 => ⟨S_, .i32⟩
  | 124 => ⟨S16384, .i32⟩
  | 125 => ⟨S16384, .i32⟩
  | 126 => ⟨S16384, .i32⟩
  | 127 => ⟨S_, .i32⟩
  | _ => ⟨S4096x256, .i32⟩

abbrev hbmTy0_1 (i : Nat) : BufTy := match i % 128 with
  | 0 => ⟨S32, .i32⟩
  | 1 => ⟨S640x1x832, .f32⟩
  | 2 => ⟨S21504x832, .f32⟩
  | 3 => ⟨S16384x1, .i32⟩
  | 4 => ⟨S16384x832, .f32⟩
  | 5 => ⟨S4096x4x832, .f32⟩
  | _ => ⟨S4096x256, .i32⟩

abbrev hbmTy (i : Nat) : BufTy := match i / 128 with
  | 0 => hbmTy0_0 i
  | 1 => hbmTy0_1 i
  | _ => ⟨S4096x256, .i32⟩

abbrev bufTy : (tb : Table) → Fin (tcTables nBuf tb) → BufTy
  | .hbm, ⟨i, _⟩ => hbmTy i
  | .local _ .vmem, ⟨0, _⟩ => ⟨S4096x256, .i32⟩
  | .local _ .vmem, ⟨1, _⟩ => ⟨S1x832x256, .i8⟩
  | .local _ .vmem, ⟨2, _⟩ => ⟨S1x832x256, .i8⟩
  | .local _ .vmem, ⟨3, _⟩ => ⟨S1x1x832, .f32⟩
  | .local _ .vmem, ⟨4, _⟩ => ⟨S1x1x832, .f32⟩
  | .local _ .vmem, ⟨5, _⟩ => ⟨S832x256, .bf16⟩
  | .local _ .vmem, ⟨6, _⟩ => ⟨S832x256, .bf16⟩
  | .local _ .vmem, ⟨7, _⟩ => ⟨S32x256, .i32⟩
  | .local _ .vmem, ⟨8, _⟩ => ⟨S32x832, .f32⟩
  | .local _ .smem, ⟨0, _⟩ => ⟨S640, .i32⟩
  | .local _ .smem, ⟨1, _⟩ => ⟨S640, .i32⟩
  | .local _ .smem, ⟨2, _⟩ => ⟨S640, .i32⟩
  | .local _ .smem, ⟨3, _⟩ => ⟨S640, .i32⟩
  | .local _ .smem, ⟨4, _⟩ => ⟨S16416, .i32⟩
  | _, _ => ⟨S4096x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v6 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_c_2 : Ref sig .tc := ⟨.hbm, 58, rfl⟩
abbrev main_call2_call0_c : Ref sig .tc := ⟨.hbm, 59, rfl⟩
abbrev main_call2_call0_v0 : Ref sig .tc := ⟨.hbm, 60, rfl⟩
abbrev main_v16 : Ref sig .tc := ⟨.hbm, 61, rfl⟩
abbrev main_c_3 : Ref sig .tc := ⟨.hbm, 62, rfl⟩
abbrev main_v18 : Ref sig .tc := ⟨.hbm, 63, rfl⟩
abbrev main_v19 : Ref sig .tc := ⟨.hbm, 64, rfl⟩
abbrev main_c_4 : Ref sig .tc := ⟨.hbm, 65, rfl⟩
abbrev main_v20 : Ref sig .tc := ⟨.hbm, 66, rfl⟩
abbrev main_v21 : Ref sig .tc := ⟨.hbm, 67, rfl⟩
abbrev main_c_5 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_c : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_0 : Ref sig .tc := ⟨.hbm, 82, rfl⟩
abbrev main_call3_v12 : Ref sig .tc := ⟨.hbm, 83, rfl⟩
abbrev main_call3_v13 : Ref sig .tc := ⟨.hbm, 84, rfl⟩
abbrev main_v22 : Ref sig .tc := ⟨.hbm, 85, rfl⟩
abbrev main_c_6 : Ref sig .tc := ⟨.hbm, 86, rfl⟩
abbrev main_v23 : Ref sig .tc := ⟨.hbm, 87, rfl⟩
abbrev main_v24 : Ref sig .tc := ⟨.hbm, 88, rfl⟩
abbrev main_call4_call0_c : Ref sig .tc := ⟨.hbm, 89, rfl⟩
abbrev main_call4_call0_v0 : Ref sig .tc := ⟨.hbm, 90, rfl⟩
abbrev main_v25 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_c_7 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_v34 : Ref sig .tc := ⟨.hbm, 103, rfl⟩
abbrev main_c_8 : Ref sig .tc := ⟨.hbm, 104, rfl⟩
abbrev main_v35 : Ref sig .tc := ⟨.hbm, 105, rfl⟩
abbrev main_v36 : Ref sig .tc := ⟨.hbm, 106, rfl⟩
abbrev main_v37_0 : Ref sig .tc := ⟨.hbm, 107, rfl⟩
abbrev main_v37_1 : Ref sig .tc := ⟨.hbm, 108, rfl⟩
abbrev main_c_9 : Ref sig .tc := ⟨.hbm, 109, rfl⟩
abbrev main_call6_v0 : Ref sig .tc := ⟨.hbm, 110, rfl⟩
abbrev main_call6_v1 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_call6_v5 : Ref sig .tc := ⟨.hbm, 115, rfl⟩
abbrev main_call6_v6 : Ref sig .tc := ⟨.hbm, 116, rfl⟩
abbrev main_call6_v7 : Ref sig .tc := ⟨.hbm, 117, rfl⟩
abbrev main_call6_v8 : Ref sig .tc := ⟨.hbm, 118, rfl⟩
abbrev main_call6_c : Ref sig .tc := ⟨.hbm, 119, rfl⟩
abbrev main_call6_v9 : Ref sig .tc := ⟨.hbm, 120, rfl⟩
abbrev main_call6_v10 : Ref sig .tc := ⟨.hbm, 121, rfl⟩
abbrev main_call6_v11 : Ref sig .tc := ⟨.hbm, 122, rfl⟩
abbrev main_call6_c_0 : Ref sig .tc := ⟨.hbm, 123, rfl⟩
abbrev main_call6_v12 : Ref sig .tc := ⟨.hbm, 124, rfl⟩
abbrev main_call6_v13 : Ref sig .tc := ⟨.hbm, 125, rfl⟩
abbrev main_v38 : Ref sig .tc := ⟨.hbm, 126, rfl⟩
abbrev main_c_10 : Ref sig .tc := ⟨.hbm, 127, rfl⟩
abbrev main_v39 : Ref sig .tc := ⟨.hbm, 128, rfl⟩
abbrev main_v41 : Ref sig .tc := ⟨.hbm, 129, rfl⟩
abbrev main_v42 : Ref sig .tc := ⟨.hbm, 130, rfl⟩
abbrev main_call7_v0 : Ref sig .tc := ⟨.hbm, 131, rfl⟩
abbrev main_v43 : Ref sig .tc := ⟨.hbm, 132, rfl⟩
abbrev main_v44 : Ref sig .tc := ⟨.hbm, 133, rfl⟩
abbrev main_v17 : Ref sig .tc := ⟨.smem, 0, rfl⟩
abbrev main_v15 : Ref sig .tc := ⟨.smem, 1, rfl⟩
abbrev main_v26 : Ref sig .tc := ⟨.smem, 2, rfl⟩
abbrev main_arg4 : Ref sig .tc := ⟨.smem, 3, rfl⟩
abbrev main_v40 : Ref sig .tc := ⟨.smem, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![640], ![false]⟩

abbrev pre0 : Pipeline.Prefetch sig := ⟨5, ![main_v17.idx, main_v15.idx, main_v26.idx, main_arg4.idx, main_v40.idx], fun | 0 => main_v17.names | 1 => main_v15.names | 2 => main_v26.names | 3 => main_arg4.names | 4 => main_v40.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v19 : Index := Scalar.indexCast arg0
  ![v19.toNat]
@[reducible] def k0_t1_loop (v22 : BitVec 32) : Scf.Loop 32 :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_16 : BitVec 32 := 1#32
  ⟨c0_i32_13, v50, c1_i32_16⟩

def k0_off2 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_18 : BitVec 32 := 32#32
  let v53 : BitVec 32 := Scalar.muli arg15 c32_i32_18
  let v54 : BitVec 32 := Scalar.addi v20 v53
  let c0_i32_19 : BitVec 32 := 0#32
  let v55 : BitVec 32 := Scalar.addi v54 c0_i32_19
  let v56 : Index := Scalar.indexCast v55
  ![v56.toNat]
def k0_off3 (v57 : BitVec 32) : Fin 2 → Nat :=
  let v58 : Index := Scalar.indexCast v57
  let c0_20 : Index := 0#32
  ![v58.toNat, 0]

def k0_chk2 (v57 : BitVec 32) : Prop :=
  (∀ a, (k0_off3 v57) a + S1x256.size a ≤ S4096x256.size a)
theorem k0_off3_inb : ∀ (v57 : BitVec 32) (k0_hw2 : k0_chk2 v57), ∀ a, (k0_off3 v57) a + S1x256.size a ≤ S4096x256.size a := fun v57 k0_hw2 => k0_hw2

def k0_off4 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_23 : BitVec 32 := 32#32
  let v63 : BitVec 32 := Scalar.muli arg15 c32_i32_23
  let v64 : BitVec 32 := Scalar.addi v20 v63
  let c1_i32_24 : BitVec 32 := 1#32
  let v65 : BitVec 32 := Scalar.addi v64 c1_i32_24
  let v66 : Index := Scalar.indexCast v65
  ![v66.toNat]
def k0_off5 (v67 : BitVec 32) : Fin 2 → Nat :=
  let v68 : Index := Scalar.indexCast v67
  let c0_25 : Index := 0#32
  ![v68.toNat, 0]

def k0_chk3 (v67 : BitVec 32) : Prop :=
  (∀ a, (k0_off5 v67) a + S1x256.size a ≤ S4096x256.size a)
theorem k0_off5_inb : ∀ (v67 : BitVec 32) (k0_hw3 : k0_chk3 v67), ∀ a, (k0_off5 v67) a + S1x256.size a ≤ S4096x256.size a := fun v67 k0_hw3 => k0_hw3

def k0_off6 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_27 : BitVec 32 := 32#32
  let v73 : BitVec 32 := Scalar.muli arg15 c32_i32_27
  let v74 : BitVec 32 := Scalar.addi v20 v73
  let c2_i32 : BitVec 32 := 2#32
  let v75 : BitVec 32 := Scalar.addi v74 c2_i32
  let v76 : Index := Scalar.indexCast v75
  ![v76.toNat]
def k0_off7 (v77 : BitVec 32) : Fin 2 → Nat :=
  let v78 : Index := Scalar.indexCast v77
  let c0_28 : Index := 0#32
  ![v78.toNat, 0]

def k0_chk4 (v77 : BitVec 32) : Prop :=
  (∀ a, (k0_off7 v77) a + S1x256.size a ≤ S4096x256.size a)
theorem k0_off7_inb : ∀ (v77 : BitVec 32) (k0_hw4 : k0_chk4 v77), ∀ a, (k0_off7 v77) a + S1x256.size a ≤ S4096x256.size a := fun v77 k0_hw4 => k0_hw4

def k0_off8 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_30 : BitVec 32 := 32#32
  let v83 : BitVec 32 := Scalar.muli arg15 c32_i32_30
  let v84 : BitVec 32 := Scalar.addi v20 v83
  let c3_i32 : BitVec 32 := 3#32
  let v85 : BitVec 32 := Scalar.addi v84 c3_i32
  let v86 : Index := Scalar.indexCast v85
  ![v86.toNat]
def k0_off9 (v87 : BitVec 32) : Fin 2 → Nat :=
  let v88 : Index := Scalar.indexCast v87
  let c0_31 : Index := 0#32
  ![v88.toNat, 0]

def k0_chk5 (v87 : BitVec 32) : Prop :=
  (∀ a, (k0_off9 v87) a + S1x256.size a ≤ S4096x256.size a)
theorem k0_off9_inb : ∀ (v87 : BitVec 32) (k0_hw5 : k0_chk5 v87), ∀ a, (k0_off9 v87) a + S1x256.size a ≤ S4096x256.size a := fun v87 k0_hw5 => k0_hw5

def k0_off10 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_33 : BitVec 32 := 32#32
  let v93 : BitVec 32 := Scalar.muli arg15 c32_i32_33
  let v94 : BitVec 32 := Scalar.addi v20 v93
  let c4_i32_34 : BitVec 32 := 4#32
  let v95 : BitVec 32 := Scalar.addi v94 c4_i32_34
  let v96 : Index := Scalar.indexCast v95
  ![v96.toNat]
def k0_off11 (v97 : BitVec 32) : Fin 2 → Nat :=
  let v98 : Index := Scalar.indexCast v97
  let c0_35 : Index := 0#32
  ![v98.toNat, 0]

def k0_chk6 (v97 : BitVec 32) : Prop :=
  (∀ a, (k0_off11 v97) a + S1x256.size a ≤ S4096x256.size a)
theorem k0_off11_inb : ∀ (v97 : BitVec 32) (k0_hw6 : k0_chk6 v97), ∀ a, (k0_off11 v97) a + S1x256.size a ≤ S4096x256.size a := fun v97 k0_hw6 => k0_hw6

def k0_off12 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_37 : BitVec 32 := 32#32
  let v103 : BitVec 32 := Scalar.muli arg15 c32_i32_37
  let v104 : BitVec 32 := Scalar.addi v20 v103
  let c5_i32 : BitVec 32 := 5#32
  let v105 : BitVec 32 := Scalar.addi v104 c5_i32
  let v106 : Index := Scalar.indexCast v105
  ![v106.toNat]
def k0_off13 (v107 : BitVec 32) : Fin 2 → Nat :=
  let v108 : Index := Scalar.indexCast v107
  let c0_38 : Index := 0#32
  ![v108.toNat, 0]

def k0_chk7 (v107 : BitVec 32) : Prop :=
  (∀ a, (k0_off13 v107) a + S1x256.size a ≤ S4096x256.size a)
theorem k0_off13_inb : ∀ (v107 : BitVec 32) (k0_hw7 : k0_chk7 v107), ∀ a, (k0_off13 v107) a + S1x256.size a ≤ S4096x256.size a := fun v107 k0_hw7 => k0_hw7

def k0_off14 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_40 : BitVec 32 := 32#32
  let v113 : BitVec 32 := Scalar.muli arg15 c32_i32_40
  let v114 : BitVec 32 := Scalar.addi v20 v113
  let c6_i32 : BitVec 32 := 6#32
  let v115 : BitVec 32 := Scalar.addi v114 c6_i32
  let v116 : Index := Scalar.indexCast v115
  ![v116.toNat]
def k0_off15 (v117 : BitVec 32) : Fin 2 → Nat :=
  let v118 : Index := Scalar.indexCast v117
  let c0_41 : Index := 0#32
  ![v118.toNat, 0]

def k0_chk8 (v117 : BitVec 32) : Prop :=
  (∀ a, (k0_off15 v117) a + S1x256.size a ≤ S4096x256.size a)
theorem k0_off15_inb : ∀ (v117 : BitVec 32) (k0_hw8 : k0_chk8 v117), ∀ a, (k0_off15 v117) a + S1x256.size a ≤ S4096x256.size a := fun v117 k0_hw8 => k0_hw8

def k0_off16 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_43 : BitVec 32 := 32#32
  let v123 : BitVec 32 := Scalar.muli arg15 c32_i32_43
  let v124 : BitVec 32 := Scalar.addi v20 v123
  let c7_i32 : BitVec 32 := 7#32
  let v125 : BitVec 32 := Scalar.addi v124 c7_i32
  let v126 : Index := Scalar.indexCast v125
  ![v126.toNat]
def k0_off17 (v127 : BitVec 32) : Fin 2 → Nat :=
  let v128 : Index := Scalar.indexCast v127
  let c0_44 : Index := 0#32
  ![v128.toNat, 0]

def k0_chk9 (v127 : BitVec 32) : Prop :=
  (∀ a, (k0_off17 v127) a + S1x256.size a ≤ S4096x256.size a)
theorem k0_off17_inb : ∀ (v127 : BitVec 32) (k0_hw9 : k0_chk9 v127), ∀ a, (k0_off17 v127) a + S1x256.size a ≤ S4096x256.size a := fun v127 k0_hw9 => k0_hw9

def k0_off18 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_46 : BitVec 32 := 32#32
  let v133 : BitVec 32 := Scalar.muli arg15 c32_i32_46
  let v134 : BitVec 32 := Scalar.addi v20 v133
  let c8_i32 : BitVec 32 := 8#32
  let v135 : BitVec 32 := Scalar.addi v134 c8_i32
  let v136 : Index := Scalar.indexCast v135
  ![v136.toNat]
def k0_off19 (v137 : BitVec 32) : Fin 2 → Nat :=
  let v138 : Index := Scalar.indexCast v137
  let c0_47 : Index := 0#32
  ![v138.toNat, 0]

def k0_chk10 (v137 : BitVec 32) : Prop :=
  (∀ a, (k0_off19 v137) a + S1x256.size a ≤ S4096x256.size a)
theorem k0_off19_inb : ∀ (v137 : BitVec 32) (k0_hw10 : k0_chk10 v137), ∀ a, (k0_off19 v137) a + S1x256.size a ≤ S4096x256.size a := fun v137 k0_hw10 => k0_hw10

def k0_off20 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_49 : BitVec 32 := 32#32
  let v143 : BitVec 32 := Scalar.muli arg15 c32_i32_49
  let v144 : BitVec 32 := Scalar.addi v20 v143
  let c9_i32 : BitVec 32 := 9#32
  let v145 : BitVec 32 := Scalar.addi v144 c9_i32
  let v146 : Index := Scalar.indexCast v145
  ![v146.toNat]
def k0_off21 (v147 : BitVec 32) : Fin 2 → Nat :=
  let v148 : Index := Scalar.indexCast v147
  let c0_50 : Index := 0#32
  ![v148.toNat, 0]

def k0_chk11 (v147 : BitVec 32) : Prop :=
  (∀ a, (k0_off21 v147) a + S1x256.size a ≤ S4096x256.size a)
theorem k0_off21_inb : ∀ (v147 : BitVec 32) (k0_hw11 : k0_chk11 v147), ∀ a, (k0_off21 v147) a + S1x256.size a ≤ S4096x256.size a := fun v147 k0_hw11 => k0_hw11

def k0_off22 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_52 : BitVec 32 := 32#32
  let v153 : BitVec 32 := Scalar.muli arg15 c32_i32_52
  let v154 : BitVec 32 := Scalar.addi v20 v153
  let c10_i32 : BitVec 32 := 10#32
  let v155 : BitVec 32 := Scalar.addi v154 c10_i32
  let v156 : Index := Scalar.indexCast v155
  ![v156.toNat]
def k0_off23 (v157 : BitVec 32) : Fin 2 → Nat :=
  let v158 : Index := Scalar.indexCast v157
  let c0_53 : Index := 0#32
  ![v158.toNat, 0]

def k0_chk12 (v157 : BitVec 32) : Prop :=
  (∀ a, (k0_off23 v157) a + S1x256.size a ≤ S4096x256.size a)
theorem k0_off23_inb : ∀ (v157 : BitVec 32) (k0_hw12 : k0_chk12 v157), ∀ a, (k0_off23 v157) a + S1x256.size a ≤ S4096x256.size a := fun v157 k0_hw12 => k0_hw12

def k0_off24 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_55 : BitVec 32 := 32#32
  let v163 : BitVec 32 := Scalar.muli arg15 c32_i32_55
  let v164 : BitVec 32 := Scalar.addi v20 v163
  let c11_i32 : BitVec 32 := 11#32
  let v165 : BitVec 32 := Scalar.addi v164 c11_i32
  let v166 : Index := Scalar.indexCast v165
  ![v166.toNat]
def k0_off25 (v167 : BitVec 32) : Fin 2 → Nat :=
  let v168 : Index := Scalar.indexCast v167
  let c0_56 : Index := 0#32
  ![v168.toNat, 0]

def k0_chk13 (v167 : BitVec 32) : Prop :=
  (∀ a, (k0_off25 v167) a + S1x256.size a ≤ S4096x256.size a)
theorem k0_off25_inb : ∀ (v167 : BitVec 32) (k0_hw13 : k0_chk13 v167), ∀ a, (k0_off25 v167) a + S1x256.size a ≤ S4096x256.size a := fun v167 k0_hw13 => k0_hw13

def k0_off26 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_58 : BitVec 32 := 32#32
  let v173 : BitVec 32 := Scalar.muli arg15 c32_i32_58
  let v174 : BitVec 32 := Scalar.addi v20 v173
  let c12_i32 : BitVec 32 := 12#32
  let v175 : BitVec 32 := Scalar.addi v174 c12_i32
  let v176 : Index := Scalar.indexCast v175
  ![v176.toNat]
def k0_off27 (v177 : BitVec 32) : Fin 2 → Nat :=
  let v178 : Index := Scalar.indexCast v177
  let c0_59 : Index := 0#32
  ![v178.toNat, 0]

def k0_chk14 (v177 : BitVec 32) : Prop :=
  (∀ a, (k0_off27 v177) a + S1x256.size a ≤ S4096x256.size a)
theorem k0_off27_inb : ∀ (v177 : BitVec 32) (k0_hw14 : k0_chk14 v177), ∀ a, (k0_off27 v177) a + S1x256.size a ≤ S4096x256.size a := fun v177 k0_hw14 => k0_hw14

def k0_off28 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_61 : BitVec 32 := 32#32
  let v183 : BitVec 32 := Scalar.muli arg15 c32_i32_61
  let v184 : BitVec 32 := Scalar.addi v20 v183
  let c13_i32 : BitVec 32 := 13#32
  let v185 : BitVec 32 := Scalar.addi v184 c13_i32
  let v186 : Index := Scalar.indexCast v185
  ![v186.toNat]
def k0_off29 (v187 : BitVec 32) : Fin 2 → Nat :=
  let v188 : Index := Scalar.indexCast v187
  let c0_62 : Index := 0#32
  ![v188.toNat, 0]

def k0_chk15 (v187 : BitVec 32) : Prop :=
  (∀ a, (k0_off29 v187) a + S1x256.size a ≤ S4096x256.size a)
theorem k0_off29_inb : ∀ (v187 : BitVec 32) (k0_hw15 : k0_chk15 v187), ∀ a, (k0_off29 v187) a + S1x256.size a ≤ S4096x256.size a := fun v187 k0_hw15 => k0_hw15

def k0_off30 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_64 : BitVec 32 := 32#32
  let v193 : BitVec 32 := Scalar.muli arg15 c32_i32_64
  let v194 : BitVec 32 := Scalar.addi v20 v193
  let c14_i32 : BitVec 32 := 14#32
  let v195 : BitVec 32 := Scalar.addi v194 c14_i32
  let v196 : Index := Scalar.indexCast v195
  ![v196.toNat]
def k0_off31 (v197 : BitVec 32) : Fin 2 → Nat :=
  let v198 : Index := Scalar.indexCast v197
  let c0_65 : Index := 0#32
  ![v198.toNat, 0]

def k0_chk16 (v197 : BitVec 32) : Prop :=
  (∀ a, (k0_off31 v197) a + S1x256.size a ≤ S4096x256.size a)
theorem k0_off31_inb : ∀ (v197 : BitVec 32) (k0_hw16 : k0_chk16 v197), ∀ a, (k0_off31 v197) a + S1x256.size a ≤ S4096x256.size a := fun v197 k0_hw16 => k0_hw16

def k0_off32 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_67 : BitVec 32 := 32#32
  let v203 : BitVec 32 := Scalar.muli arg15 c32_i32_67
  let v204 : BitVec 32 := Scalar.addi v20 v203
  let c15_i32 : BitVec 32 := 15#32
  let v205 : BitVec 32 := Scalar.addi v204 c15_i32
  let v206 : Index := Scalar.indexCast v205
  ![v206.toNat]
def k0_off33 (v207 : BitVec 32) : Fin 2 → Nat :=
  let v208 : Index := Scalar.indexCast v207
  let c0_68 : Index := 0#32
  ![v208.toNat, 0]

def k0_chk17 (v207 : BitVec 32) : Prop :=
  (∀ a, (k0_off33 v207) a + S1x256.size a ≤ S4096x256.size a)
theorem k0_off33_inb : ∀ (v207 : BitVec 32) (k0_hw17 : k0_chk17 v207), ∀ a, (k0_off33 v207) a + S1x256.size a ≤ S4096x256.size a := fun v207 k0_hw17 => k0_hw17

def k0_off34 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_70 : BitVec 32 := 32#32
  let v213 : BitVec 32 := Scalar.muli arg15 c32_i32_70
  let v214 : BitVec 32 := Scalar.addi v20 v213
  let c16_i32 : BitVec 32 := 16#32
  let v215 : BitVec 32 := Scalar.addi v214 c16_i32
  let v216 : Index := Scalar.indexCast v215
  ![v216.toNat]
def k0_off35 (v217 : BitVec 32) : Fin 2 → Nat :=
  let v218 : Index := Scalar.indexCast v217
  let c0_71 : Index := 0#32
  ![v218.toNat, 0]

def k0_chk18 (v217 : BitVec 32) : Prop :=
  (∀ a, (k0_off35 v217) a + S1x256.size a ≤ S4096x256.size a)
theorem k0_off35_inb : ∀ (v217 : BitVec 32) (k0_hw18 : k0_chk18 v217), ∀ a, (k0_off35 v217) a + S1x256.size a ≤ S4096x256.size a := fun v217 k0_hw18 => k0_hw18

def k0_off36 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_73 : BitVec 32 := 32#32
  let v223 : BitVec 32 := Scalar.muli arg15 c32_i32_73
  let v224 : BitVec 32 := Scalar.addi v20 v223
  let c17_i32 : BitVec 32 := 17#32
  let v225 : BitVec 32 := Scalar.addi v224 c17_i32
  let v226 : Index := Scalar.indexCast v225
  ![v226.toNat]
def k0_off37 (v227 : BitVec 32) : Fin 2 → Nat :=
  let v228 : Index := Scalar.indexCast v227
  let c0_74 : Index := 0#32
  ![v228.toNat, 0]

def k0_chk19 (v227 : BitVec 32) : Prop :=
  (∀ a, (k0_off37 v227) a + S1x256.size a ≤ S4096x256.size a)
theorem k0_off37_inb : ∀ (v227 : BitVec 32) (k0_hw19 : k0_chk19 v227), ∀ a, (k0_off37 v227) a + S1x256.size a ≤ S4096x256.size a := fun v227 k0_hw19 => k0_hw19

def k0_off38 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_76 : BitVec 32 := 32#32
  let v233 : BitVec 32 := Scalar.muli arg15 c32_i32_76
  let v234 : BitVec 32 := Scalar.addi v20 v233
  let c18_i32 : BitVec 32 := 18#32
  let v235 : BitVec 32 := Scalar.addi v234 c18_i32
  let v236 : Index := Scalar.indexCast v235
  ![v236.toNat]
def k0_off39 (v237 : BitVec 32) : Fin 2 → Nat :=
  let v238 : Index := Scalar.indexCast v237
  let c0_77 : Index := 0#32
  ![v238.toNat, 0]

def k0_chk20 (v237 : BitVec 32) : Prop :=
  (∀ a, (k0_off39 v237) a + S1x256.size a ≤ S4096x256.size a)
theorem k0_off39_inb : ∀ (v237 : BitVec 32) (k0_hw20 : k0_chk20 v237), ∀ a, (k0_off39 v237) a + S1x256.size a ≤ S4096x256.size a := fun v237 k0_hw20 => k0_hw20

def k0_off40 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_79 : BitVec 32 := 32#32
  let v243 : BitVec 32 := Scalar.muli arg15 c32_i32_79
  let v244 : BitVec 32 := Scalar.addi v20 v243
  let c19_i32 : BitVec 32 := 19#32
  let v245 : BitVec 32 := Scalar.addi v244 c19_i32
  let v246 : Index := Scalar.indexCast v245
  ![v246.toNat]
def k0_off41 (v247 : BitVec 32) : Fin 2 → Nat :=
  let v248 : Index := Scalar.indexCast v247
  let c0_80 : Index := 0#32
  ![v248.toNat, 0]

def k0_chk21 (v247 : BitVec 32) : Prop :=
  (∀ a, (k0_off41 v247) a + S1x256.size a ≤ S4096x256.size a)
theorem k0_off41_inb : ∀ (v247 : BitVec 32) (k0_hw21 : k0_chk21 v247), ∀ a, (k0_off41 v247) a + S1x256.size a ≤ S4096x256.size a := fun v247 k0_hw21 => k0_hw21

def k0_off42 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_82 : BitVec 32 := 32#32
  let v253 : BitVec 32 := Scalar.muli arg15 c32_i32_82
  let v254 : BitVec 32 := Scalar.addi v20 v253
  let c20_i32 : BitVec 32 := 20#32
  let v255 : BitVec 32 := Scalar.addi v254 c20_i32
  let v256 : Index := Scalar.indexCast v255
  ![v256.toNat]
def k0_off43 (v257 : BitVec 32) : Fin 2 → Nat :=
  let v258 : Index := Scalar.indexCast v257
  let c0_83 : Index := 0#32
  ![v258.toNat, 0]

def k0_chk22 (v257 : BitVec 32) : Prop :=
  (∀ a, (k0_off43 v257) a + S1x256.size a ≤ S4096x256.size a)
theorem k0_off43_inb : ∀ (v257 : BitVec 32) (k0_hw22 : k0_chk22 v257), ∀ a, (k0_off43 v257) a + S1x256.size a ≤ S4096x256.size a := fun v257 k0_hw22 => k0_hw22

def k0_off44 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_85 : BitVec 32 := 32#32
  let v263 : BitVec 32 := Scalar.muli arg15 c32_i32_85
  let v264 : BitVec 32 := Scalar.addi v20 v263
  let c21_i32 : BitVec 32 := 21#32
  let v265 : BitVec 32 := Scalar.addi v264 c21_i32
  let v266 : Index := Scalar.indexCast v265
  ![v266.toNat]
def k0_off45 (v267 : BitVec 32) : Fin 2 → Nat :=
  let v268 : Index := Scalar.indexCast v267
  let c0_86 : Index := 0#32
  ![v268.toNat, 0]

def k0_chk23 (v267 : BitVec 32) : Prop :=
  (∀ a, (k0_off45 v267) a + S1x256.size a ≤ S4096x256.size a)
theorem k0_off45_inb : ∀ (v267 : BitVec 32) (k0_hw23 : k0_chk23 v267), ∀ a, (k0_off45 v267) a + S1x256.size a ≤ S4096x256.size a := fun v267 k0_hw23 => k0_hw23

def k0_off46 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_88 : BitVec 32 := 32#32
  let v273 : BitVec 32 := Scalar.muli arg15 c32_i32_88
  let v274 : BitVec 32 := Scalar.addi v20 v273
  let c22_i32 : BitVec 32 := 22#32
  let v275 : BitVec 32 := Scalar.addi v274 c22_i32
  let v276 : Index := Scalar.indexCast v275
  ![v276.toNat]
def k0_off47 (v277 : BitVec 32) : Fin 2 → Nat :=
  let v278 : Index := Scalar.indexCast v277
  let c0_89 : Index := 0#32
  ![v278.toNat, 0]

def k0_chk24 (v277 : BitVec 32) : Prop :=
  (∀ a, (k0_off47 v277) a + S1x256.size a ≤ S4096x256.size a)
theorem k0_off47_inb : ∀ (v277 : BitVec 32) (k0_hw24 : k0_chk24 v277), ∀ a, (k0_off47 v277) a + S1x256.size a ≤ S4096x256.size a := fun v277 k0_hw24 => k0_hw24

def k0_off48 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_91 : BitVec 32 := 32#32
  let v283 : BitVec 32 := Scalar.muli arg15 c32_i32_91
  let v284 : BitVec 32 := Scalar.addi v20 v283
  let c23_i32 : BitVec 32 := 23#32
  let v285 : BitVec 32 := Scalar.addi v284 c23_i32
  let v286 : Index := Scalar.indexCast v285
  ![v286.toNat]
def k0_off49 (v287 : BitVec 32) : Fin 2 → Nat :=
  let v288 : Index := Scalar.indexCast v287
  let c0_92 : Index := 0#32
  ![v288.toNat, 0]

def k0_chk25 (v287 : BitVec 32) : Prop :=
  (∀ a, (k0_off49 v287) a + S1x256.size a ≤ S4096x256.size a)
theorem k0_off49_inb : ∀ (v287 : BitVec 32) (k0_hw25 : k0_chk25 v287), ∀ a, (k0_off49 v287) a + S1x256.size a ≤ S4096x256.size a := fun v287 k0_hw25 => k0_hw25

def k0_off50 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_94 : BitVec 32 := 32#32
  let v293 : BitVec 32 := Scalar.muli arg15 c32_i32_94
  let v294 : BitVec 32 := Scalar.addi v20 v293
  let c24_i32 : BitVec 32 := 24#32
  let v295 : BitVec 32 := Scalar.addi v294 c24_i32
  let v296 : Index := Scalar.indexCast v295
  ![v296.toNat]
def k0_off51 (v297 : BitVec 32) : Fin 2 → Nat :=
  let v298 : Index := Scalar.indexCast v297
  let c0_95 : Index := 0#32
  ![v298.toNat, 0]

def k0_chk26 (v297 : BitVec 32) : Prop :=
  (∀ a, (k0_off51 v297) a + S1x256.size a ≤ S4096x256.size a)
theorem k0_off51_inb : ∀ (v297 : BitVec 32) (k0_hw26 : k0_chk26 v297), ∀ a, (k0_off51 v297) a + S1x256.size a ≤ S4096x256.size a := fun v297 k0_hw26 => k0_hw26

def k0_off52 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_97 : BitVec 32 := 32#32
  let v303 : BitVec 32 := Scalar.muli arg15 c32_i32_97
  let v304 : BitVec 32 := Scalar.addi v20 v303
  let c25_i32 : BitVec 32 := 25#32
  let v305 : BitVec 32 := Scalar.addi v304 c25_i32
  let v306 : Index := Scalar.indexCast v305
  ![v306.toNat]
def k0_off53 (v307 : BitVec 32) : Fin 2 → Nat :=
  let v308 : Index := Scalar.indexCast v307
  let c0_98 : Index := 0#32
  ![v308.toNat, 0]

def k0_chk27 (v307 : BitVec 32) : Prop :=
  (∀ a, (k0_off53 v307) a + S1x256.size a ≤ S4096x256.size a)
theorem k0_off53_inb : ∀ (v307 : BitVec 32) (k0_hw27 : k0_chk27 v307), ∀ a, (k0_off53 v307) a + S1x256.size a ≤ S4096x256.size a := fun v307 k0_hw27 => k0_hw27

def k0_off54 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_100 : BitVec 32 := 32#32
  let v313 : BitVec 32 := Scalar.muli arg15 c32_i32_100
  let v314 : BitVec 32 := Scalar.addi v20 v313
  let c26_i32 : BitVec 32 := 26#32
  let v315 : BitVec 32 := Scalar.addi v314 c26_i32
  let v316 : Index := Scalar.indexCast v315
  ![v316.toNat]
def k0_off55 (v317 : BitVec 32) : Fin 2 → Nat :=
  let v318 : Index := Scalar.indexCast v317
  let c0_101 : Index := 0#32
  ![v318.toNat, 0]

def k0_chk28 (v317 : BitVec 32) : Prop :=
  (∀ a, (k0_off55 v317) a + S1x256.size a ≤ S4096x256.size a)
theorem k0_off55_inb : ∀ (v317 : BitVec 32) (k0_hw28 : k0_chk28 v317), ∀ a, (k0_off55 v317) a + S1x256.size a ≤ S4096x256.size a := fun v317 k0_hw28 => k0_hw28

def k0_off56 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_103 : BitVec 32 := 32#32
  let v323 : BitVec 32 := Scalar.muli arg15 c32_i32_103
  let v324 : BitVec 32 := Scalar.addi v20 v323
  let c27_i32 : BitVec 32 := 27#32
  let v325 : BitVec 32 := Scalar.addi v324 c27_i32
  let v326 : Index := Scalar.indexCast v325
  ![v326.toNat]
def k0_off57 (v327 : BitVec 32) : Fin 2 → Nat :=
  let v328 : Index := Scalar.indexCast v327
  let c0_104 : Index := 0#32
  ![v328.toNat, 0]

def k0_chk29 (v327 : BitVec 32) : Prop :=
  (∀ a, (k0_off57 v327) a + S1x256.size a ≤ S4096x256.size a)
theorem k0_off57_inb : ∀ (v327 : BitVec 32) (k0_hw29 : k0_chk29 v327), ∀ a, (k0_off57 v327) a + S1x256.size a ≤ S4096x256.size a := fun v327 k0_hw29 => k0_hw29

def k0_off58 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_106 : BitVec 32 := 32#32
  let v333 : BitVec 32 := Scalar.muli arg15 c32_i32_106
  let v334 : BitVec 32 := Scalar.addi v20 v333
  let c28_i32 : BitVec 32 := 28#32
  let v335 : BitVec 32 := Scalar.addi v334 c28_i32
  let v336 : Index := Scalar.indexCast v335
  ![v336.toNat]
def k0_off59 (v337 : BitVec 32) : Fin 2 → Nat :=
  let v338 : Index := Scalar.indexCast v337
  let c0_107 : Index := 0#32
  ![v338.toNat, 0]

def k0_chk30 (v337 : BitVec 32) : Prop :=
  (∀ a, (k0_off59 v337) a + S1x256.size a ≤ S4096x256.size a)
theorem k0_off59_inb : ∀ (v337 : BitVec 32) (k0_hw30 : k0_chk30 v337), ∀ a, (k0_off59 v337) a + S1x256.size a ≤ S4096x256.size a := fun v337 k0_hw30 => k0_hw30

def k0_off60 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_109 : BitVec 32 := 32#32
  let v343 : BitVec 32 := Scalar.muli arg15 c32_i32_109
  let v344 : BitVec 32 := Scalar.addi v20 v343
  let c29_i32 : BitVec 32 := 29#32
  let v345 : BitVec 32 := Scalar.addi v344 c29_i32
  let v346 : Index := Scalar.indexCast v345
  ![v346.toNat]
def k0_off61 (v347 : BitVec 32) : Fin 2 → Nat :=
  let v348 : Index := Scalar.indexCast v347
  let c0_110 : Index := 0#32
  ![v348.toNat, 0]

def k0_chk31 (v347 : BitVec 32) : Prop :=
  (∀ a, (k0_off61 v347) a + S1x256.size a ≤ S4096x256.size a)
theorem k0_off61_inb : ∀ (v347 : BitVec 32) (k0_hw31 : k0_chk31 v347), ∀ a, (k0_off61 v347) a + S1x256.size a ≤ S4096x256.size a := fun v347 k0_hw31 => k0_hw31

def k0_off62 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_112 : BitVec 32 := 32#32
  let v353 : BitVec 32 := Scalar.muli arg15 c32_i32_112
  let v354 : BitVec 32 := Scalar.addi v20 v353
  let c30_i32 : BitVec 32 := 30#32
  let v355 : BitVec 32 := Scalar.addi v354 c30_i32
  let v356 : Index := Scalar.indexCast v355
  ![v356.toNat]
def k0_off63 (v357 : BitVec 32) : Fin 2 → Nat :=
  let v358 : Index := Scalar.indexCast v357
  let c0_113 : Index := 0#32
  ![v358.toNat, 0]

def k0_chk32 (v357 : BitVec 32) : Prop :=
  (∀ a, (k0_off63 v357) a + S1x256.size a ≤ S4096x256.size a)
theorem k0_off63_inb : ∀ (v357 : BitVec 32) (k0_hw32 : k0_chk32 v357), ∀ a, (k0_off63 v357) a + S1x256.size a ≤ S4096x256.size a := fun v357 k0_hw32 => k0_hw32

def k0_off64 (v20 : BitVec 32) (v22 : BitVec 32) (k0_t1 : Fin (k0_t1_loop v22).trips) : Fin 1 → Nat :=
  let c0_i32_13 : BitVec 32 := 0#32
  let c1_i32_16 : BitVec 32 := 1#32
  let arg15 : BitVec 32 := Scf.iv c0_i32_13 c1_i32_16 k0_t1
  let c32_i32_115 : BitVec 32 := 32#32
  let v363 : BitVec 32 := Scalar.muli arg15 c32_i32_115
  let v364 : BitVec 32 := Scalar.addi v20 v363
  let c31_i32 : BitVec 32 := 31#32
  let v365 : BitVec 32 := Scalar.addi v364 c31_i32
  let v366 : Index := Scalar.indexCast v365
  ![v366.toNat]
def k0_off65 (v367 : BitVec 32) : Fin 2 → Nat :=
  let v368 : Index := Scalar.indexCast v367
  let c0_116 : Index := 0#32
  ![v368.toNat, 0]

def k0_chk33 (v367 : BitVec 32) : Prop :=
  (∀ a, (k0_off65 v367) a + S1x256.size a ≤ S4096x256.size a)
theorem k0_off65_inb : ∀ (v367 : BitVec 32) (k0_hw33 : k0_chk33 v367), ∀ a, (k0_off65 v367) a + S1x256.size a ≤ S4096x256.size a := fun v367 k0_hw33 => k0_hw33

def k0_mult1 (v22 : BitVec 32) (v24 : BitVec 32) (k0_t1 : Fin (k0_t1_loop v22).trips) : BitVec 32 :=
  let c0_i32_13 : BitVec 32 := 0#32
  let c1_i32_16 : BitVec 32 := 1#32
  let arg15 : BitVec 32 := Scf.iv c0_i32_13 c1_i32_16 k0_t1
  let c32_i32_132 : BitVec 32 := 32#32
  let v399 : BitVec 32 := Scalar.muli arg15 c32_i32_132
  let v400 : BitVec 32 := Scalar.addi v24 v399
  v400

def k0_off66 (v22 : BitVec 32) (v24 : BitVec 32) (k0_t1 : Fin (k0_t1_loop v22).trips) : Fin 2 → Nat :=
  let c0_i32_13 : BitVec 32 := 0#32
  let c1_i32_16 : BitVec 32 := 1#32
  let arg15 : BitVec 32 := Scf.iv c0_i32_13 c1_i32_16 k0_t1
  let c32_i32_132 : BitVec 32 := 32#32
  let v399 : BitVec 32 := Scalar.muli arg15 c32_i32_132
  let v400 : BitVec 32 := Scalar.addi v24 v399
  let v401 : BitVec 32 := v400
  let c0_i32_133 : BitVec 32 := 0#32
  ![v401.toNat, 0]
@[reducible] def k0_t2_loop (v22 : BitVec 32) : Scf.Loop 32 :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let v47 : BitVec 32 := Scalar.addi c0_i32_13 v46
  let c1_i32_17 : BitVec 32 := 1#32
  ⟨v50, v47, c1_i32_17⟩
def k0_off67 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_18 : BitVec 32 := 32#32
  let v53 : BitVec 32 := Scalar.muli arg15 c32_i32_18
  let v54 : BitVec 32 := Scalar.addi v20 v53
  let c0_i32_19 : BitVec 32 := 0#32
  let v55 : BitVec 32 := Scalar.addi v54 c0_i32_19
  let v56 : Index := Scalar.indexCast v55
  ![v56.toNat]
def k0_off68 (v57 : BitVec 32) : Fin 2 → Nat :=
  let v58 : Index := Scalar.indexCast v57
  let c0_20 : Index := 0#32
  ![v58.toNat, 0]

def k0_chk35 (v57 : BitVec 32) : Prop :=
  (∀ a, (k0_off68 v57) a + S1x256.size a ≤ S4096x256.size a)
theorem k0_off68_inb : ∀ (v57 : BitVec 32) (k0_hw35 : k0_chk35 v57), ∀ a, (k0_off68 v57) a + S1x256.size a ≤ S4096x256.size a := fun v57 k0_hw35 => k0_hw35

def k0_off69 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_23 : BitVec 32 := 32#32
  let v63 : BitVec 32 := Scalar.muli arg15 c32_i32_23
  let v64 : BitVec 32 := Scalar.addi v20 v63
  let c1_i32_24 : BitVec 32 := 1#32
  let v65 : BitVec 32 := Scalar.addi v64 c1_i32_24
  let v66 : Index := Scalar.indexCast v65
  ![v66.toNat]
def k0_off70 (v67 : BitVec 32) : Fin 2 → Nat :=
  let v68 : Index := Scalar.indexCast v67
  let c0_25 : Index := 0#32
  ![v68.toNat, 0]

def k0_chk36 (v67 : BitVec 32) : Prop :=
  (∀ a, (k0_off70 v67) a + S1x256.size a ≤ S4096x256.size a)
theorem k0_off70_inb : ∀ (v67 : BitVec 32) (k0_hw36 : k0_chk36 v67), ∀ a, (k0_off70 v67) a + S1x256.size a ≤ S4096x256.size a := fun v67 k0_hw36 => k0_hw36

def k0_off71 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_27 : BitVec 32 := 32#32
  let v73 : BitVec 32 := Scalar.muli arg15 c32_i32_27
  let v74 : BitVec 32 := Scalar.addi v20 v73
  let c2_i32 : BitVec 32 := 2#32
  let v75 : BitVec 32 := Scalar.addi v74 c2_i32
  let v76 : Index := Scalar.indexCast v75
  ![v76.toNat]
def k0_off72 (v77 : BitVec 32) : Fin 2 → Nat :=
  let v78 : Index := Scalar.indexCast v77
  let c0_28 : Index := 0#32
  ![v78.toNat, 0]

def k0_chk37 (v77 : BitVec 32) : Prop :=
  (∀ a, (k0_off72 v77) a + S1x256.size a ≤ S4096x256.size a)
theorem k0_off72_inb : ∀ (v77 : BitVec 32) (k0_hw37 : k0_chk37 v77), ∀ a, (k0_off72 v77) a + S1x256.size a ≤ S4096x256.size a := fun v77 k0_hw37 => k0_hw37

def k0_off73 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_30 : BitVec 32 := 32#32
  let v83 : BitVec 32 := Scalar.muli arg15 c32_i32_30
  let v84 : BitVec 32 := Scalar.addi v20 v83
  let c3_i32 : BitVec 32 := 3#32
  let v85 : BitVec 32 := Scalar.addi v84 c3_i32
  let v86 : Index := Scalar.indexCast v85
  ![v86.toNat]
def k0_off74 (v87 : BitVec 32) : Fin 2 → Nat :=
  let v88 : Index := Scalar.indexCast v87
  let c0_31 : Index := 0#32
  ![v88.toNat, 0]

def k0_chk38 (v87 : BitVec 32) : Prop :=
  (∀ a, (k0_off74 v87) a + S1x256.size a ≤ S4096x256.size a)
theorem k0_off74_inb : ∀ (v87 : BitVec 32) (k0_hw38 : k0_chk38 v87), ∀ a, (k0_off74 v87) a + S1x256.size a ≤ S4096x256.size a := fun v87 k0_hw38 => k0_hw38

def k0_off75 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_33 : BitVec 32 := 32#32
  let v93 : BitVec 32 := Scalar.muli arg15 c32_i32_33
  let v94 : BitVec 32 := Scalar.addi v20 v93
  let c4_i32_34 : BitVec 32 := 4#32
  let v95 : BitVec 32 := Scalar.addi v94 c4_i32_34
  let v96 : Index := Scalar.indexCast v95
  ![v96.toNat]
def k0_off76 (v97 : BitVec 32) : Fin 2 → Nat :=
  let v98 : Index := Scalar.indexCast v97
  let c0_35 : Index := 0#32
  ![v98.toNat, 0]

def k0_chk39 (v97 : BitVec 32) : Prop :=
  (∀ a, (k0_off76 v97) a + S1x256.size a ≤ S4096x256.size a)
theorem k0_off76_inb : ∀ (v97 : BitVec 32) (k0_hw39 : k0_chk39 v97), ∀ a, (k0_off76 v97) a + S1x256.size a ≤ S4096x256.size a := fun v97 k0_hw39 => k0_hw39

def k0_off77 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_37 : BitVec 32 := 32#32
  let v103 : BitVec 32 := Scalar.muli arg15 c32_i32_37
  let v104 : BitVec 32 := Scalar.addi v20 v103
  let c5_i32 : BitVec 32 := 5#32
  let v105 : BitVec 32 := Scalar.addi v104 c5_i32
  let v106 : Index := Scalar.indexCast v105
  ![v106.toNat]
def k0_off78 (v107 : BitVec 32) : Fin 2 → Nat :=
  let v108 : Index := Scalar.indexCast v107
  let c0_38 : Index := 0#32
  ![v108.toNat, 0]

def k0_chk40 (v107 : BitVec 32) : Prop :=
  (∀ a, (k0_off78 v107) a + S1x256.size a ≤ S4096x256.size a)
theorem k0_off78_inb : ∀ (v107 : BitVec 32) (k0_hw40 : k0_chk40 v107), ∀ a, (k0_off78 v107) a + S1x256.size a ≤ S4096x256.size a := fun v107 k0_hw40 => k0_hw40

def k0_off79 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_40 : BitVec 32 := 32#32
  let v113 : BitVec 32 := Scalar.muli arg15 c32_i32_40
  let v114 : BitVec 32 := Scalar.addi v20 v113
  let c6_i32 : BitVec 32 := 6#32
  let v115 : BitVec 32 := Scalar.addi v114 c6_i32
  let v116 : Index := Scalar.indexCast v115
  ![v116.toNat]
def k0_off80 (v117 : BitVec 32) : Fin 2 → Nat :=
  let v118 : Index := Scalar.indexCast v117
  let c0_41 : Index := 0#32
  ![v118.toNat, 0]

def k0_chk41 (v117 : BitVec 32) : Prop :=
  (∀ a, (k0_off80 v117) a + S1x256.size a ≤ S4096x256.size a)
theorem k0_off80_inb : ∀ (v117 : BitVec 32) (k0_hw41 : k0_chk41 v117), ∀ a, (k0_off80 v117) a + S1x256.size a ≤ S4096x256.size a := fun v117 k0_hw41 => k0_hw41

def k0_off81 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_43 : BitVec 32 := 32#32
  let v123 : BitVec 32 := Scalar.muli arg15 c32_i32_43
  let v124 : BitVec 32 := Scalar.addi v20 v123
  let c7_i32 : BitVec 32 := 7#32
  let v125 : BitVec 32 := Scalar.addi v124 c7_i32
  let v126 : Index := Scalar.indexCast v125
  ![v126.toNat]
def k0_off82 (v127 : BitVec 32) : Fin 2 → Nat :=
  let v128 : Index := Scalar.indexCast v127
  let c0_44 : Index := 0#32
  ![v128.toNat, 0]

def k0_chk42 (v127 : BitVec 32) : Prop :=
  (∀ a, (k0_off82 v127) a + S1x256.size a ≤ S4096x256.size a)
theorem k0_off82_inb : ∀ (v127 : BitVec 32) (k0_hw42 : k0_chk42 v127), ∀ a, (k0_off82 v127) a + S1x256.size a ≤ S4096x256.size a := fun v127 k0_hw42 => k0_hw42

def k0_off83 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_46 : BitVec 32 := 32#32
  let v133 : BitVec 32 := Scalar.muli arg15 c32_i32_46
  let v134 : BitVec 32 := Scalar.addi v20 v133
  let c8_i32 : BitVec 32 := 8#32
  let v135 : BitVec 32 := Scalar.addi v134 c8_i32
  let v136 : Index := Scalar.indexCast v135
  ![v136.toNat]
def k0_off84 (v137 : BitVec 32) : Fin 2 → Nat :=
  let v138 : Index := Scalar.indexCast v137
  let c0_47 : Index := 0#32
  ![v138.toNat, 0]

def k0_chk43 (v137 : BitVec 32) : Prop :=
  (∀ a, (k0_off84 v137) a + S1x256.size a ≤ S4096x256.size a)
theorem k0_off84_inb : ∀ (v137 : BitVec 32) (k0_hw43 : k0_chk43 v137), ∀ a, (k0_off84 v137) a + S1x256.size a ≤ S4096x256.size a := fun v137 k0_hw43 => k0_hw43

def k0_off85 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_49 : BitVec 32 := 32#32
  let v143 : BitVec 32 := Scalar.muli arg15 c32_i32_49
  let v144 : BitVec 32 := Scalar.addi v20 v143
  let c9_i32 : BitVec 32 := 9#32
  let v145 : BitVec 32 := Scalar.addi v144 c9_i32
  let v146 : Index := Scalar.indexCast v145
  ![v146.toNat]
def k0_off86 (v147 : BitVec 32) : Fin 2 → Nat :=
  let v148 : Index := Scalar.indexCast v147
  let c0_50 : Index := 0#32
  ![v148.toNat, 0]

def k0_chk44 (v147 : BitVec 32) : Prop :=
  (∀ a, (k0_off86 v147) a + S1x256.size a ≤ S4096x256.size a)
theorem k0_off86_inb : ∀ (v147 : BitVec 32) (k0_hw44 : k0_chk44 v147), ∀ a, (k0_off86 v147) a + S1x256.size a ≤ S4096x256.size a := fun v147 k0_hw44 => k0_hw44

def k0_off87 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_52 : BitVec 32 := 32#32
  let v153 : BitVec 32 := Scalar.muli arg15 c32_i32_52
  let v154 : BitVec 32 := Scalar.addi v20 v153
  let c10_i32 : BitVec 32 := 10#32
  let v155 : BitVec 32 := Scalar.addi v154 c10_i32
  let v156 : Index := Scalar.indexCast v155
  ![v156.toNat]
def k0_off88 (v157 : BitVec 32) : Fin 2 → Nat :=
  let v158 : Index := Scalar.indexCast v157
  let c0_53 : Index := 0#32
  ![v158.toNat, 0]

def k0_chk45 (v157 : BitVec 32) : Prop :=
  (∀ a, (k0_off88 v157) a + S1x256.size a ≤ S4096x256.size a)
theorem k0_off88_inb : ∀ (v157 : BitVec 32) (k0_hw45 : k0_chk45 v157), ∀ a, (k0_off88 v157) a + S1x256.size a ≤ S4096x256.size a := fun v157 k0_hw45 => k0_hw45

def k0_off89 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_55 : BitVec 32 := 32#32
  let v163 : BitVec 32 := Scalar.muli arg15 c32_i32_55
  let v164 : BitVec 32 := Scalar.addi v20 v163
  let c11_i32 : BitVec 32 := 11#32
  let v165 : BitVec 32 := Scalar.addi v164 c11_i32
  let v166 : Index := Scalar.indexCast v165
  ![v166.toNat]
def k0_off90 (v167 : BitVec 32) : Fin 2 → Nat :=
  let v168 : Index := Scalar.indexCast v167
  let c0_56 : Index := 0#32
  ![v168.toNat, 0]

def k0_chk46 (v167 : BitVec 32) : Prop :=
  (∀ a, (k0_off90 v167) a + S1x256.size a ≤ S4096x256.size a)
theorem k0_off90_inb : ∀ (v167 : BitVec 32) (k0_hw46 : k0_chk46 v167), ∀ a, (k0_off90 v167) a + S1x256.size a ≤ S4096x256.size a := fun v167 k0_hw46 => k0_hw46

def k0_off91 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_58 : BitVec 32 := 32#32
  let v173 : BitVec 32 := Scalar.muli arg15 c32_i32_58
  let v174 : BitVec 32 := Scalar.addi v20 v173
  let c12_i32 : BitVec 32 := 12#32
  let v175 : BitVec 32 := Scalar.addi v174 c12_i32
  let v176 : Index := Scalar.indexCast v175
  ![v176.toNat]
def k0_off92 (v177 : BitVec 32) : Fin 2 → Nat :=
  let v178 : Index := Scalar.indexCast v177
  let c0_59 : Index := 0#32
  ![v178.toNat, 0]

def k0_chk47 (v177 : BitVec 32) : Prop :=
  (∀ a, (k0_off92 v177) a + S1x256.size a ≤ S4096x256.size a)
theorem k0_off92_inb : ∀ (v177 : BitVec 32) (k0_hw47 : k0_chk47 v177), ∀ a, (k0_off92 v177) a + S1x256.size a ≤ S4096x256.size a := fun v177 k0_hw47 => k0_hw47

def k0_off93 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_61 : BitVec 32 := 32#32
  let v183 : BitVec 32 := Scalar.muli arg15 c32_i32_61
  let v184 : BitVec 32 := Scalar.addi v20 v183
  let c13_i32 : BitVec 32 := 13#32
  let v185 : BitVec 32 := Scalar.addi v184 c13_i32
  let v186 : Index := Scalar.indexCast v185
  ![v186.toNat]
def k0_off94 (v187 : BitVec 32) : Fin 2 → Nat :=
  let v188 : Index := Scalar.indexCast v187
  let c0_62 : Index := 0#32
  ![v188.toNat, 0]

def k0_chk48 (v187 : BitVec 32) : Prop :=
  (∀ a, (k0_off94 v187) a + S1x256.size a ≤ S4096x256.size a)
theorem k0_off94_inb : ∀ (v187 : BitVec 32) (k0_hw48 : k0_chk48 v187), ∀ a, (k0_off94 v187) a + S1x256.size a ≤ S4096x256.size a := fun v187 k0_hw48 => k0_hw48

def k0_off95 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_64 : BitVec 32 := 32#32
  let v193 : BitVec 32 := Scalar.muli arg15 c32_i32_64
  let v194 : BitVec 32 := Scalar.addi v20 v193
  let c14_i32 : BitVec 32 := 14#32
  let v195 : BitVec 32 := Scalar.addi v194 c14_i32
  let v196 : Index := Scalar.indexCast v195
  ![v196.toNat]
def k0_off96 (v197 : BitVec 32) : Fin 2 → Nat :=
  let v198 : Index := Scalar.indexCast v197
  let c0_65 : Index := 0#32
  ![v198.toNat, 0]

def k0_chk49 (v197 : BitVec 32) : Prop :=
  (∀ a, (k0_off96 v197) a + S1x256.size a ≤ S4096x256.size a)
theorem k0_off96_inb : ∀ (v197 : BitVec 32) (k0_hw49 : k0_chk49 v197), ∀ a, (k0_off96 v197) a + S1x256.size a ≤ S4096x256.size a := fun v197 k0_hw49 => k0_hw49

def k0_off97 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_67 : BitVec 32 := 32#32
  let v203 : BitVec 32 := Scalar.muli arg15 c32_i32_67
  let v204 : BitVec 32 := Scalar.addi v20 v203
  let c15_i32 : BitVec 32 := 15#32
  let v205 : BitVec 32 := Scalar.addi v204 c15_i32
  let v206 : Index := Scalar.indexCast v205
  ![v206.toNat]
def k0_off98 (v207 : BitVec 32) : Fin 2 → Nat :=
  let v208 : Index := Scalar.indexCast v207
  let c0_68 : Index := 0#32
  ![v208.toNat, 0]

def k0_chk50 (v207 : BitVec 32) : Prop :=
  (∀ a, (k0_off98 v207) a + S1x256.size a ≤ S4096x256.size a)
theorem k0_off98_inb : ∀ (v207 : BitVec 32) (k0_hw50 : k0_chk50 v207), ∀ a, (k0_off98 v207) a + S1x256.size a ≤ S4096x256.size a := fun v207 k0_hw50 => k0_hw50

def k0_off99 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_70 : BitVec 32 := 32#32
  let v213 : BitVec 32 := Scalar.muli arg15 c32_i32_70
  let v214 : BitVec 32 := Scalar.addi v20 v213
  let c16_i32 : BitVec 32 := 16#32
  let v215 : BitVec 32 := Scalar.addi v214 c16_i32
  let v216 : Index := Scalar.indexCast v215
  ![v216.toNat]
def k0_off100 (v217 : BitVec 32) : Fin 2 → Nat :=
  let v218 : Index := Scalar.indexCast v217
  let c0_71 : Index := 0#32
  ![v218.toNat, 0]

def k0_chk51 (v217 : BitVec 32) : Prop :=
  (∀ a, (k0_off100 v217) a + S1x256.size a ≤ S4096x256.size a)
theorem k0_off100_inb : ∀ (v217 : BitVec 32) (k0_hw51 : k0_chk51 v217), ∀ a, (k0_off100 v217) a + S1x256.size a ≤ S4096x256.size a := fun v217 k0_hw51 => k0_hw51

def k0_off101 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_73 : BitVec 32 := 32#32
  let v223 : BitVec 32 := Scalar.muli arg15 c32_i32_73
  let v224 : BitVec 32 := Scalar.addi v20 v223
  let c17_i32 : BitVec 32 := 17#32
  let v225 : BitVec 32 := Scalar.addi v224 c17_i32
  let v226 : Index := Scalar.indexCast v225
  ![v226.toNat]
def k0_off102 (v227 : BitVec 32) : Fin 2 → Nat :=
  let v228 : Index := Scalar.indexCast v227
  let c0_74 : Index := 0#32
  ![v228.toNat, 0]

def k0_chk52 (v227 : BitVec 32) : Prop :=
  (∀ a, (k0_off102 v227) a + S1x256.size a ≤ S4096x256.size a)
theorem k0_off102_inb : ∀ (v227 : BitVec 32) (k0_hw52 : k0_chk52 v227), ∀ a, (k0_off102 v227) a + S1x256.size a ≤ S4096x256.size a := fun v227 k0_hw52 => k0_hw52

def k0_off103 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_76 : BitVec 32 := 32#32
  let v233 : BitVec 32 := Scalar.muli arg15 c32_i32_76
  let v234 : BitVec 32 := Scalar.addi v20 v233
  let c18_i32 : BitVec 32 := 18#32
  let v235 : BitVec 32 := Scalar.addi v234 c18_i32
  let v236 : Index := Scalar.indexCast v235
  ![v236.toNat]
def k0_off104 (v237 : BitVec 32) : Fin 2 → Nat :=
  let v238 : Index := Scalar.indexCast v237
  let c0_77 : Index := 0#32
  ![v238.toNat, 0]

def k0_chk53 (v237 : BitVec 32) : Prop :=
  (∀ a, (k0_off104 v237) a + S1x256.size a ≤ S4096x256.size a)
theorem k0_off104_inb : ∀ (v237 : BitVec 32) (k0_hw53 : k0_chk53 v237), ∀ a, (k0_off104 v237) a + S1x256.size a ≤ S4096x256.size a := fun v237 k0_hw53 => k0_hw53

def k0_off105 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_79 : BitVec 32 := 32#32
  let v243 : BitVec 32 := Scalar.muli arg15 c32_i32_79
  let v244 : BitVec 32 := Scalar.addi v20 v243
  let c19_i32 : BitVec 32 := 19#32
  let v245 : BitVec 32 := Scalar.addi v244 c19_i32
  let v246 : Index := Scalar.indexCast v245
  ![v246.toNat]
def k0_off106 (v247 : BitVec 32) : Fin 2 → Nat :=
  let v248 : Index := Scalar.indexCast v247
  let c0_80 : Index := 0#32
  ![v248.toNat, 0]

def k0_chk54 (v247 : BitVec 32) : Prop :=
  (∀ a, (k0_off106 v247) a + S1x256.size a ≤ S4096x256.size a)
theorem k0_off106_inb : ∀ (v247 : BitVec 32) (k0_hw54 : k0_chk54 v247), ∀ a, (k0_off106 v247) a + S1x256.size a ≤ S4096x256.size a := fun v247 k0_hw54 => k0_hw54

def k0_off107 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_82 : BitVec 32 := 32#32
  let v253 : BitVec 32 := Scalar.muli arg15 c32_i32_82
  let v254 : BitVec 32 := Scalar.addi v20 v253
  let c20_i32 : BitVec 32 := 20#32
  let v255 : BitVec 32 := Scalar.addi v254 c20_i32
  let v256 : Index := Scalar.indexCast v255
  ![v256.toNat]
def k0_off108 (v257 : BitVec 32) : Fin 2 → Nat :=
  let v258 : Index := Scalar.indexCast v257
  let c0_83 : Index := 0#32
  ![v258.toNat, 0]

def k0_chk55 (v257 : BitVec 32) : Prop :=
  (∀ a, (k0_off108 v257) a + S1x256.size a ≤ S4096x256.size a)
theorem k0_off108_inb : ∀ (v257 : BitVec 32) (k0_hw55 : k0_chk55 v257), ∀ a, (k0_off108 v257) a + S1x256.size a ≤ S4096x256.size a := fun v257 k0_hw55 => k0_hw55

def k0_off109 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_85 : BitVec 32 := 32#32
  let v263 : BitVec 32 := Scalar.muli arg15 c32_i32_85
  let v264 : BitVec 32 := Scalar.addi v20 v263
  let c21_i32 : BitVec 32 := 21#32
  let v265 : BitVec 32 := Scalar.addi v264 c21_i32
  let v266 : Index := Scalar.indexCast v265
  ![v266.toNat]
def k0_off110 (v267 : BitVec 32) : Fin 2 → Nat :=
  let v268 : Index := Scalar.indexCast v267
  let c0_86 : Index := 0#32
  ![v268.toNat, 0]

def k0_chk56 (v267 : BitVec 32) : Prop :=
  (∀ a, (k0_off110 v267) a + S1x256.size a ≤ S4096x256.size a)
theorem k0_off110_inb : ∀ (v267 : BitVec 32) (k0_hw56 : k0_chk56 v267), ∀ a, (k0_off110 v267) a + S1x256.size a ≤ S4096x256.size a := fun v267 k0_hw56 => k0_hw56

def k0_off111 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_88 : BitVec 32 := 32#32
  let v273 : BitVec 32 := Scalar.muli arg15 c32_i32_88
  let v274 : BitVec 32 := Scalar.addi v20 v273
  let c22_i32 : BitVec 32 := 22#32
  let v275 : BitVec 32 := Scalar.addi v274 c22_i32
  let v276 : Index := Scalar.indexCast v275
  ![v276.toNat]
def k0_off112 (v277 : BitVec 32) : Fin 2 → Nat :=
  let v278 : Index := Scalar.indexCast v277
  let c0_89 : Index := 0#32
  ![v278.toNat, 0]

def k0_chk57 (v277 : BitVec 32) : Prop :=
  (∀ a, (k0_off112 v277) a + S1x256.size a ≤ S4096x256.size a)
theorem k0_off112_inb : ∀ (v277 : BitVec 32) (k0_hw57 : k0_chk57 v277), ∀ a, (k0_off112 v277) a + S1x256.size a ≤ S4096x256.size a := fun v277 k0_hw57 => k0_hw57

def k0_off113 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_91 : BitVec 32 := 32#32
  let v283 : BitVec 32 := Scalar.muli arg15 c32_i32_91
  let v284 : BitVec 32 := Scalar.addi v20 v283
  let c23_i32 : BitVec 32 := 23#32
  let v285 : BitVec 32 := Scalar.addi v284 c23_i32
  let v286 : Index := Scalar.indexCast v285
  ![v286.toNat]
def k0_off114 (v287 : BitVec 32) : Fin 2 → Nat :=
  let v288 : Index := Scalar.indexCast v287
  let c0_92 : Index := 0#32
  ![v288.toNat, 0]

def k0_chk58 (v287 : BitVec 32) : Prop :=
  (∀ a, (k0_off114 v287) a + S1x256.size a ≤ S4096x256.size a)
theorem k0_off114_inb : ∀ (v287 : BitVec 32) (k0_hw58 : k0_chk58 v287), ∀ a, (k0_off114 v287) a + S1x256.size a ≤ S4096x256.size a := fun v287 k0_hw58 => k0_hw58

def k0_off115 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_94 : BitVec 32 := 32#32
  let v293 : BitVec 32 := Scalar.muli arg15 c32_i32_94
  let v294 : BitVec 32 := Scalar.addi v20 v293
  let c24_i32 : BitVec 32 := 24#32
  let v295 : BitVec 32 := Scalar.addi v294 c24_i32
  let v296 : Index := Scalar.indexCast v295
  ![v296.toNat]
def k0_off116 (v297 : BitVec 32) : Fin 2 → Nat :=
  let v298 : Index := Scalar.indexCast v297
  let c0_95 : Index := 0#32
  ![v298.toNat, 0]

def k0_chk59 (v297 : BitVec 32) : Prop :=
  (∀ a, (k0_off116 v297) a + S1x256.size a ≤ S4096x256.size a)
theorem k0_off116_inb : ∀ (v297 : BitVec 32) (k0_hw59 : k0_chk59 v297), ∀ a, (k0_off116 v297) a + S1x256.size a ≤ S4096x256.size a := fun v297 k0_hw59 => k0_hw59

def k0_off117 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_97 : BitVec 32 := 32#32
  let v303 : BitVec 32 := Scalar.muli arg15 c32_i32_97
  let v304 : BitVec 32 := Scalar.addi v20 v303
  let c25_i32 : BitVec 32 := 25#32
  let v305 : BitVec 32 := Scalar.addi v304 c25_i32
  let v306 : Index := Scalar.indexCast v305
  ![v306.toNat]
def k0_off118 (v307 : BitVec 32) : Fin 2 → Nat :=
  let v308 : Index := Scalar.indexCast v307
  let c0_98 : Index := 0#32
  ![v308.toNat, 0]

def k0_chk60 (v307 : BitVec 32) : Prop :=
  (∀ a, (k0_off118 v307) a + S1x256.size a ≤ S4096x256.size a)
theorem k0_off118_inb : ∀ (v307 : BitVec 32) (k0_hw60 : k0_chk60 v307), ∀ a, (k0_off118 v307) a + S1x256.size a ≤ S4096x256.size a := fun v307 k0_hw60 => k0_hw60

def k0_off119 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_100 : BitVec 32 := 32#32
  let v313 : BitVec 32 := Scalar.muli arg15 c32_i32_100
  let v314 : BitVec 32 := Scalar.addi v20 v313
  let c26_i32 : BitVec 32 := 26#32
  let v315 : BitVec 32 := Scalar.addi v314 c26_i32
  let v316 : Index := Scalar.indexCast v315
  ![v316.toNat]
def k0_off120 (v317 : BitVec 32) : Fin 2 → Nat :=
  let v318 : Index := Scalar.indexCast v317
  let c0_101 : Index := 0#32
  ![v318.toNat, 0]

def k0_chk61 (v317 : BitVec 32) : Prop :=
  (∀ a, (k0_off120 v317) a + S1x256.size a ≤ S4096x256.size a)
theorem k0_off120_inb : ∀ (v317 : BitVec 32) (k0_hw61 : k0_chk61 v317), ∀ a, (k0_off120 v317) a + S1x256.size a ≤ S4096x256.size a := fun v317 k0_hw61 => k0_hw61

def k0_off121 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_103 : BitVec 32 := 32#32
  let v323 : BitVec 32 := Scalar.muli arg15 c32_i32_103
  let v324 : BitVec 32 := Scalar.addi v20 v323
  let c27_i32 : BitVec 32 := 27#32
  let v325 : BitVec 32 := Scalar.addi v324 c27_i32
  let v326 : Index := Scalar.indexCast v325
  ![v326.toNat]
def k0_off122 (v327 : BitVec 32) : Fin 2 → Nat :=
  let v328 : Index := Scalar.indexCast v327
  let c0_104 : Index := 0#32
  ![v328.toNat, 0]

def k0_chk62 (v327 : BitVec 32) : Prop :=
  (∀ a, (k0_off122 v327) a + S1x256.size a ≤ S4096x256.size a)
theorem k0_off122_inb : ∀ (v327 : BitVec 32) (k0_hw62 : k0_chk62 v327), ∀ a, (k0_off122 v327) a + S1x256.size a ≤ S4096x256.size a := fun v327 k0_hw62 => k0_hw62

def k0_off123 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_106 : BitVec 32 := 32#32
  let v333 : BitVec 32 := Scalar.muli arg15 c32_i32_106
  let v334 : BitVec 32 := Scalar.addi v20 v333
  let c28_i32 : BitVec 32 := 28#32
  let v335 : BitVec 32 := Scalar.addi v334 c28_i32
  let v336 : Index := Scalar.indexCast v335
  ![v336.toNat]
def k0_off124 (v337 : BitVec 32) : Fin 2 → Nat :=
  let v338 : Index := Scalar.indexCast v337
  let c0_107 : Index := 0#32
  ![v338.toNat, 0]

def k0_chk63 (v337 : BitVec 32) : Prop :=
  (∀ a, (k0_off124 v337) a + S1x256.size a ≤ S4096x256.size a)
theorem k0_off124_inb : ∀ (v337 : BitVec 32) (k0_hw63 : k0_chk63 v337), ∀ a, (k0_off124 v337) a + S1x256.size a ≤ S4096x256.size a := fun v337 k0_hw63 => k0_hw63

def k0_off125 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_109 : BitVec 32 := 32#32
  let v343 : BitVec 32 := Scalar.muli arg15 c32_i32_109
  let v344 : BitVec 32 := Scalar.addi v20 v343
  let c29_i32 : BitVec 32 := 29#32
  let v345 : BitVec 32 := Scalar.addi v344 c29_i32
  let v346 : Index := Scalar.indexCast v345
  ![v346.toNat]
def k0_off126 (v347 : BitVec 32) : Fin 2 → Nat :=
  let v348 : Index := Scalar.indexCast v347
  let c0_110 : Index := 0#32
  ![v348.toNat, 0]

def k0_chk64 (v347 : BitVec 32) : Prop :=
  (∀ a, (k0_off126 v347) a + S1x256.size a ≤ S4096x256.size a)
theorem k0_off126_inb : ∀ (v347 : BitVec 32) (k0_hw64 : k0_chk64 v347), ∀ a, (k0_off126 v347) a + S1x256.size a ≤ S4096x256.size a := fun v347 k0_hw64 => k0_hw64

def k0_off127 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_112 : BitVec 32 := 32#32
  let v353 : BitVec 32 := Scalar.muli arg15 c32_i32_112
  let v354 : BitVec 32 := Scalar.addi v20 v353
  let c30_i32 : BitVec 32 := 30#32
  let v355 : BitVec 32 := Scalar.addi v354 c30_i32
  let v356 : Index := Scalar.indexCast v355
  ![v356.toNat]
def k0_off128 (v357 : BitVec 32) : Fin 2 → Nat :=
  let v358 : Index := Scalar.indexCast v357
  let c0_113 : Index := 0#32
  ![v358.toNat, 0]

def k0_chk65 (v357 : BitVec 32) : Prop :=
  (∀ a, (k0_off128 v357) a + S1x256.size a ≤ S4096x256.size a)
theorem k0_off128_inb : ∀ (v357 : BitVec 32) (k0_hw65 : k0_chk65 v357), ∀ a, (k0_off128 v357) a + S1x256.size a ≤ S4096x256.size a := fun v357 k0_hw65 => k0_hw65

def k0_off129 (v20 : BitVec 32) (v22 : BitVec 32) (k0_t2 : Fin (k0_t2_loop v22).trips) : Fin 1 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_115 : BitVec 32 := 32#32
  let v363 : BitVec 32 := Scalar.muli arg15 c32_i32_115
  let v364 : BitVec 32 := Scalar.addi v20 v363
  let c31_i32 : BitVec 32 := 31#32
  let v365 : BitVec 32 := Scalar.addi v364 c31_i32
  let v366 : Index := Scalar.indexCast v365
  ![v366.toNat]

def k0_chk1_0 (v20 : BitVec 32) (v22 : BitVec 32) : Prop :=
  ((k0_t1_loop v22).OK) ∧
  (∀ k0_t1 : Fin (k0_t1_loop v22).trips, ∀ a, (k0_off2 v20 v22 k0_t1) a + S1.size a ≤ S16416.size a) ∧
  (∀ k0_t1 : Fin (k0_t1_loop v22).trips, ∀ a, (k0_off4 v20 v22 k0_t1) a + S1.size a ≤ S16416.size a) ∧
  (∀ k0_t1 : Fin (k0_t1_loop v22).trips, ∀ a, (k0_off6 v20 v22 k0_t1) a + S1.size a ≤ S16416.size a) ∧
  (∀ k0_t1 : Fin (k0_t1_loop v22).trips, ∀ a, (k0_off8 v20 v22 k0_t1) a + S1.size a ≤ S16416.size a) ∧
  (∀ k0_t1 : Fin (k0_t1_loop v22).trips, ∀ a, (k0_off10 v20 v22 k0_t1) a + S1.size a ≤ S16416.size a) ∧
  (∀ k0_t1 : Fin (k0_t1_loop v22).trips, ∀ a, (k0_off12 v20 v22 k0_t1) a + S1.size a ≤ S16416.size a) ∧
  (∀ k0_t1 : Fin (k0_t1_loop v22).trips, ∀ a, (k0_off14 v20 v22 k0_t1) a + S1.size a ≤ S16416.size a) ∧
  (∀ k0_t1 : Fin (k0_t1_loop v22).trips, ∀ a, (k0_off16 v20 v22 k0_t1) a + S1.size a ≤ S16416.size a) ∧
  (∀ k0_t1 : Fin (k0_t1_loop v22).trips, ∀ a, (k0_off18 v20 v22 k0_t1) a + S1.size a ≤ S16416.size a) ∧
  (∀ k0_t1 : Fin (k0_t1_loop v22).trips, ∀ a, (k0_off20 v20 v22 k0_t1) a + S1.size a ≤ S16416.size a) ∧
  (∀ k0_t1 : Fin (k0_t1_loop v22).trips, ∀ a, (k0_off22 v20 v22 k0_t1) a + S1.size a ≤ S16416.size a) ∧
  (∀ k0_t1 : Fin (k0_t1_loop v22).trips, ∀ a, (k0_off24 v20 v22 k0_t1) a + S1.size a ≤ S16416.size a) ∧
  (∀ k0_t1 : Fin (k0_t1_loop v22).trips, ∀ a, (k0_off26 v20 v22 k0_t1) a + S1.size a ≤ S16416.size a) ∧
  (∀ k0_t1 : Fin (k0_t1_loop v22).trips, ∀ a, (k0_off28 v20 v22 k0_t1) a + S1.size a ≤ S16416.size a) ∧
  (∀ k0_t1 : Fin (k0_t1_loop v22).trips, ∀ a, (k0_off30 v20 v22 k0_t1) a + S1.size a ≤ S16416.size a) ∧
  (∀ k0_t1 : Fin (k0_t1_loop v22).trips, ∀ a, (k0_off32 v20 v22 k0_t1) a + S1.size a ≤ S16416.size a) ∧
  (∀ k0_t1 : Fin (k0_t1_loop v22).trips, ∀ a, (k0_off34 v20 v22 k0_t1) a + S1.size a ≤ S16416.size a) ∧
  (∀ k0_t1 : Fin (k0_t1_loop v22).trips, ∀ a, (k0_off36 v20 v22 k0_t1) a + S1.size a ≤ S16416.size a) ∧
  (∀ k0_t1 : Fin (k0_t1_loop v22).trips, ∀ a, (k0_off38 v20 v22 k0_t1) a + S1.size a ≤ S16416.size a) ∧
  (∀ k0_t1 : Fin (k0_t1_loop v22).trips, ∀ a, (k0_off40 v20 v22 k0_t1) a + S1.size a ≤ S16416.size a) ∧
  (∀ k0_t1 : Fin (k0_t1_loop v22).trips, ∀ a, (k0_off42 v20 v22 k0_t1) a + S1.size a ≤ S16416.size a) ∧
  (∀ k0_t1 : Fin (k0_t1_loop v22).trips, ∀ a, (k0_off44 v20 v22 k0_t1) a + S1.size a ≤ S16416.size a) ∧
  (∀ k0_t1 : Fin (k0_t1_loop v22).trips, ∀ a, (k0_off46 v20 v22 k0_t1) a + S1.size a ≤ S16416.size a) ∧
  (∀ k0_t1 : Fin (k0_t1_loop v22).trips, ∀ a, (k0_off48 v20 v22 k0_t1) a + S1.size a ≤ S16416.size a) ∧
  (∀ k0_t1 : Fin (k0_t1_loop v22).trips, ∀ a, (k0_off50 v20 v22 k0_t1) a + S1.size a ≤ S16416.size a) ∧
  (∀ k0_t1 : Fin (k0_t1_loop v22).trips, ∀ a, (k0_off52 v20 v22 k0_t1) a + S1.size a ≤ S16416.size a) ∧
  (∀ k0_t1 : Fin (k0_t1_loop v22).trips, ∀ a, (k0_off54 v20 v22 k0_t1) a + S1.size a ≤ S16416.size a) ∧
  (∀ k0_t1 : Fin (k0_t1_loop v22).trips, ∀ a, (k0_off56 v20 v22 k0_t1) a + S1.size a ≤ S16416.size a) ∧
  (∀ k0_t1 : Fin (k0_t1_loop v22).trips, ∀ a, (k0_off58 v20 v22 k0_t1) a + S1.size a ≤ S16416.size a) ∧
  (∀ k0_t1 : Fin (k0_t1_loop v22).trips, ∀ a, (k0_off60 v20 v22 k0_t1) a + S1.size a ≤ S16416.size a) ∧
  (∀ k0_t1 : Fin (k0_t1_loop v22).trips, ∀ a, (k0_off62 v20 v22 k0_t1) a + S1.size a ≤ S16416.size a)
def k0_chk1_1 (v20 : BitVec 32) (v22 : BitVec 32) : Prop :=
  (∀ k0_t1 : Fin (k0_t1_loop v22).trips, ∀ a, (k0_off64 v20 v22 k0_t1) a + S1.size a ≤ S16416.size a) ∧
  ((k0_t2_loop v22).OK) ∧
  (∀ k0_t2 : Fin (k0_t2_loop v22).trips, ∀ a, (k0_off67 v20 v22 k0_t2) a + S1.size a ≤ S16416.size a) ∧
  (∀ k0_t2 : Fin (k0_t2_loop v22).trips, ∀ a, (k0_off69 v20 v22 k0_t2) a + S1.size a ≤ S16416.size a) ∧
  (∀ k0_t2 : Fin (k0_t2_loop v22).trips, ∀ a, (k0_off71 v20 v22 k0_t2) a + S1.size a ≤ S16416.size a) ∧
  (∀ k0_t2 : Fin (k0_t2_loop v22).trips, ∀ a, (k0_off73 v20 v22 k0_t2) a + S1.size a ≤ S16416.size a) ∧
  (∀ k0_t2 : Fin (k0_t2_loop v22).trips, ∀ a, (k0_off75 v20 v22 k0_t2) a + S1.size a ≤ S16416.size a) ∧
  (∀ k0_t2 : Fin (k0_t2_loop v22).trips, ∀ a, (k0_off77 v20 v22 k0_t2) a + S1.size a ≤ S16416.size a) ∧
  (∀ k0_t2 : Fin (k0_t2_loop v22).trips, ∀ a, (k0_off79 v20 v22 k0_t2) a + S1.size a ≤ S16416.size a) ∧
  (∀ k0_t2 : Fin (k0_t2_loop v22).trips, ∀ a, (k0_off81 v20 v22 k0_t2) a + S1.size a ≤ S16416.size a) ∧
  (∀ k0_t2 : Fin (k0_t2_loop v22).trips, ∀ a, (k0_off83 v20 v22 k0_t2) a + S1.size a ≤ S16416.size a) ∧
  (∀ k0_t2 : Fin (k0_t2_loop v22).trips, ∀ a, (k0_off85 v20 v22 k0_t2) a + S1.size a ≤ S16416.size a) ∧
  (∀ k0_t2 : Fin (k0_t2_loop v22).trips, ∀ a, (k0_off87 v20 v22 k0_t2) a + S1.size a ≤ S16416.size a) ∧
  (∀ k0_t2 : Fin (k0_t2_loop v22).trips, ∀ a, (k0_off89 v20 v22 k0_t2) a + S1.size a ≤ S16416.size a) ∧
  (∀ k0_t2 : Fin (k0_t2_loop v22).trips, ∀ a, (k0_off91 v20 v22 k0_t2) a + S1.size a ≤ S16416.size a) ∧
  (∀ k0_t2 : Fin (k0_t2_loop v22).trips, ∀ a, (k0_off93 v20 v22 k0_t2) a + S1.size a ≤ S16416.size a) ∧
  (∀ k0_t2 : Fin (k0_t2_loop v22).trips, ∀ a, (k0_off95 v20 v22 k0_t2) a + S1.size a ≤ S16416.size a) ∧
  (∀ k0_t2 : Fin (k0_t2_loop v22).trips, ∀ a, (k0_off97 v20 v22 k0_t2) a + S1.size a ≤ S16416.size a) ∧
  (∀ k0_t2 : Fin (k0_t2_loop v22).trips, ∀ a, (k0_off99 v20 v22 k0_t2) a + S1.size a ≤ S16416.size a) ∧
  (∀ k0_t2 : Fin (k0_t2_loop v22).trips, ∀ a, (k0_off101 v20 v22 k0_t2) a + S1.size a ≤ S16416.size a) ∧
  (∀ k0_t2 : Fin (k0_t2_loop v22).trips, ∀ a, (k0_off103 v20 v22 k0_t2) a + S1.size a ≤ S16416.size a) ∧
  (∀ k0_t2 : Fin (k0_t2_loop v22).trips, ∀ a, (k0_off105 v20 v22 k0_t2) a + S1.size a ≤ S16416.size a) ∧
  (∀ k0_t2 : Fin (k0_t2_loop v22).trips, ∀ a, (k0_off107 v20 v22 k0_t2) a + S1.size a ≤ S16416.size a) ∧
  (∀ k0_t2 : Fin (k0_t2_loop v22).trips, ∀ a, (k0_off109 v20 v22 k0_t2) a + S1.size a ≤ S16416.size a) ∧
  (∀ k0_t2 : Fin (k0_t2_loop v22).trips, ∀ a, (k0_off111 v20 v22 k0_t2) a + S1.size a ≤ S16416.size a) ∧
  (∀ k0_t2 : Fin (k0_t2_loop v22).trips, ∀ a, (k0_off113 v20 v22 k0_t2) a + S1.size a ≤ S16416.size a) ∧
  (∀ k0_t2 : Fin (k0_t2_loop v22).trips, ∀ a, (k0_off115 v20 v22 k0_t2) a + S1.size a ≤ S16416.size a) ∧
  (∀ k0_t2 : Fin (k0_t2_loop v22).trips, ∀ a, (k0_off117 v20 v22 k0_t2) a + S1.size a ≤ S16416.size a) ∧
  (∀ k0_t2 : Fin (k0_t2_loop v22).trips, ∀ a, (k0_off119 v20 v22 k0_t2) a + S1.size a ≤ S16416.size a) ∧
  (∀ k0_t2 : Fin (k0_t2_loop v22).trips, ∀ a, (k0_off121 v20 v22 k0_t2) a + S1.size a ≤ S16416.size a) ∧
  (∀ k0_t2 : Fin (k0_t2_loop v22).trips, ∀ a, (k0_off123 v20 v22 k0_t2) a + S1.size a ≤ S16416.size a) ∧
  (∀ k0_t2 : Fin (k0_t2_loop v22).trips, ∀ a, (k0_off125 v20 v22 k0_t2) a + S1.size a ≤ S16416.size a)
def k0_chk1_2 (v20 : BitVec 32) (v22 : BitVec 32) : Prop :=
  (∀ k0_t2 : Fin (k0_t2_loop v22).trips, ∀ a, (k0_off127 v20 v22 k0_t2) a + S1.size a ≤ S16416.size a) ∧
  (∀ k0_t2 : Fin (k0_t2_loop v22).trips, ∀ a, (k0_off129 v20 v22 k0_t2) a + S1.size a ≤ S16416.size a)
def k0_chk1 (v20 : BitVec 32) (v22 : BitVec 32) : Prop :=
  k0_chk1_0 v20 v22 ∧
  k0_chk1_1 v20 v22 ∧
  k0_chk1_2 v20 v22
theorem k0_t1_ok : ∀ (v20 : BitVec 32) (v22 : BitVec 32) (k0_hw1 : k0_chk1 v20 v22), (k0_t1_loop v22).OK := fun v20 v22 k0_hw1 => k0_hw1.1.1
theorem k0_off2_inb : ∀ (v20 : BitVec 32) (v22 : BitVec 32) (k0_hw1 : k0_chk1 v20 v22) (k0_t1 : Fin (k0_t1_loop v22).trips), ∀ a, (k0_off2 v20 v22 k0_t1) a + S1.size a ≤ S16416.size a := fun v20 v22 k0_hw1 k0_t1 => k0_hw1.1.2.1 k0_t1
theorem k0_off4_inb : ∀ (v20 : BitVec 32) (v22 : BitVec 32) (k0_hw1 : k0_chk1 v20 v22) (k0_t1 : Fin (k0_t1_loop v22).trips), ∀ a, (k0_off4 v20 v22 k0_t1) a + S1.size a ≤ S16416.size a := fun v20 v22 k0_hw1 k0_t1 => k0_hw1.1.2.2.1 k0_t1
theorem k0_off6_inb : ∀ (v20 : BitVec 32) (v22 : BitVec 32) (k0_hw1 : k0_chk1 v20 v22) (k0_t1 : Fin (k0_t1_loop v22).trips), ∀ a, (k0_off6 v20 v22 k0_t1) a + S1.size a ≤ S16416.size a := fun v20 v22 k0_hw1 k0_t1 => k0_hw1.1.2.2.2.1 k0_t1
theorem k0_off8_inb : ∀ (v20 : BitVec 32) (v22 : BitVec 32) (k0_hw1 : k0_chk1 v20 v22) (k0_t1 : Fin (k0_t1_loop v22).trips), ∀ a, (k0_off8 v20 v22 k0_t1) a + S1.size a ≤ S16416.size a := fun v20 v22 k0_hw1 k0_t1 => k0_hw1.1.2.2.2.2.1 k0_t1
theorem k0_off10_inb : ∀ (v20 : BitVec 32) (v22 : BitVec 32) (k0_hw1 : k0_chk1 v20 v22) (k0_t1 : Fin (k0_t1_loop v22).trips), ∀ a, (k0_off10 v20 v22 k0_t1) a + S1.size a ≤ S16416.size a := fun v20 v22 k0_hw1 k0_t1 => k0_hw1.1.2.2.2.2.2.1 k0_t1
theorem k0_off12_inb : ∀ (v20 : BitVec 32) (v22 : BitVec 32) (k0_hw1 : k0_chk1 v20 v22) (k0_t1 : Fin (k0_t1_loop v22).trips), ∀ a, (k0_off12 v20 v22 k0_t1) a + S1.size a ≤ S16416.size a := fun v20 v22 k0_hw1 k0_t1 => k0_hw1.1.2.2.2.2.2.2.1 k0_t1
theorem k0_off14_inb : ∀ (v20 : BitVec 32) (v22 : BitVec 32) (k0_hw1 : k0_chk1 v20 v22) (k0_t1 : Fin (k0_t1_loop v22).trips), ∀ a, (k0_off14 v20 v22 k0_t1) a + S1.size a ≤ S16416.size a := fun v20 v22 k0_hw1 k0_t1 => k0_hw1.1.2.2.2.2.2.2.2.1 k0_t1
theorem k0_off16_inb : ∀ (v20 : BitVec 32) (v22 : BitVec 32) (k0_hw1 : k0_chk1 v20 v22) (k0_t1 : Fin (k0_t1_loop v22).trips), ∀ a, (k0_off16 v20 v22 k0_t1) a + S1.size a ≤ S16416.size a := fun v20 v22 k0_hw1 k0_t1 => k0_hw1.1.2.2.2.2.2.2.2.2.1 k0_t1
theorem k0_off18_inb : ∀ (v20 : BitVec 32) (v22 : BitVec 32) (k0_hw1 : k0_chk1 v20 v22) (k0_t1 : Fin (k0_t1_loop v22).trips), ∀ a, (k0_off18 v20 v22 k0_t1) a + S1.size a ≤ S16416.size a := fun v20 v22 k0_hw1 k0_t1 => k0_hw1.1.2.2.2.2.2.2.2.2.2.1 k0_t1
theorem k0_off20_inb : ∀ (v20 : BitVec 32) (v22 : BitVec 32) (k0_hw1 : k0_chk1 v20 v22) (k0_t1 : Fin (k0_t1_loop v22).trips), ∀ a, (k0_off20 v20 v22 k0_t1) a + S1.size a ≤ S16416.size a := fun v20 v22 k0_hw1 k0_t1 => k0_hw1.1.2.2.2.2.2.2.2.2.2.2.1 k0_t1
theorem k0_off22_inb : ∀ (v20 : BitVec 32) (v22 : BitVec 32) (k0_hw1 : k0_chk1 v20 v22) (k0_t1 : Fin (k0_t1_loop v22).trips), ∀ a, (k0_off22 v20 v22 k0_t1) a + S1.size a ≤ S16416.size a := fun v20 v22 k0_hw1 k0_t1 => k0_hw1.1.2.2.2.2.2.2.2.2.2.2.2.1 k0_t1
theorem k0_off24_inb : ∀ (v20 : BitVec 32) (v22 : BitVec 32) (k0_hw1 : k0_chk1 v20 v22) (k0_t1 : Fin (k0_t1_loop v22).trips), ∀ a, (k0_off24 v20 v22 k0_t1) a + S1.size a ≤ S16416.size a := fun v20 v22 k0_hw1 k0_t1 => k0_hw1.1.2.2.2.2.2.2.2.2.2.2.2.2.1 k0_t1
theorem k0_off26_inb : ∀ (v20 : BitVec 32) (v22 : BitVec 32) (k0_hw1 : k0_chk1 v20 v22) (k0_t1 : Fin (k0_t1_loop v22).trips), ∀ a, (k0_off26 v20 v22 k0_t1) a + S1.size a ≤ S16416.size a := fun v20 v22 k0_hw1 k0_t1 => k0_hw1.1.2.2.2.2.2.2.2.2.2.2.2.2.2.1 k0_t1
theorem k0_off28_inb : ∀ (v20 : BitVec 32) (v22 : BitVec 32) (k0_hw1 : k0_chk1 v20 v22) (k0_t1 : Fin (k0_t1_loop v22).trips), ∀ a, (k0_off28 v20 v22 k0_t1) a + S1.size a ≤ S16416.size a := fun v20 v22 k0_hw1 k0_t1 => k0_hw1.1.2.2.2.2.2.2.2.2.2.2.2.2.2.2.1 k0_t1
theorem k0_off30_inb : ∀ (v20 : BitVec 32) (v22 : BitVec 32) (k0_hw1 : k0_chk1 v20 v22) (k0_t1 : Fin (k0_t1_loop v22).trips), ∀ a, (k0_off30 v20 v22 k0_t1) a + S1.size a ≤ S16416.size a := fun v20 v22 k0_hw1 k0_t1 => k0_hw1.1.2.2.2.2.2.2.2.2.2.2.2.2.2.2.2.1 k0_t1
theorem k0_off32_inb : ∀ (v20 : BitVec 32) (v22 : BitVec 32) (k0_hw1 : k0_chk1 v20 v22) (k0_t1 : Fin (k0_t1_loop v22).trips), ∀ a, (k0_off32 v20 v22 k0_t1) a + S1.size a ≤ S16416.size a := fun v20 v22 k0_hw1 k0_t1 => k0_hw1.1.2.2.2.2.2.2.2.2.2.2.2.2.2.2.2.2.1 k0_t1
theorem k0_off34_inb : ∀ (v20 : BitVec 32) (v22 : BitVec 32) (k0_hw1 : k0_chk1 v20 v22) (k0_t1 : Fin (k0_t1_loop v22).trips), ∀ a, (k0_off34 v20 v22 k0_t1) a + S1.size a ≤ S16416.size a := fun v20 v22 k0_hw1 k0_t1 => k0_hw1.1.2.2.2.2.2.2.2.2.2.2.2.2.2.2.2.2.2.1 k0_t1
theorem k0_off36_inb : ∀ (v20 : BitVec 32) (v22 : BitVec 32) (k0_hw1 : k0_chk1 v20 v22) (k0_t1 : Fin (k0_t1_loop v22).trips), ∀ a, (k0_off36 v20 v22 k0_t1) a + S1.size a ≤ S16416.size a := fun v20 v22 k0_hw1 k0_t1 => k0_hw1.1.2.2.2.2.2.2.2.2.2.2.2.2.2.2.2.2.2.2.1 k0_t1
theorem k0_off38_inb : ∀ (v20 : BitVec 32) (v22 : BitVec 32) (k0_hw1 : k0_chk1 v20 v22) (k0_t1 : Fin (k0_t1_loop v22).trips), ∀ a, (k0_off38 v20 v22 k0_t1) a + S1.size a ≤ S16416.size a := fun v20 v22 k0_hw1 k0_t1 => k0_hw1.1.2.2.2.2.2.2.2.2.2.2.2.2.2.2.2.2.2.2.2.1 k0_t1
theorem k0_off40_inb : ∀ (v20 : BitVec 32) (v22 : BitVec 32) (k0_hw1 : k0_chk1 v20 v22) (k0_t1 : Fin (k0_t1_loop v22).trips), ∀ a, (k0_off40 v20 v22 k0_t1) a + S1.size a ≤ S16416.size a := fun v20 v22 k0_hw1 k0_t1 => k0_hw1.1.2.2.2.2.2.2.2.2.2.2.2.2.2.2.2.2.2.2.2.2.1 k0_t1
theorem k0_off42_inb : ∀ (v20 : BitVec 32) (v22 : BitVec 32) (k0_hw1 : k0_chk1 v20 v22) (k0_t1 : Fin (k0_t1_loop v22).trips), ∀ a, (k0_off42 v20 v22 k0_t1) a + S1.size a ≤ S16416.size a := fun v20 v22 k0_hw1 k0_t1 => k0_hw1.1.2.2.2.2.2.2.2.2.2.2.2.2.2.2.2.2.2.2.2.2.2.1 k0_t1
theorem k0_off44_inb : ∀ (v20 : BitVec 32) (v22 : BitVec 32) (k0_hw1 : k0_chk1 v20 v22) (k0_t1 : Fin (k0_t1_loop v22).trips), ∀ a, (k0_off44 v20 v22 k0_t1) a + S1.size a ≤ S16416.size a := fun v20 v22 k0_hw1 k0_t1 => k0_hw1.1.2.2.2.2.2.2.2.2.2.2.2.2.2.2.2.2.2.2.2.2.2.2.1 k0_t1
theorem k0_off46_inb : ∀ (v20 : BitVec 32) (v22 : BitVec 32) (k0_hw1 : k0_chk1 v20 v22) (k0_t1 : Fin (k0_t1_loop v22).trips), ∀ a, (k0_off46 v20 v22 k0_t1) a + S1.size a ≤ S16416.size a := fun v20 v22 k0_hw1 k0_t1 => k0_hw1.1.2.2.2.2.2.2.2.2.2.2.2.2.2.2.2.2.2.2.2.2.2.2.2.1 k0_t1
theorem k0_off48_inb : ∀ (v20 : BitVec 32) (v22 : BitVec 32) (k0_hw1 : k0_chk1 v20 v22) (k0_t1 : Fin (k0_t1_loop v22).trips), ∀ a, (k0_off48 v20 v22 k0_t1) a + S1.size a ≤ S16416.size a := fun v20 v22 k0_hw1 k0_t1 => k0_hw1.1.2.2.2.2.2.2.2.2.2.2.2.2.2.2.2.2.2.2.2.2.2.2.2.2.1 k0_t1
theorem k0_off50_inb : ∀ (v20 : BitVec 32) (v22 : BitVec 32) (k0_hw1 : k0_chk1 v20 v22) (k0_t1 : Fin (k0_t1_loop v22).trips), ∀ a, (k0_off50 v20 v22 k0_t1) a + S1.size a ≤ S16416.size a := fun v20 v22 k0_hw1 k0_t1 => k0_hw1.1.2.2.2.2.2.2.2.2.2.2.2.2.2.2.2.2.2.2.2.2.2.2.2.2.2.1 k0_t1
theorem k0_off52_inb : ∀ (v20 : BitVec 32) (v22 : BitVec 32) (k0_hw1 : k0_chk1 v20 v22) (k0_t1 : Fin (k0_t1_loop v22).trips), ∀ a, (k0_off52 v20 v22 k0_t1) a + S1.size a ≤ S16416.size a := fun v20 v22 k0_hw1 k0_t1 => k0_hw1.1.2.2.2.2.2.2.2.2.2.2.2.2.2.2.2.2.2.2.2.2.2.2.2.2.2.2.1 k0_t1
theorem k0_off54_inb : ∀ (v20 : BitVec 32) (v22 : BitVec 32) (k0_hw1 : k0_chk1 v20 v22) (k0_t1 : Fin (k0_t1_loop v22).trips), ∀ a, (k0_off54 v20 v22 k0_t1) a + S1.size a ≤ S16416.size a := fun v20 v22 k0_hw1 k0_t1 => k0_hw1.1.2.2.2.2.2.2.2.2.2.2.2.2.2.2.2.2.2.2.2.2.2.2.2.2.2.2.2.1 k0_t1
theorem k0_off56_inb : ∀ (v20 : BitVec 32) (v22 : BitVec 32) (k0_hw1 : k0_chk1 v20 v22) (k0_t1 : Fin (k0_t1_loop v22).trips), ∀ a, (k0_off56 v20 v22 k0_t1) a + S1.size a ≤ S16416.size a := fun v20 v22 k0_hw1 k0_t1 => k0_hw1.1.2.2.2.2.2.2.2.2.2.2.2.2.2.2.2.2.2.2.2.2.2.2.2.2.2.2.2.2.1 k0_t1
theorem k0_off58_inb : ∀ (v20 : BitVec 32) (v22 : BitVec 32) (k0_hw1 : k0_chk1 v20 v22) (k0_t1 : Fin (k0_t1_loop v22).trips), ∀ a, (k0_off58 v20 v22 k0_t1) a + S1.size a ≤ S16416.size a := fun v20 v22 k0_hw1 k0_t1 => k0_hw1.1.2.2.2.2.2.2.2.2.2.2.2.2.2.2.2.2.2.2.2.2.2.2.2.2.2.2.2.2.2.1 k0_t1
theorem k0_off60_inb : ∀ (v20 : BitVec 32) (v22 : BitVec 32) (k0_hw1 : k0_chk1 v20 v22) (k0_t1 : Fin (k0_t1_loop v22).trips), ∀ a, (k0_off60 v20 v22 k0_t1) a + S1.size a ≤ S16416.size a := fun v20 v22 k0_hw1 k0_t1 => k0_hw1.1.2.2.2.2.2.2.2.2.2.2.2.2.2.2.2.2.2.2.2.2.2.2.2.2.2.2.2.2.2.2.1 k0_t1
theorem k0_off62_inb : ∀ (v20 : BitVec 32) (v22 : BitVec 32) (k0_hw1 : k0_chk1 v20 v22) (k0_t1 : Fin (k0_t1_loop v22).trips), ∀ a, (k0_off62 v20 v22 k0_t1) a + S1.size a ≤ S16416.size a := fun v20 v22 k0_hw1 k0_t1 => k0_hw1.1.2.2.2.2.2.2.2.2.2.2.2.2.2.2.2.2.2.2.2.2.2.2.2.2.2.2.2.2.2.2.2 k0_t1
theorem k0_off64_inb : ∀ (v20 : BitVec 32) (v22 : BitVec 32) (k0_hw1 : k0_chk1 v20 v22) (k0_t1 : Fin (k0_t1_loop v22).trips), ∀ a, (k0_off64 v20 v22 k0_t1) a + S1.size a ≤ S16416.size a := fun v20 v22 k0_hw1 k0_t1 => k0_hw1.2.1.1 k0_t1
theorem k0_t2_ok : ∀ (v20 : BitVec 32) (v22 : BitVec 32) (k0_hw1 : k0_chk1 v20 v22), (k0_t2_loop v22).OK := fun v20 v22 k0_hw1 => k0_hw1.2.1.2.1
theorem k0_off67_inb : ∀ (v20 : BitVec 32) (v22 : BitVec 32) (k0_hw1 : k0_chk1 v20 v22) (k0_t2 : Fin (k0_t2_loop v22).trips), ∀ a, (k0_off67 v20 v22 k0_t2) a + S1.size a ≤ S16416.size a := fun v20 v22 k0_hw1 k0_t2 => k0_hw1.2.1.2.2.1 k0_t2
theorem k0_off69_inb : ∀ (v20 : BitVec 32) (v22 : BitVec 32) (k0_hw1 : k0_chk1 v20 v22) (k0_t2 : Fin (k0_t2_loop v22).trips), ∀ a, (k0_off69 v20 v22 k0_t2) a + S1.size a ≤ S16416.size a := fun v20 v22 k0_hw1 k0_t2 => k0_hw1.2.1.2.2.2.1 k0_t2
theorem k0_off71_inb : ∀ (v20 : BitVec 32) (v22 : BitVec 32) (k0_hw1 : k0_chk1 v20 v22) (k0_t2 : Fin (k0_t2_loop v22).trips), ∀ a, (k0_off71 v20 v22 k0_t2) a + S1.size a ≤ S16416.size a := fun v20 v22 k0_hw1 k0_t2 => k0_hw1.2.1.2.2.2.2.1 k0_t2
theorem k0_off73_inb : ∀ (v20 : BitVec 32) (v22 : BitVec 32) (k0_hw1 : k0_chk1 v20 v22) (k0_t2 : Fin (k0_t2_loop v22).trips), ∀ a, (k0_off73 v20 v22 k0_t2) a + S1.size a ≤ S16416.size a := fun v20 v22 k0_hw1 k0_t2 => k0_hw1.2.1.2.2.2.2.2.1 k0_t2
theorem k0_off75_inb : ∀ (v20 : BitVec 32) (v22 : BitVec 32) (k0_hw1 : k0_chk1 v20 v22) (k0_t2 : Fin (k0_t2_loop v22).trips), ∀ a, (k0_off75 v20 v22 k0_t2) a + S1.size a ≤ S16416.size a := fun v20 v22 k0_hw1 k0_t2 => k0_hw1.2.1.2.2.2.2.2.2.1 k0_t2
theorem k0_off77_inb : ∀ (v20 : BitVec 32) (v22 : BitVec 32) (k0_hw1 : k0_chk1 v20 v22) (k0_t2 : Fin (k0_t2_loop v22).trips), ∀ a, (k0_off77 v20 v22 k0_t2) a + S1.size a ≤ S16416.size a := fun v20 v22 k0_hw1 k0_t2 => k0_hw1.2.1.2.2.2.2.2.2.2.1 k0_t2
theorem k0_off79_inb : ∀ (v20 : BitVec 32) (v22 : BitVec 32) (k0_hw1 : k0_chk1 v20 v22) (k0_t2 : Fin (k0_t2_loop v22).trips), ∀ a, (k0_off79 v20 v22 k0_t2) a + S1.size a ≤ S16416.size a := fun v20 v22 k0_hw1 k0_t2 => k0_hw1.2.1.2.2.2.2.2.2.2.2.1 k0_t2
theorem k0_off81_inb : ∀ (v20 : BitVec 32) (v22 : BitVec 32) (k0_hw1 : k0_chk1 v20 v22) (k0_t2 : Fin (k0_t2_loop v22).trips), ∀ a, (k0_off81 v20 v22 k0_t2) a + S1.size a ≤ S16416.size a := fun v20 v22 k0_hw1 k0_t2 => k0_hw1.2.1.2.2.2.2.2.2.2.2.2.1 k0_t2
theorem k0_off83_inb : ∀ (v20 : BitVec 32) (v22 : BitVec 32) (k0_hw1 : k0_chk1 v20 v22) (k0_t2 : Fin (k0_t2_loop v22).trips), ∀ a, (k0_off83 v20 v22 k0_t2) a + S1.size a ≤ S16416.size a := fun v20 v22 k0_hw1 k0_t2 => k0_hw1.2.1.2.2.2.2.2.2.2.2.2.2.1 k0_t2
theorem k0_off85_inb : ∀ (v20 : BitVec 32) (v22 : BitVec 32) (k0_hw1 : k0_chk1 v20 v22) (k0_t2 : Fin (k0_t2_loop v22).trips), ∀ a, (k0_off85 v20 v22 k0_t2) a + S1.size a ≤ S16416.size a := fun v20 v22 k0_hw1 k0_t2 => k0_hw1.2.1.2.2.2.2.2.2.2.2.2.2.2.1 k0_t2
theorem k0_off87_inb : ∀ (v20 : BitVec 32) (v22 : BitVec 32) (k0_hw1 : k0_chk1 v20 v22) (k0_t2 : Fin (k0_t2_loop v22).trips), ∀ a, (k0_off87 v20 v22 k0_t2) a + S1.size a ≤ S16416.size a := fun v20 v22 k0_hw1 k0_t2 => k0_hw1.2.1.2.2.2.2.2.2.2.2.2.2.2.2.1 k0_t2
theorem k0_off89_inb : ∀ (v20 : BitVec 32) (v22 : BitVec 32) (k0_hw1 : k0_chk1 v20 v22) (k0_t2 : Fin (k0_t2_loop v22).trips), ∀ a, (k0_off89 v20 v22 k0_t2) a + S1.size a ≤ S16416.size a := fun v20 v22 k0_hw1 k0_t2 => k0_hw1.2.1.2.2.2.2.2.2.2.2.2.2.2.2.2.1 k0_t2
theorem k0_off91_inb : ∀ (v20 : BitVec 32) (v22 : BitVec 32) (k0_hw1 : k0_chk1 v20 v22) (k0_t2 : Fin (k0_t2_loop v22).trips), ∀ a, (k0_off91 v20 v22 k0_t2) a + S1.size a ≤ S16416.size a := fun v20 v22 k0_hw1 k0_t2 => k0_hw1.2.1.2.2.2.2.2.2.2.2.2.2.2.2.2.2.1 k0_t2
theorem k0_off93_inb : ∀ (v20 : BitVec 32) (v22 : BitVec 32) (k0_hw1 : k0_chk1 v20 v22) (k0_t2 : Fin (k0_t2_loop v22).trips), ∀ a, (k0_off93 v20 v22 k0_t2) a + S1.size a ≤ S16416.size a := fun v20 v22 k0_hw1 k0_t2 => k0_hw1.2.1.2.2.2.2.2.2.2.2.2.2.2.2.2.2.2.1 k0_t2
theorem k0_off95_inb : ∀ (v20 : BitVec 32) (v22 : BitVec 32) (k0_hw1 : k0_chk1 v20 v22) (k0_t2 : Fin (k0_t2_loop v22).trips), ∀ a, (k0_off95 v20 v22 k0_t2) a + S1.size a ≤ S16416.size a := fun v20 v22 k0_hw1 k0_t2 => k0_hw1.2.1.2.2.2.2.2.2.2.2.2.2.2.2.2.2.2.2.1 k0_t2
theorem k0_off97_inb : ∀ (v20 : BitVec 32) (v22 : BitVec 32) (k0_hw1 : k0_chk1 v20 v22) (k0_t2 : Fin (k0_t2_loop v22).trips), ∀ a, (k0_off97 v20 v22 k0_t2) a + S1.size a ≤ S16416.size a := fun v20 v22 k0_hw1 k0_t2 => k0_hw1.2.1.2.2.2.2.2.2.2.2.2.2.2.2.2.2.2.2.2.1 k0_t2
theorem k0_off99_inb : ∀ (v20 : BitVec 32) (v22 : BitVec 32) (k0_hw1 : k0_chk1 v20 v22) (k0_t2 : Fin (k0_t2_loop v22).trips), ∀ a, (k0_off99 v20 v22 k0_t2) a + S1.size a ≤ S16416.size a := fun v20 v22 k0_hw1 k0_t2 => k0_hw1.2.1.2.2.2.2.2.2.2.2.2.2.2.2.2.2.2.2.2.2.1 k0_t2
theorem k0_off101_inb : ∀ (v20 : BitVec 32) (v22 : BitVec 32) (k0_hw1 : k0_chk1 v20 v22) (k0_t2 : Fin (k0_t2_loop v22).trips), ∀ a, (k0_off101 v20 v22 k0_t2) a + S1.size a ≤ S16416.size a := fun v20 v22 k0_hw1 k0_t2 => k0_hw1.2.1.2.2.2.2.2.2.2.2.2.2.2.2.2.2.2.2.2.2.2.1 k0_t2
theorem k0_off103_inb : ∀ (v20 : BitVec 32) (v22 : BitVec 32) (k0_hw1 : k0_chk1 v20 v22) (k0_t2 : Fin (k0_t2_loop v22).trips), ∀ a, (k0_off103 v20 v22 k0_t2) a + S1.size a ≤ S16416.size a := fun v20 v22 k0_hw1 k0_t2 => k0_hw1.2.1.2.2.2.2.2.2.2.2.2.2.2.2.2.2.2.2.2.2.2.2.1 k0_t2
theorem k0_off105_inb : ∀ (v20 : BitVec 32) (v22 : BitVec 32) (k0_hw1 : k0_chk1 v20 v22) (k0_t2 : Fin (k0_t2_loop v22).trips), ∀ a, (k0_off105 v20 v22 k0_t2) a + S1.size a ≤ S16416.size a := fun v20 v22 k0_hw1 k0_t2 => k0_hw1.2.1.2.2.2.2.2.2.2.2.2.2.2.2.2.2.2.2.2.2.2.2.2.1 k0_t2
theorem k0_off107_inb : ∀ (v20 : BitVec 32) (v22 : BitVec 32) (k0_hw1 : k0_chk1 v20 v22) (k0_t2 : Fin (k0_t2_loop v22).trips), ∀ a, (k0_off107 v20 v22 k0_t2) a + S1.size a ≤ S16416.size a := fun v20 v22 k0_hw1 k0_t2 => k0_hw1.2.1.2.2.2.2.2.2.2.2.2.2.2.2.2.2.2.2.2.2.2.2.2.2.1 k0_t2
theorem k0_off109_inb : ∀ (v20 : BitVec 32) (v22 : BitVec 32) (k0_hw1 : k0_chk1 v20 v22) (k0_t2 : Fin (k0_t2_loop v22).trips), ∀ a, (k0_off109 v20 v22 k0_t2) a + S1.size a ≤ S16416.size a := fun v20 v22 k0_hw1 k0_t2 => k0_hw1.2.1.2.2.2.2.2.2.2.2.2.2.2.2.2.2.2.2.2.2.2.2.2.2.2.1 k0_t2
theorem k0_off111_inb : ∀ (v20 : BitVec 32) (v22 : BitVec 32) (k0_hw1 : k0_chk1 v20 v22) (k0_t2 : Fin (k0_t2_loop v22).trips), ∀ a, (k0_off111 v20 v22 k0_t2) a + S1.size a ≤ S16416.size a := fun v20 v22 k0_hw1 k0_t2 => k0_hw1.2.1.2.2.2.2.2.2.2.2.2.2.2.2.2.2.2.2.2.2.2.2.2.2.2.2.1 k0_t2
theorem k0_off113_inb : ∀ (v20 : BitVec 32) (v22 : BitVec 32) (k0_hw1 : k0_chk1 v20 v22) (k0_t2 : Fin (k0_t2_loop v22).trips), ∀ a, (k0_off113 v20 v22 k0_t2) a + S1.size a ≤ S16416.size a := fun v20 v22 k0_hw1 k0_t2 => k0_hw1.2.1.2.2.2.2.2.2.2.2.2.2.2.2.2.2.2.2.2.2.2.2.2.2.2.2.2.1 k0_t2
theorem k0_off115_inb : ∀ (v20 : BitVec 32) (v22 : BitVec 32) (k0_hw1 : k0_chk1 v20 v22) (k0_t2 : Fin (k0_t2_loop v22).trips), ∀ a, (k0_off115 v20 v22 k0_t2) a + S1.size a ≤ S16416.size a := fun v20 v22 k0_hw1 k0_t2 => k0_hw1.2.1.2.2.2.2.2.2.2.2.2.2.2.2.2.2.2.2.2.2.2.2.2.2.2.2.2.2.1 k0_t2
theorem k0_off117_inb : ∀ (v20 : BitVec 32) (v22 : BitVec 32) (k0_hw1 : k0_chk1 v20 v22) (k0_t2 : Fin (k0_t2_loop v22).trips), ∀ a, (k0_off117 v20 v22 k0_t2) a + S1.size a ≤ S16416.size a := fun v20 v22 k0_hw1 k0_t2 => k0_hw1.2.1.2.2.2.2.2.2.2.2.2.2.2.2.2.2.2.2.2.2.2.2.2.2.2.2.2.2.2.1 k0_t2
theorem k0_off119_inb : ∀ (v20 : BitVec 32) (v22 : BitVec 32) (k0_hw1 : k0_chk1 v20 v22) (k0_t2 : Fin (k0_t2_loop v22).trips), ∀ a, (k0_off119 v20 v22 k0_t2) a + S1.size a ≤ S16416.size a := fun v20 v22 k0_hw1 k0_t2 => k0_hw1.2.1.2.2.2.2.2.2.2.2.2.2.2.2.2.2.2.2.2.2.2.2.2.2.2.2.2.2.2.2.1 k0_t2
theorem k0_off121_inb : ∀ (v20 : BitVec 32) (v22 : BitVec 32) (k0_hw1 : k0_chk1 v20 v22) (k0_t2 : Fin (k0_t2_loop v22).trips), ∀ a, (k0_off121 v20 v22 k0_t2) a + S1.size a ≤ S16416.size a := fun v20 v22 k0_hw1 k0_t2 => k0_hw1.2.1.2.2.2.2.2.2.2.2.2.2.2.2.2.2.2.2.2.2.2.2.2.2.2.2.2.2.2.2.2.1 k0_t2
theorem k0_off123_inb : ∀ (v20 : BitVec 32) (v22 : BitVec 32) (k0_hw1 : k0_chk1 v20 v22) (k0_t2 : Fin (k0_t2_loop v22).trips), ∀ a, (k0_off123 v20 v22 k0_t2) a + S1.size a ≤ S16416.size a := fun v20 v22 k0_hw1 k0_t2 => k0_hw1.2.1.2.2.2.2.2.2.2.2.2.2.2.2.2.2.2.2.2.2.2.2.2.2.2.2.2.2.2.2.2.2.1 k0_t2
theorem k0_off125_inb : ∀ (v20 : BitVec 32) (v22 : BitVec 32) (k0_hw1 : k0_chk1 v20 v22) (k0_t2 : Fin (k0_t2_loop v22).trips), ∀ a, (k0_off125 v20 v22 k0_t2) a + S1.size a ≤ S16416.size a := fun v20 v22 k0_hw1 k0_t2 => k0_hw1.2.1.2.2.2.2.2.2.2.2.2.2.2.2.2.2.2.2.2.2.2.2.2.2.2.2.2.2.2.2.2.2.2 k0_t2
theorem k0_off127_inb : ∀ (v20 : BitVec 32) (v22 : BitVec 32) (k0_hw1 : k0_chk1 v20 v22) (k0_t2 : Fin (k0_t2_loop v22).trips), ∀ a, (k0_off127 v20 v22 k0_t2) a + S1.size a ≤ S16416.size a := fun v20 v22 k0_hw1 k0_t2 => k0_hw1.2.2.1 k0_t2
theorem k0_off129_inb : ∀ (v20 : BitVec 32) (v22 : BitVec 32) (k0_hw1 : k0_chk1 v20 v22) (k0_t2 : Fin (k0_t2_loop v22).trips), ∀ a, (k0_off129 v20 v22 k0_t2) a + S1.size a ≤ S16416.size a := fun v20 v22 k0_hw1 k0_t2 => k0_hw1.2.2.2 k0_t2

def k0_off130 (v367 : BitVec 32) : Fin 2 → Nat :=
  let v368 : Index := Scalar.indexCast v367
  let c0_116 : Index := 0#32
  ![v368.toNat, 0]

def k0_chk66 (v367 : BitVec 32) : Prop :=
  (∀ a, (k0_off130 v367) a + S1x256.size a ≤ S4096x256.size a)
theorem k0_off130_inb : ∀ (v367 : BitVec 32) (k0_hw66 : k0_chk66 v367), ∀ a, (k0_off130 v367) a + S1x256.size a ≤ S4096x256.size a := fun v367 k0_hw66 => k0_hw66

def k0_mult2 (v22 : BitVec 32) (v24 : BitVec 32) (k0_t2 : Fin (k0_t2_loop v22).trips) : BitVec 32 :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_132 : BitVec 32 := 32#32
  let v399 : BitVec 32 := Scalar.muli arg15 c32_i32_132
  let v400 : BitVec 32 := Scalar.addi v24 v399
  v400
def k0_off131 (v22 : BitVec 32) (v24 : BitVec 32) (k0_t2 : Fin (k0_t2_loop v22).trips) : Fin 2 → Nat :=
  let c0_i32_13 : BitVec 32 := 0#32
  let c32_i32 : BitVec 32 := 32#32
  let v27 : BitVec 32 := Scalar.addi v22 c32_i32
  let c1_i32 : BitVec 32 := 1#32
  let v28 : BitVec 32 := Scalar.subi v27 c1_i32
  let c0_i32 : BitVec 32 := 0#32
  let v30 : BitVec 1 := Scalar.cmpi .sgt v28 c0_i32
  let v31 : BitVec 32 := Scalar.extui v30
  let c0_i32_8 : BitVec 32 := 0#32
  let v32 : BitVec 1 := Scalar.cmpi .slt v28 c0_i32_8
  let v33 : BitVec 32 := Scalar.extui v32
  let v34 : BitVec 32 := Scalar.subi v31 v33
  let c32_i32_7 : BitVec 32 := 32#32
  let c0_i32_9 : BitVec 32 := 0#32
  let v35 : BitVec 1 := Scalar.cmpi .sgt c32_i32_7 c0_i32_9
  let v36 : BitVec 32 := Scalar.extui v35
  let c0_i32_10 : BitVec 32 := 0#32
  let v37 : BitVec 1 := Scalar.cmpi .slt c32_i32_7 c0_i32_10
  let v38 : BitVec 32 := Scalar.extui v37
  let v39 : BitVec 32 := Scalar.subi v36 v38
  let v40 : BitVec 1 := Scalar.cmpi .ne v34 v39
  let v41 : BitVec 32 := Scalar.remsi v28 c32_i32_7
  let c0_i32_11 : BitVec 32 := 0#32
  let v42 : BitVec 1 := Scalar.cmpi .ne v41 c0_i32_11
  let v43 : BitVec 1 := Scalar.andi v40 v42
  let v29 : BitVec 32 := Scalar.divsi v28 c32_i32_7
  let c1_i32_12 : BitVec 32 := 1#32
  let v44 : BitVec 32 := Scalar.subi v29 c1_i32_12
  let v45 : BitVec 32 := Scalar.select v43 v44 v29
  let v46 : BitVec 32 := Scalar.subi v45 c0_i32_13
  let c1_i32_15 : BitVec 32 := 1#32
  let v48 : BitVec 32 := Scalar.divsi v46 c1_i32_15
  let v49 : BitVec 32 := Scalar.muli v48 c1_i32_15
  let v50 : BitVec 32 := Scalar.addi c0_i32_13 v49
  let c1_i32_17 : BitVec 32 := 1#32
  let arg15 : BitVec 32 := Scf.iv v50 c1_i32_17 k0_t2
  let c32_i32_132 : BitVec 32 := 32#32
  let v399 : BitVec 32 := Scalar.muli arg15 c32_i32_132
  let v400 : BitVec 32 := Scalar.addi v24 v399
  let v401 : BitVec 32 := v400
  let c0_i32_133 : BitVec 32 := 0#32
  ![v401.toNat, 0]

def k0_chk34 (v22 : BitVec 32) (v24 : BitVec 32) : Prop :=
  (∀ k0_t1 : Fin (k0_t1_loop v22).trips, 8 ∣ (k0_mult1 v22 v24 k0_t1).toNat) ∧
  (∀ k0_t1 : Fin (k0_t1_loop v22).trips, ∀ a, (k0_off66 v22 v24 k0_t1) a + S32x832.size a ≤ S21504x832.size a) ∧
  (∀ k0_t2 : Fin (k0_t2_loop v22).trips, 8 ∣ (k0_mult2 v22 v24 k0_t2).toNat) ∧
  (∀ k0_t2 : Fin (k0_t2_loop v22).trips, ∀ a, (k0_off131 v22 v24 k0_t2) a + S32x832.size a ≤ S21504x832.size a)
theorem k0_mult1_dvd : ∀ (v22 : BitVec 32) (v24 : BitVec 32) (k0_hw34 : k0_chk34 v22 v24) (k0_t1 : Fin (k0_t1_loop v22).trips), 8 ∣ (k0_mult1 v22 v24 k0_t1).toNat := fun v22 v24 k0_hw34 k0_t1 => k0_hw34.1 k0_t1
theorem k0_off66_inb : ∀ (v22 : BitVec 32) (v24 : BitVec 32) (k0_hw34 : k0_chk34 v22 v24) (k0_t1 : Fin (k0_t1_loop v22).trips), ∀ a, (k0_off66 v22 v24 k0_t1) a + S32x832.size a ≤ S21504x832.size a := fun v22 v24 k0_hw34 k0_t1 => k0_hw34.2.1 k0_t1
theorem k0_mult2_dvd : ∀ (v22 : BitVec 32) (v24 : BitVec 32) (k0_hw34 : k0_chk34 v22 v24) (k0_t2 : Fin (k0_t2_loop v22).trips), 8 ∣ (k0_mult2 v22 v24 k0_t2).toNat := fun v22 v24 k0_hw34 k0_t2 => k0_hw34.2.2.1 k0_t2
theorem k0_off131_inb : ∀ (v22 : BitVec 32) (v24 : BitVec 32) (k0_hw34 : k0_chk34 v22 v24) (k0_t2 : Fin (k0_t2_loop v22).trips), ∀ a, (k0_off131 v22 v24 k0_t2) a + S32x832.size a ≤ S21504x832.size a := fun v22 v24 k0_hw34 k0_t2 => k0_hw34.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x832x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x256 : Shape := ⟨2, ![4096, 256]⟩
abbrev S2x2048x4 : Shape := ⟨3, ![2, 2048, 4]⟩
abbrev S640x832x256 : Shape := ⟨3, ![640, 832, 256]⟩
abbrev S640x832 : Shape := ⟨2, ![640, 832]⟩
abbrev S640 : Shape := ⟨1, ![640]⟩
abbrev S4096x256x2 : Shape := ⟨3, ![4096, 256, 2]⟩
abbrev S4096x256x1 : Shape := ⟨3, ![4096, 256, 1]⟩
abbrev S4096x4 : Shape := ⟨2, ![4096, 4]⟩
abbrev S_ : Shape := ⟨0, ![]⟩
abbrev S4096x4x1 : Shape := ⟨3, ![4096, 4, 1]⟩
abbrev S4096x4x832x256 : Shape := ⟨4, ![4096, 4, 832, 256]⟩
abbrev S4096x4x832 : Shape := ⟨3, ![4096, 4, 832]⟩
abbrev S832 : Shape := ⟨1, ![832]⟩
abbrev S1x1x832 : Shape := ⟨3, ![1, 1, 832]⟩

abbrev nBuf : Space → Nat
  | .hbm => 67
  | .vmem => 0
  | .smem => 0
  | _ => 0

abbrev bufTy : (tb : Table) → Fin (tcTables nBuf tb) → BufTy
  | .hbm, ⟨0, _⟩ => ⟨S4096x256, .i32⟩
  | .hbm, ⟨1, _⟩ => ⟨S2x2048x4, .i32⟩
  | .hbm, ⟨2, _⟩ => ⟨S640x832x256, .i8⟩
  | .hbm, ⟨3, _⟩ => ⟨S640x832, .f32⟩
  | .hbm, ⟨4, _⟩ => ⟨S640, .i32⟩
  | .hbm, ⟨5, _⟩ => ⟨S4096x256x2, .bf16⟩
  | .hbm, ⟨6, _⟩ => ⟨S4096x256x1, .bf16⟩
  | .hbm, ⟨7, _⟩ => ⟨S4096x256, .bf16⟩
  | .hbm, ⟨8, _⟩ => ⟨S4096x256x1, .bf16⟩
  | .hbm, ⟨9, _⟩ => ⟨S4096x256, .bf16⟩
  | .hbm, ⟨10, _⟩ => ⟨S4096x4, .i32⟩
  | .hbm, ⟨11, _⟩ => ⟨S_, .i32⟩
  | .hbm, ⟨12, _⟩ => ⟨S4096x4, .i32⟩
  | .hbm, ⟨13, _⟩ => ⟨S4096x4, .i1⟩
  | .hbm, ⟨14, _⟩ => ⟨S_, .i32⟩
  | .hbm, ⟨15, _⟩ => ⟨S4096x4, .i32⟩
  | .hbm, ⟨16, _⟩ => ⟨S4096x4, .i32⟩
  | .hbm, ⟨17, _⟩ => ⟨S4096x4, .i32⟩
  | .hbm, ⟨18, _⟩ => ⟨S4096x4x1, .i32⟩
  | .hbm, ⟨19, _⟩ => ⟨S4096x4x832x256, .i8⟩
  | .hbm, ⟨20, _⟩ => ⟨S4096x4x832x256, .i32⟩
  | .hbm, ⟨21, _⟩ => ⟨S_, .i32⟩
  | .hbm, ⟨22, _⟩ => ⟨S4096x4x832x256, .i32⟩
  | .hbm, ⟨23, _⟩ => ⟨S4096x4x832x256, .i32⟩
  | .hbm, ⟨24, _⟩ => ⟨S_, .i32⟩
  | .hbm, ⟨25, _⟩ => ⟨S4096x4x832x256, .i32⟩
  | .hbm, ⟨26, _⟩ => ⟨S4096x4x832x256, .i32⟩
  | .hbm, ⟨27, _⟩ => ⟨S4096x4x832x256, .bf16⟩
  | .hbm, ⟨28, _⟩ => ⟨S_, .i32⟩
  | .hbm, ⟨29, _⟩ => ⟨S4096x4x832x256, .i32⟩
  | .hbm, ⟨30, _⟩ => ⟨S4096x4x832x256, .i32⟩
  | .hbm, ⟨31, _⟩ => ⟨S_, .i32⟩
  | .hbm, ⟨32, _⟩ => ⟨S4096x4x832x256, .i32⟩
  | .hbm, ⟨33, _⟩ => ⟨S4096x4x832x256, .i32⟩
  | .hbm, ⟨34, _⟩ => ⟨S4096x4x832x256, .bf16⟩
  | .hbm, ⟨35, _⟩ => ⟨S4096x4x832, .f32⟩
  | .hbm, ⟨36, _⟩ => ⟨S4096x4x832, .f32⟩
  | .hbm, ⟨37, _⟩ => ⟨S4096x4x832, .f32⟩
  | .hbm, ⟨38, _⟩ => ⟨S_, .i32⟩
  | .hbm, ⟨39, _⟩ => ⟨S4096x4, .i32⟩
  | .hbm, ⟨40, _⟩ => ⟨S4096x4, .i1⟩
  | .hbm, ⟨41, _⟩ => ⟨S_, .i32⟩
  | .hbm, ⟨42, _⟩ => ⟨S4096x4, .i32⟩
  | .hbm, ⟨43, _⟩ => ⟨S4096x4, .i32⟩
  | .hbm, ⟨44, _⟩ => ⟨S4096x4, .i32⟩
  | .hbm, ⟨45, _⟩ => ⟨S4096x4x1, .i32⟩
  | .hbm, ⟨46, _⟩ => ⟨S4096x4x832, .f32⟩
  | .hbm, ⟨47, _⟩ => ⟨S4096x4x832, .f32⟩
  | .hbm, ⟨48, _⟩ => ⟨S832, .i32⟩
  | .hbm, ⟨49, _⟩ => ⟨S1x1x832, .i32⟩
  | .hbm, ⟨50, _⟩ => ⟨S_, .i32⟩
  | .hbm, ⟨51, _⟩ => ⟨S4096x4, .i32⟩
  | .hbm, ⟨52, _⟩ => ⟨S4096x4, .i1⟩
  | .hbm, ⟨53, _⟩ => ⟨S_, .i32⟩
  | .hbm, ⟨54, _⟩ => ⟨S4096x4, .i32⟩
  | .hbm, ⟨55, _⟩ => ⟨S4096x4, .i32⟩
  | .hbm, ⟨56, _⟩ => ⟨S4096x4, .i32⟩
  | .hbm, ⟨57, _⟩ => ⟨S4096x4x1, .i32⟩
  | .hbm, ⟨58, _⟩ => ⟨S4096x4, .i32⟩
  | .hbm, ⟨59, _⟩ => ⟨S4096x4x1, .i32⟩
  | .hbm, ⟨60, _⟩ => ⟨S4096x4x832, .i32⟩
  | .hbm, ⟨61, _⟩ => ⟨S4096x4x832, .i32⟩
  | .hbm, ⟨62, _⟩ => ⟨S4096x4x832, .i1⟩
  | .hbm, ⟨63, _⟩ => ⟨S_, .f32⟩
  | .hbm, ⟨64, _⟩ => ⟨S_, .f32⟩
  | .hbm, ⟨65, _⟩ => ⟨S4096x4x832, .f32⟩
  | .hbm, ⟨66, _⟩ => ⟨S4096x4x832, .f32⟩
  | _, _ => ⟨S4096x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst : Ref sig .tc := ⟨.hbm, 63, rfl⟩
abbrev main_call0_v0 : Ref sig .tc := ⟨.hbm, 64, rfl⟩
abbrev main_call0_v1 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Merged.lean ====
abbrev S4096x4x20 : Shape := ⟨3, ![4096, 4, 20]⟩
abbrev S4096x4x1 : Shape := ⟨3, ![4096, 4, 1]⟩
abbrev S4096x4 : Shape := ⟨2, ![4096, 4]⟩
abbrev S2x2048x4 : Shape := ⟨3, ![2, 2048, 4]⟩
abbrev S4x20x4096 : Shape := ⟨3, ![4, 20, 4096]⟩
abbrev S4x20x32x128 : Shape := ⟨4, ![4, 20, 32, 128]⟩
abbrev S20x32x128 : Shape := ⟨3, ![20, 32, 128]⟩
abbrev S4x20x8x128 : Shape := ⟨4, ![4, 20, 8, 128]⟩
abbrev S20x8x128 : Shape := ⟨3, ![20, 8, 128]⟩
abbrev S1x1x8x128 : Shape := ⟨4, ![1, 1, 8, 128]⟩
abbrev S8x128 : Shape := ⟨2, ![8, 128]⟩
abbrev S1x8x128 : Shape := ⟨3, ![1, 8, 128]⟩
abbrev S20x4096 : Shape := ⟨2, ![20, 4096]⟩
abbrev S4096x20 : Shape := ⟨2, ![4096, 20]⟩
abbrev S2x2048x20 : Shape := ⟨3, ![2, 2048, 20]⟩

abbrev nBuf : Space → Nat
  | .hbm => 10
  | .vmem => 4
  | .smem => 0
  | _ => 0

abbrev bufTy : (tb : Table) → Fin (tcTables nBuf tb) → BufTy
  | .hbm, ⟨0, _⟩ => ⟨S4096x4x20, .f32⟩
  | .hbm, ⟨1, _⟩ => ⟨S4096x4x1, .f32⟩
  | .hbm, ⟨2, _⟩ => ⟨S4096x4, .f32⟩
  | .hbm, ⟨3, _⟩ => ⟨S2x2048x4, .f32⟩
  | .hbm, ⟨4, _⟩ => ⟨S4x20x4096, .f32⟩
  | .hbm, ⟨5, _⟩ => ⟨S4x20x32x128, .f32⟩
  | .hbm, ⟨6, _⟩ => ⟨S20x32x128, .f32⟩
  | .hbm, ⟨7, _⟩ => ⟨S20x4096, .f32⟩
  | .hbm, ⟨8, _⟩ => ⟨S4096x20, .f32⟩
  | .hbm, ⟨9, _⟩ => ⟨S2x2048x20, .f32⟩
  | .local _ .vmem, ⟨0, _⟩ => ⟨S4x20x8x128, .f32⟩
  | .local _ .vmem, ⟨1, _⟩ => ⟨S4x20x8x128, .f32⟩
  | .local _ .vmem, ⟨2, _⟩ => ⟨S20x8x128, .f32⟩
  | .local _ .vmem, ⟨3, _⟩ => ⟨S20x8x128, .f32⟩
  | _, _ => ⟨S4096x4x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x20x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== MergedReferenceIdeal.lean ====
abbrev S4096x4x20 : Shape := ⟨3, ![4096, 4, 20]⟩
abbrev S_ : Shape := ⟨0, ![]⟩
abbrev S4096x4 : Shape := ⟨2, ![4096, 4]⟩
abbrev S4096x80 : Shape := ⟨2, ![4096, 80]⟩
abbrev S4096x20 : Shape := ⟨2, ![4096, 20]⟩
abbrev S2x2048x20 : Shape := ⟨3, ![2, 2048, 20]⟩
abbrev S2x2048x4 : Shape := ⟨3, ![2, 2048, 4]⟩

abbrev nBuf : Space → Nat
  | .hbm => 8
  | .vmem => 0
  | .smem => 0
  | _ => 0

abbrev bufTy : (tb : Table) → Fin (tcTables nBuf tb) → BufTy
  | .hbm, ⟨0, _⟩ => ⟨S4096x4x20, .f32⟩
  | .hbm, ⟨1, _⟩ => ⟨S_, .f32⟩
  | .hbm, ⟨2, _⟩ => ⟨S4096x4, .f32⟩
  | .hbm, ⟨3, _⟩ => ⟨S4096x80, .f32⟩
  | .hbm, ⟨4, _⟩ => ⟨S4096x20, .f32⟩
  | .hbm, ⟨5, _⟩ => ⟨S4096x20, .i32⟩
  | .hbm, ⟨6, _⟩ => ⟨S2x2048x20, .f32⟩
  | .hbm, ⟨7, _⟩ => ⟨S2x2048x4, .f32⟩
  | _, _ => ⟨S4096x4x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Trip.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameSuffixV
public import Idealize.ShloMosaic.Lib.Pipeline.FrameBody
public import Idealize.ShloMosaic.Lib.Tactic
public import Idealize.ShloMosaic.Lib.ValueIdxCore
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type} [FloatOps F] [hF : Cert.KernelIdeal.Facts]

local notation "𝕄" => MT nD τ sig Unit (Elt F) ℕ (Pipeline.UD sig nD τ) ℕ

abbrev tb1 : Memref sig .tc .smem S640 .i32 := Memref.whole main_v17
abbrev tb2 : Memref sig .tc .smem S640 .i32 := Memref.whole main_v15
abbrev tb3 : Memref sig .tc .smem S640 .i32 := Memref.whole main_v26
abbrev tb4 : Memref sig .tc .smem S640 .i32 := Memref.whole main_arg4
abbrev tb5 : Memref sig .tc .smem S16416 .i32 := Memref.whole main_v40
abbrev ob : Memref sig .tc .hbm S21504x832 .f32 := Memref.whole main_v42
abbrev sc0 : Memref sig .tc .vmem S832x256 .bf16 := Memref.whole cc0_scratch0
abbrev sc1 : Memref sig .tc .vmem S832x256 .bf16 := Memref.whole cc0_scratch1
abbrev sc2 : Memref sig .tc .vmem S32x256 .i32 := Memref.whole cc0_scratch2
abbrev sc3 : Memref sig .tc .vmem S32x832 .f32 := Memref.whole cc0_scratch3

abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f
abbrev tpt (c : Dev nD) {sp : Space} {S : Shape} {e : EltTy} (M : Memref sig .tc sp S e) (f : BufOf (F := F) c M) : sProp 𝕄 :=
  M.view.loc (c : Thread nD τ) ↦{fullShare.right} f

theorem row_inb (v : BitVec 32) (h : v.toNat < 4096) (a : Fin 2) :
    (![v.toNat, 0] : Fin 2 → ℕ) a + S1x256.size a ≤ S4096x256.size a := by
  fin_cases a
  · show v.toNat + 1 ≤ 4096; omega
  · show 0 + 256 ≤ 256; omega

/-! ## The pure content of a trip -/

/-- Slot `n` of the query table. -/
def slotIx (n : ℕ) : S16416.Idx := ix1 ⟨n % 16416, Nat.mod_lt _ (by decide)⟩

/-- The query a sorted slot names: the word of the table `T` at slot `n`, as a row of the query array. -/
def qrow (T : S16416.Idx → BitVec 32) (n : ℕ) : Fin 4096 :=
  ⟨(T (slotIx n)).toNat % 4096, Nat.mod_lt _ (by decide)⟩

/-- The 32 query rows from slot `base` on, side by side. -/
def rowsAt (X : S4096x256.Idx → BitVec 32) (T : S16416.Idx → BitVec 32) (base : ℕ) : S32x256.Idx → BitVec 32 :=
  fun y => X (ix2 (qrow T (base + (y 0).val)) (y 1))

/-- Rows `r … r + 31` of `f` replaced by the block `P`. -/
def putRows {α : Type} (r : ℕ) (P : S32x832.Idx → α) (f : S21504x832.Idx → α) : S21504x832.Idx → α :=
  fun y => if h : r ≤ (y 0).val ∧ (y 0).val < r + 32 then P (ix2 ⟨(y 0).val - r, by omega⟩ (y 1)) else f y

/-- The block of scores a trip computes from slot `base` on: the printed arithmetic at the rows loaded. -/
def block (X : S4096x256.Idx → Elt F .i32) (T : S16416.Idx → BitVec 32) (base : ℕ) (size : Elt F .i32)
    (lo hi : S832x256.Idx → Elt F .bf16) (sc : S1x1x832.Idx → Elt F .f32) : S32x832.Idx → Elt F .f32 :=
  k0_pay33 size (rowsAt X T base) lo hi sc

/-- What the score array holds after `n` trips. -/
def chunks (X : S4096x256.Idx → Elt F .i32) (T : S16416.Idx → BitVec 32) (base off : ℕ) (size : Elt F .i32)
    (lo hi : S832x256.Idx → Elt F .bf16) (sc : S1x1x832.Idx → Elt F .f32) (f : S21504x832.Idx → Elt F .f32) :
    ℕ → S21504x832.Idx → Elt F .f32
  | 0 => f
  | n + 1 => putRows (off + 32 * n) (block X T (base + 32 * n) size lo hi sc) (chunks X T base off size lo hi sc f n)

/-- The word arithmetic of a slot's address has no wraparound. -/
theorem slot_nat (v : BitVec 32) (k r : ℕ) (hr : r < 32) (h : v.toNat + 32 * (k + 1) ≤ 21504) :
    (v + (0#32 + BitVec.ofNat 32 k * 1#32) * 32#32 + BitVec.ofNat 32 r).toNat = v.toNat + 32 * k + r := by
  simp only [BitVec.toNat_add, BitVec.toNat_mul, BitVec.toNat_ofNat]; omega

theorem slot_nat' (v : BitVec 32) (k : ℕ) (h : v.toNat + 32 * (k + 1) ≤ 21504) :
    (v + (0#32 + BitVec.ofNat 32 k * 1#32) * 32#32).toNat = v.toNat + 32 * k := by
  simp only [BitVec.toNat_add, BitVec.toNat_mul, BitVec.toNat_ofNat]; omega

/-- A table's word read through a one-word rectangle at `n`. -/
theorem word_read (T : S16416.Idx → Elt F .i32) (o : Fin 1 → ℕ) (n : ℕ) (ho : o 0 = n) (inb : ∀ a, o a + S1.size a ≤ S16416.size a)
    (h : 0 < (Rect.unit (s := S16416) o S1.size inb).shape.numel) :
    View.readAt (Elt F) tb5.view (Rect.unit (s := S16416) o S1.size inb).toLoadRect T (Shape.Idx.first h)
      = T (slotIx n) := by
  have hn : n < 16416 := by have := inb 0; rw [ho] at this; exact Nat.lt_of_succ_le this
  rw [View.readAt_apply]
  refine congrArg T (funext fun a => ?_)
  match a with
  | ⟨0, _⟩ =>
    apply Fin.ext
    show o 0 + 1 * 0 = n % 16416
    rw [ho, Nat.mod_eq_of_lt hn]; rfl

/-- One row loaded at a table word is that query's row. -/
theorem row_read (M : Memref sig .tc .vmem S4096x256 .i32) {c : Dev nD} (f : BufOf (F := F) c M) (T : S16416.Idx → BitVec 32)
    (n : ℕ) (w : BitVec 32) (hw : w = T (slotIx n)) (o : Fin 2 → ℕ) (ho : o = ![w.toNat, 0])
    (inb : ∀ a, o a + S1x256.size a ≤ S4096x256.size a) (x : S1x256.Idx) :
    View.readAt (Elt F) M.view (Rect.unit (s := S4096x256) o S1x256.size inb).toLoadRect f x
      = M.view.read (Elt F) f (ix2 (qrow T n) (x 1)) := by
  subst ho hw
  rw [View.readAt_apply]
  refine congrArg _ (funext fun a => Fin.ext ?_)
  have h0 : (x 0).val = 0 := by have := (x 0).isLt; exact Nat.lt_one_iff.mp this
  have hb : (T (slotIx n)).toNat + 1 ≤ 4096 := inb 0
  fin_cases a
  · show (T (slotIx n)).toNat + 1 * (x 0).val
      = (T (slotIx n)).toNat % 4096
    rw [h0, Nat.mod_eq_of_lt hb]; rfl
  · show 0 + 1 * (x 1).val = (x 1).val
    omega

/-- The row stored at line `r` of the gathered block is the query row of slot `base + r`. -/
theorem piece_row (M : Memref sig .tc .vmem S4096x256 .i32) {c : Dev nD} (f : BufOf (F := F) c M) (T : S16416.Idx → BitVec 32)
    (base r : ℕ) (w : BitVec 32) (hw : w = T (slotIx (base + r))) (o : Fin 2 → ℕ) (ho : o = ![w.toNat, 0])
    (inb : ∀ a, o a + S1x256.size a ≤ S4096x256.size a) (inb' : ∀ a, (![r, 0] : Fin 2 → ℕ) a + S1x256.size a ≤ S32x256.size a)
    (h : S1x256.ShapeCasts S1x256) (x : S1x256.Idx) :
    shapeCast S1x256 (View.readAt (Elt F) M.view (Rect.unit (s := S4096x256) o S1x256.size inb).toLoadRect f) h x
      = rowsAt (M.view.read (Elt F) f) T base ((Rect.unit (s := S32x256) ![r, 0] S1x256.size inb').emb x) := by
  refine (congrFun (shapeCast_self _ h) x).trans ((row_read M f T (base + r) w hw o ho inb x).trans ?_)
  have h0 : (x 0).val = 0 := by have := (x 0).isLt; exact Nat.lt_one_iff.mp this
  have e0 : ((Rect.unit (s := S32x256) ![r, 0] S1x256.size inb').emb x 0).val = r := by
    rw [Rect.emb_apply]; show r + 1 * (x 0).val = r; omega
  have e1 : (Rect.unit (s := S32x256) ![r, 0] S1x256.size inb').emb x 1 = x 1 := by
    apply Fin.ext; rw [Rect.emb_apply]; show 0 + 1 * (x 1).val = (x 1).val; omega
  unfold rowsAt
  rw [e0]
  exact congrArg (fun z => M.view.read (Elt F) f (ix2 _ z)) e1.symm

/-- A block of `B` rows written through a view's rectangle at row `r`, read back: the block on its rows, the old contents off them. -/
theorem read_put {sig : RefSig} {κ : Kind} {sp : Space} {Val : EltTy → Type} {e : EltTy} {N C B : ℕ} (v : View sig κ sp ⟨2, ![N, C]⟩ e)
    (r : ℕ) (inb : ∀ a, (![r, 0] : Fin 2 → ℕ) a + (![B, C] : Fin 2 → ℕ) a ≤ (![N, C] : Fin 2 → ℕ) a) (f : v.ty.Contents Val)
    (P : (⟨2, ![B, C]⟩ : Shape).Idx → Val e) (y : (⟨2, ![N, C]⟩ : Shape).Idx) :
    v.read Val ((v.slice (Rect.unit (s := ⟨2, ![N, C]⟩) ![r, 0] ![B, C] inb)).write Val f P Finset.univ) y
      = if h : r ≤ (y 0).val ∧ (y 0).val < r + B then P (ix2 ⟨(y 0).val - r, by omega⟩ (y 1)) else v.read Val f y := by
  split
  · rename_i h
    have : y = (Rect.unit (s := ⟨2, ![N, C]⟩) ![r, 0] ![B, C] inb).emb (ix2 ⟨(y 0).val - r, by omega⟩ (y 1)) := by
      funext a; apply Fin.ext; rw [Rect.emb_apply]
      match a with
      | ⟨0, _⟩ => show (y 0).val = r + 1 * ((y 0).val - r); omega
      | ⟨1, _⟩ => show (y 1).val = 0 + 1 * (y 1).val; omega
    conv_lhs => rw [this]
    exact View.read_slice_write_emb _ _ _ (Finset.mem_univ _)
  · rename_i h
    refine View.read_slice_write_of_not_mem (v := v) (Rect.unit (s := ⟨2, ![N, C]⟩) ![r, 0] ![B, C] inb) f P _ ?_
    intro hm
    obtain ⟨x, -, hx⟩ := Finset.mem_map.mp hm
    apply h
    have h0 : (y 0).val = r + 1 * (x 0).val := by rw [← hx, Rect.emb_apply]; rfl
    have : (x 0).val < B := (x 0).isLt
    omega

/-- A block written through the slice of the score array at row `r` is `putRows`. -/
theorem slice_write (o : Fin 2 → ℕ) (r : ℕ) (ho : o = ![r, 0]) (inb : ∀ a, o a + S32x832.size a ≤ S21504x832.size a)
    (f : ob.view.ty.Contents (Elt F)) (P : S32x832.Idx → Elt F .f32) :
    View.write (Elt F) (ob.view.slice (Rect.unit (s := S21504x832) o S32x832.size inb)) f P Finset.univ = putRows r P f := by
  subst ho
  have hr : ∀ W : ob.view.ty.Contents (Elt F), W = View.read (Elt F) ob.view W := fun _ => rfl
  refine (hr _).trans (funext fun y => ?_)
  rw [read_put (N := 21504) (C := 832) (B := 32) ob.view r inb f P y, ← hr f]
  rfl

/-! ## One trip -/

variable (c : Dev nD) (i : grid0.Coords)
  (arg6 : Memref sig .tc .vmem S4096x256 .i32) (harg6 : arg6.IsWhole) (arg7 : Memref sig .tc .vmem S1x832x256 .i8) (harg7 : arg7.IsWhole)
  (arg8 : Memref sig .tc .vmem S1x1x832 .f32) (harg8 : arg8.IsWhole)
  (v20 v22 v24 v26 : Elt F .i32) (hw1 : k0_chk1 v20 v22) (hw34 : k0_chk34 v22 v24)

abbrev bodyT1 := k0_t1_body (F := F) i tb1 (Memref.isWhole_whole _) tb2 (Memref.isWhole_whole _) tb3 (Memref.isWhole_whole _) tb4 (Memref.isWhole_whole _) tb5 (Memref.isWhole_whole _)
  arg6 harg6 arg7 harg7 arg8 harg8 ob (Memref.isWhole_whole _) sc0 (Memref.isWhole_whole _) sc1 (Memref.isWhole_whole _) sc2 (Memref.isWhole_whole _) sc3 (Memref.isWhole_whole _) cc0_scratch4 v20 v22 hw1 v24 hw34 v26

theorem trip_run (k : Fin (k0_t1_loop v22).trips) (acc : BitVec 32)
    (T5 : BufOf (F := F) c tb5) (hq : ∀ x, BitVec.toNat (w := 32) (T5 x) < 4096)
    (f6 : BufOf (F := F) c arg6) (f8 : BufOf (F := F) c arg8) (g0 : BufOf (F := F) c sc0) (g1 : BufOf (F := F) c sc1)
    (g2 : BufOf (F := F) c sc2) (g3 : BufOf (F := F) c sc3) (f9 : BufOf (F := F) c ob) (W : Waits sig Unit)
    (hs : v20.toNat + 32 * (k.val + 1) ≤ 16416) (ho : v24.toNat + 32 * (k.val + 1) ≤ 21504) :
    iprop(tpt c tb5 T5 ∗ pt c arg6 f6 ∗ pt c arg8 f8 ∗ pt c sc0 g0 ∗ pt c sc1 g1 ∗ pt c sc2 g2 ∗ pt c sc3 g3 ∗ pt c ob f9
      ∗ semVal ((c : Thread nD τ), SemLoc.dma cc0_scratch4.sem) 0 ∗ owes (c : Thread nD τ) 0 W)
    ⊢ wp frame (wpE (defs₀ (F := F)) Variants.none c none) Set.univ (bodyT1 i arg6 harg6 arg7 harg7 arg8 harg8 v20 v22 v24 v26 hw1 hw34 k acc)
      (fun _ => iprop(tpt c tb5 T5 ∗ pt c arg6 f6 ∗ pt c arg8 f8 ∗ pt c sc0 g0 ∗ pt c sc1 g1 ∗ (∃ g, pt c sc2 g) ∗ (∃ g, pt c sc3 g)
        ∗ pt c ob (putRows (v24.toNat + 32 * k.val) (block (F := F) (arg6.view.read (Elt F) f6) T5 (v20.toNat + 32 * k.val) v26 g0 g1 (arg8.view.read (Elt F) f8)) f9)
        ∗ semVal ((c : Thread nD τ), SemLoc.dma cc0_scratch4.sem) 0 ∗ (∃ W', owes (c : Thread nD τ) 0 W'))) := by
  unfold bodyT1 k0_t1_body
  iintro ⟨HT, H6, H8, H0, H1, H2, H3, HO, HS, HW⟩
  sl_exec (disch := (refine fun a => row_inb _ ?_ a; exact hq _))
  have hv : trip_run.sl.v373 c arg6 v20 v22 hw1 k T5 hq f6 = rowsAt (arg6.view.read (Elt F) f6) T5 (v20.toNat + 32 * k.val) := by
    funext y
    unfold trip_run.sl.v373 View.readCov
    rw [View.readAt_apply]
    have hy : (Rect.unit (s := S32x256) ![0, 0] S32x256.size inb_S32x256_S32x256_0_0).toLoadRect.idx y = y := by
      funext a; apply Fin.ext; rw [LoadRect.idx_apply]
      match a with
      | ⟨0, _⟩ => show 0 + 1 * (y 0).val = (y 0).val; omega
      | ⟨1, _⟩ => show 0 + 1 * (y 1).val = (y 1).val; omega
    rw [hy]
    refine View.read_writes_apply_of_pieces sc2.view _ (rowsAt (arg6.view.read (Elt F) f6) T5 (v20.toNat + 32 * k.val)) _ ?_ y
      (View.cover_of_tiled (trip_run.sl.H2_32 c arg6 v20 v22 hw1 k T5 hq f6) ![1, 256] rfl y)
    unfold trip_run.sl.H2_32
    simp only [List.forall_mem_cons]
    repeat' apply And.intro
    all_goals first
      | exact fun x => piece_row arg6 f6 T5 _ _ _ (word_read T5 _ _ (slot_nat v20 k _ (by decide) (by omega)) _ _) _ rfl _ _ _ x
      | exact fun _ h => absurd h List.not_mem_nil
  have hout : trip_run.sl.HO_w0 c arg6 arg8 v20 v22 v24 v26 hw1 hw34 k T5 hq f6 f8 g0 g1 g3 f9
      = putRows (v24.toNat + 32 * k.val) (block (F := F) (arg6.view.read (Elt F) f6) T5 (v20.toNat + 32 * k.val) v26 g0 g1 (arg8.view.read (Elt F) f8)) f9 := by
    have hd : trip_run.sl.dma134 c arg6 arg8 v20 v22 v26 hw1 k T5 hq f6 f8 g0 g1 g3
        = block (F := F) (arg6.view.read (Elt F) f6) T5 (v20.toNat + 32 * k.val) v26 g0 g1 (arg8.view.read (Elt F) f8) := by
      funext y
      have hz : (![0, 0] : Fin 2 → ℕ) = fun _ => 0 := by funext a; fin_cases a <;> rfl
      have e0 := Memref.readAt_unit_zero (Elt F) cc0_scratch0 hz inb_S832x256_S832x256_0_0 g0
      have e1 := Memref.readAt_unit_zero (Elt F) cc0_scratch1 hz inb_S832x256_S832x256_0_0 g1
      have e8 : View.readAt (Elt F) arg8.view (Rect.unit (s := S1x1x832) ![0, 0, 0] S1x1x832.size inb_S1x1x832_S1x1x832_0_0_0).toLoadRect f8
          = arg8.view.read (Elt F) f8 := by
        funext z
        rw [View.readAt_apply]
        refine congrArg _ (funext fun a => Fin.ext ?_)
        rw [LoadRect.idx_apply]
        match a with
        | ⟨0, _⟩ => show 0 + 1 * (z 0).val = (z 0).val; omega
        | ⟨1, _⟩ => show 0 + 1 * (z 1).val = (z 1).val; omega
        | ⟨2, _⟩ => show 0 + 1 * (z 2).val = (z 2).val; omega
      have hy : (Rect.unit (s := S32x832) ![0, 0] S32x832.size inb_S32x832_S32x832_0_0).emb y = y := by
        funext a; apply Fin.ext; rw [Rect.emb_apply]
        match a with
        | ⟨0, _⟩ => show 0 + 1 * (y 0).val = (y 0).val; omega
        | ⟨1, _⟩ => show 0 + 1 * (y 1).val = (y 1).val; omega
      unfold trip_run.sl.dma134
      refine (View.read_writes_cons_hit sc3.view g3 _ _ [] y y hy).trans ?_
      rw [hv]
      unfold block
      exact congrFun (congrArg₂ (fun a b => a b) (congrArg₂ (k0_pay33 v26 _) e0 e1) e8) y
    unfold trip_run.sl.HO_w0
    rw [hd]
    exact slice_write _ _ (congrArg (fun n => ![n, 0]) (slot_nat' v24 k ho)) _ _ _
  rw [hout]
  sl_step
  isplitl [HT]; · iexact HT
  isplitl [H6]; · iexact H6
  isplitl [H8]; · iexact H8
  isplitl [H0]; · iexact H0
  isplitl [H1]; · iexact H1
  isplitl [H2]; · iexists _; iexact H2
  isplitl [H3]; · iexists _; iexact H3
  isplitl [HO]; · iexact HO
  isplitl [HS]; · iexact HS
  iexists _; iexact HW

end Cert.KernelIdeal.Hand
-- ==== Proof.Trips.lean ====
/-
  The trip count of the kernel's loop over chunks of 32 pairs, and the bounds of its addresses. For a cluster with `n` pairs
  the loop makes `⌈n / 32⌉` trips; the loop behind it, for a remainder of the division by one, makes none.
-/
module

public import proofs.«01_k».proof.Proof.Trip
public import Idealize.ShloMosaic.Lib.LoopRemainder
public import Idealize.ShloMosaic.Lib.Routing.Words

@[expose] public section

namespace Cert.KernelIdeal.Hand

open Idealize.ShloMosaic Idealize.ShloMosaic.Routing
open Cert.KernelIdeal Cert.KernelIdeal.Gen

/-- The printed quotient by 32, rounded down. -/
abbrev div32 (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 32#32 0#32)) (Scalar.extui (Scalar.cmpi .slt 32#32 0#32))))
    (Scalar.cmpi .ne (Scalar.remsi x 32#32) 0#32)) (Scalar.subi (Scalar.divsi x 32#32) 1#32) (Scalar.divsi x 32#32)

theorem div32_word {a : ℕ} (ha : a < 2 ^ 31) : div32 (BitVec.ofNat 32 a) = BitVec.ofNat 32 (a / 32) := by
  have hd : Scalar.divsi (BitVec.ofNat 32 a) 32#32 = BitVec.ofNat 32 (a / 32) :=
    divsi_word .scalar (a := a) (b := 32) ha (by decide) (by decide)
  rcases Nat.eq_zero_or_pos a with h | h
  · subst h; decide
  · have hg : Scalar.cmpi .sgt (BitVec.ofNat 32 a) 0#32 = 1#1 := by
      show BitVec.ofBool ((BitVec.ofNat 32 0).slt (BitVec.ofNat 32 a)) = 1#1
      rw [slt_ofNat32 (by decide) ha, decide_eq_true h]; rfl
    have hl : Scalar.cmpi .slt (BitVec.ofNat 32 a) 0#32 = 0#1 := by
      show BitVec.ofBool ((BitVec.ofNat 32 a).slt (BitVec.ofNat 32 0)) = 0#1
      rw [slt_ofNat32 ha (by decide), decide_eq_false (by omega)]; rfl
    show Scalar.select (Scalar.andi _ _) _ _ = _
    rw [hg, hl, hd]
    have e : Scalar.cmpi .ne (Scalar.subi (Scalar.extui (1#1 : BitVec 1)) (Scalar.extui (0#1 : BitVec 1)) : BitVec 32)
      (Scalar.subi (Scalar.extui (Scalar.cmpi .sgt 32#32 0#32)) (Scalar.extui (Scalar.cmpi .slt 32#32 0#32))) = 0#1 := by decide
    rw [e]
    show Scalar.select (0#1 &&& _) _ _ = _
    rw [BitVec.zero_and]; rfl

/-- The trips a cluster's pairs take. -/
theorem trips_val (v : BitVec 32) (h : v.toNat ≤ 16384) : (k0_t1_loop v).trips = (v.toNat + 31) / 32 := by
  obtain ⟨n, hn⟩ : ∃ n, v.toNat = n := ⟨_, rfl⟩
  have hv : v = BitVec.ofNat 32 n := by rw [← hn, BitVec.ofNat_toNat, BitVec.setWidth_eq]
  have e1 : Scalar.subi (Scalar.addi v 32#32) 1#32 = BitVec.ofNat 32 (n + 31) := by
    apply BitVec.eq_of_toNat_eq
    subst hv
    show (BitVec.ofNat 32 n + 32#32 - 1#32).toNat = _
    simp only [BitVec.toNat_add, BitVec.toNat_sub, BitVec.toNat_ofNat]
    omega
  have e2 : (k0_t1_loop v).ub = BitVec.ofNat 32 ((n + 31) / 32) := by
    show Scalar.addi 0#32 (Scalar.muli (Scalar.divsi (Scalar.subi (div32 (Scalar.subi (Scalar.addi v 32#32) 1#32)) 0#32) 1#32) 1#32) = _
    rw [e1, div32_word (by omega), Scalar.muli_divsi_one]
    show 0#32 + (_ - 0#32) = _
    rw [BitVec.zero_add, BitVec.sub_zero]
  show Scf.trips 0#32 (k0_t1_loop v).ub 1#32 = _
  rw [e2]
  unfold Scf.trips
  have i0 : (0#32 : BitVec 32).toInt = 0 := by decide
  have i1 : (1#32 : BitVec 32).toInt = 1 := by decide
  have i2 : (BitVec.ofNat 32 ((n + 31) / 32)).toInt = ((n + 31) / 32 : ℕ) := by
    rw [BitVec.toInt_eq_toNat_cond, BitVec.toNat_ofNat, Nat.mod_eq_of_lt (by omega), if_pos (by omega)]
  rw [i0, i1, i2, hn]; omega

theorem trips2_val (v : BitVec 32) : (k0_t2_loop v).trips = 0 := Scf.rem_trips 0#32 (Scalar.subi (div32 (Scalar.subi (Scalar.addi v 32#32) 1#32)) 0#32)

theorem no_trip2 (v : BitVec 32) (k : Fin (k0_t2_loop v).trips) : False := by
  exact Nat.not_lt_zero _ (lt_of_lt_of_eq k.isLt (trips2_val v))

theorem slot_inb (v20 v22 : BitVec 32) (h2 : v22.toNat ≤ 16384) (h1 : v20.toNat + 32 * ((v22.toNat + 31) / 32) ≤ 16416)
    (k : Fin (k0_t1_loop v22).trips) (r : ℕ) (hr : r < 32) (a : Fin 1) :
    (![(v20 + (0#32 + BitVec.ofNat 32 k * 1#32) * 32#32 + BitVec.ofNat 32 r).toNat] : Fin 1 → ℕ) a + S1.size a ≤ S16416.size a := by
  have hk := lt_of_lt_of_eq k.isLt (trips_val v22 h2)
  match a with
  | ⟨0, _⟩ =>
    show (v20 + (0#32 + BitVec.ofNat 32 k * 1#32) * 32#32 + BitVec.ofNat 32 r).toNat + 1 ≤ 16416
    rw [slot_nat v20 k r hr (by omega)]; omega

theorem slot_inb0 (v20 v22 : BitVec 32) (h2 : v22.toNat ≤ 16384) (h1 : v20.toNat + 32 * ((v22.toNat + 31) / 32) ≤ 16416)
    (k : Fin (k0_t1_loop v22).trips) (a : Fin 1) :
    (![(v20 + (0#32 + BitVec.ofNat 32 k * 1#32) * 32#32).toNat] : Fin 1 → ℕ) a + S1.size a ≤ S16416.size a := by
  have h := slot_inb v20 v22 h2 h1 k 0 (by decide) a
  rwa [BitVec.add_zero] at h

theorem loop1_ok (v22 : BitVec 32) (h2 : v22.toNat ≤ 16384) : (k0_t1_loop v22).OK := by
  refine ⟨(by decide : 0 < (1#32 : BitVec 32).toInt), ?_⟩
  show (0#32 : BitVec 32).toInt + (k0_t1_loop v22).trips * (1#32 : BitVec 32).toInt < 2 ^ 31
  rw [trips_val v22 h2]
  have i0 : (0#32 : BitVec 32).toInt = 0 := by decide
  have i1 : (1#32 : BitVec 32).toInt = 1 := by decide
  rw [i0, i1]; omega

theorem chk1_of (v20 v22 : BitVec 32) (h2 : v22.toNat ≤ 16384) (h1 : v20.toNat + 32 * ((v22.toNat + 31) / 32) ≤ 16416) :
    k0_chk1 v20 v22 := by
  refine ⟨?_, ?_, ?_⟩
  · unfold k0_chk1_0
    refine ⟨loop1_ok v22 h2, ?_⟩
    repeat' apply And.intro
    all_goals first
      | exact fun k a => slot_inb v20 v22 h2 h1 k _ (by decide) a
      | exact fun k a => slot_inb0 v20 v22 h2 h1 k a
  · unfold k0_chk1_1
    refine ⟨fun k a => slot_inb v20 v22 h2 h1 k _ (by decide) a, ?_, ?_⟩
    · exact Scf.rem_ok 0#32 (Scalar.subi (div32 (Scalar.subi (Scalar.addi v22 32#32) 1#32)) 0#32)
    · repeat' apply And.intro
      all_goals exact fun k _ => (no_trip2 v22 k).elim
  · unfold k0_chk1_2
    exact ⟨fun k _ => (no_trip2 v22 k).elim, fun k _ => (no_trip2 v22 k).elim⟩

theorem chk34_of (v22 v24 : BitVec 32) (h2 : v22.toNat ≤ 16384) (h8 : 8 ∣ v24.toNat)
    (h3 : v24.toNat + 32 * ((v22.toNat + 31) / 32) ≤ 21504) : k0_chk34 v22 v24 := by
  have hk : ∀ k : Fin (k0_t1_loop v22).trips, v24.toNat + 32 * (k.val + 1) ≤ 21504 := fun k => by
    have := lt_of_lt_of_eq k.isLt (trips_val v22 h2); omega
  refine ⟨fun k => ?_, fun k a => ?_, fun k => (no_trip2 v22 k).elim, fun k _ => (no_trip2 v22 k).elim⟩
  · show 8 ∣ (v24 + (0#32 + BitVec.ofNat 32 k * 1#32) * 32#32).toNat
    rw [slot_nat' v24 k (hk k)]; omega
  · match a with
    | ⟨0, _⟩ =>
      show (v24 + (0#32 + BitVec.ofNat 32 k * 1#32) * 32#32).toNat + 32 ≤ 21504
      rw [slot_nat' v24 k (hk k)]; have := hk k; omega
    | ⟨1, _⟩ => show 0 + 832 ≤ 832; omega

/-- The checks a cluster's pair addresses pass leave no wraparound: the slots of its trips end within the table. -/
theorem slots_fit (v20 v22 : BitVec 32) (hw : k0_chk1 v20 v22) :
    ∀ k, k < (k0_t1_loop v22).trips → v20.toNat + 32 * (k + 1) ≤ 16416 := by
  intro k
  have h0 : ∀ k : Fin (k0_t1_loop v22).trips, (v20 + (0#32 + BitVec.ofNat 32 k * 1#32) * 32#32 + 0#32).toNat + 1 ≤ 16416 :=
    fun k => k0_off2_inb v20 v22 hw k 0
  have h31 : ∀ k : Fin (k0_t1_loop v22).trips, (v20 + (0#32 + BitVec.ofNat 32 k * 1#32) * 32#32 + 31#32).toNat + 1 ≤ 16416 :=
    fun k => k0_off64_inb v20 v22 hw k 0
  have step : ∀ k, k < (k0_t1_loop v22).trips → v20.toNat + 32 * k ≤ 16416 → v20.toNat + 32 * (k + 1) ≤ 16416 := by
    intro k hk hb
    have e := h31 ⟨k, hk⟩
    have e0 := h0 ⟨k, hk⟩
    simp only [BitVec.toNat_add, BitVec.toNat_mul, BitVec.toNat_ofNat] at e e0
    omega
  have first : v20.toNat ≤ 16416 ∨ (k0_t1_loop v22).trips = 0 := by
    rcases Nat.eq_zero_or_pos (k0_t1_loop v22).trips with h | h
    · exact .inr h
    · left
      have e := h0 ⟨0, h⟩
      simp only [BitVec.toNat_add, BitVec.toNat_mul, BitVec.toNat_ofNat] at e
      have := v20.isLt
      omega
  induction k with
  | zero => intro hk; exact step 0 hk (by omega)
  | succ k ih => intro hk; exact step (k + 1) hk (ih (by omega))

/-- The same of the score rows a cluster's trips write. -/
theorem rows_fit (v22 v24 : BitVec 32) (hw : k0_chk34 v22 v24) :
    ∀ k, k < (k0_t1_loop v22).trips → v24.toNat + 32 * (k + 1) ≤ 21504 := by
  intro k
  have h0 : ∀ k : Fin (k0_t1_loop v22).trips, (v24 + (0#32 + BitVec.ofNat 32 k * 1#32) * 32#32).toNat + 32 ≤ 21504 :=
    fun k => k0_off66_inb v22 v24 hw k 0
  have step : ∀ k, k < (k0_t1_loop v22).trips → v24.toNat + 32 * k ≤ 21504 → v24.toNat + 32 * (k + 1) ≤ 21504 := by
    intro k hk hb
    have e0 := h0 ⟨k, hk⟩
    simp only [BitVec.toNat_add, BitVec.toNat_mul, BitVec.toNat_ofNat] at e0
    omega
  have first : v24.toNat ≤ 21504 ∨ (k0_t1_loop v22).trips = 0 := by
    rcases Nat.eq_zero_or_pos (k0_t1_loop v22).trips with h | h
    · exact .inr h
    · left
      have e := h0 ⟨0, h⟩
      simp only [BitVec.toNat_add, BitVec.toNat_mul, BitVec.toNat_ofNat] at e
      have := v24.isLt
      omega
  induction k with
  | zero => intro hk; exact step 0 hk (by omega)
  | succ k ih => intro hk; exact step (k + 1) hk (ih (by omega))

end Cert.KernelIdeal.Hand
-- ==== Proof.Body.lean ====
/-
  The kernel at one cluster: the codes are unpacked into the two scratch arrays of nibbles, then the loop writes the score
  rows of the cluster's pairs 32 at a time. What it leaves in the score array is `chunks` at the cluster's numbers.
-/
module

public import proofs.«01_k».proof.Proof.Trips

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type} [FloatOps F] [hF : Cert.KernelIdeal.Facts]

local notation "𝕄" => MT nD τ sig Unit (Elt F) ℕ (Pipeline.UD sig nD τ) ℕ

variable (c : Dev nD) (i : grid0.Coords)
  (arg6 : Memref sig .tc .vmem S4096x256 .i32) (harg6 : arg6.IsWhole) (arg7 : Memref sig .tc .vmem S1x832x256 .i8) (harg7 : arg7.IsWhole)
  (arg8 : Memref sig .tc .vmem S1x1x832 .f32) (harg8 : arg8.IsWhole)

section Loop

variable (v20 v22 v24 v26 : Elt F .i32) (hw1 : k0_chk1 v20 v22) (hw34 : k0_chk34 v22 v24)

set_option warn.classDefReducibility false in
/-- The loop over chunks: after `k` trips the score array is `chunks … k`. -/
@[sl_loop] def loopInv1 (T5 : BufOf (F := F) c tb5) (f6 : BufOf (F := F) c arg6) (f8 : BufOf (F := F) c arg8)
    (g0 : BufOf (F := F) c sc0) (g1 : BufOf (F := F) c sc1) (f9 : BufOf (F := F) c ob) :
    LoopInvTy_k0_t1 (F := F) Unit ℕ (Pipeline.UD sig nD τ) ℕ Variants.none c none Set.univ i tb1 (Memref.isWhole_whole _) tb2 (Memref.isWhole_whole _)
      tb3 (Memref.isWhole_whole _) tb4 (Memref.isWhole_whole _) tb5 (Memref.isWhole_whole _)
      arg6 harg6 arg7 harg7 arg8 harg8 ob (Memref.isWhole_whole _) sc0 (Memref.isWhole_whole _) sc1 (Memref.isWhole_whole _)
      sc2 (Memref.isWhole_whole _) sc3 (Memref.isWhole_whole _) cc0_scratch4 v20 v22 hw1 v24 hw34 v26 0#32 where
  inv k _ := iprop(⌜∀ x, BitVec.toNat (w := 32) (T5 x) < 4096⌝ ∗ tpt c tb5 T5 ∗ pt c arg6 f6 ∗ pt c arg8 f8 ∗ pt c sc0 g0 ∗ pt c sc1 g1
    ∗ (∃ g, pt c sc2 g) ∗ (∃ g, pt c sc3 g)
    ∗ pt c ob (chunks (F := F) (arg6.view.read (Elt F) f6) T5 v20.toNat v24.toNat v26 g0 g1 (arg8.view.read (Elt F) f8) f9 k)
    ∗ semVal ((c : Thread nD τ), SemLoc.dma cc0_scratch4.sem) 0 ∗ (∃ W, owes (c : Thread nD τ) 0 W))
  step k acc := by
    iintro ⟨%hq, HT, H6, H8, H0, H1, H2, H3, HO, HS, HW⟩
    icases H2 with ⟨%g2, H2⟩
    icases H3 with ⟨%g3, H3⟩
    icases HW with ⟨%W, HW⟩
    iapply (wp_wand_r Idealize.ShloMosaic.frame (wpE (defs₀ (F := F)) Variants.none (c : Thread nD τ) none) Set.univ)
    isplitr []
    · iapply (trip_run c i arg6 harg6 arg7 harg7 arg8 harg8 v20 v22 v24 v26 hw1 hw34 k acc T5 hq f6 f8 g0 g1 g2 g3 _ W
        (slots_fit v20 v22 hw1 k k.isLt) (rows_fit v22 v24 hw34 k k.isLt))
      isplitl [HT]; · iexact HT
      isplitl [H6]; · iexact H6
      isplitl [H8]; · iexact H8
      isplitl [H0]; · iexact H0
      isplitl [H1]; · iexact H1
      isplitl [H2]; · iexact H2
      isplitl [H3]; · iexact H3
      isplitl [HO]; · iexact HO
      isplitl [HS]; · iexact HS
      iexact HW
    · iintro %_ H
      isplitr; · ipureintro; exact hq
      iexact H

end Loop

abbrev bodyK := cc0_scores (F := F) i tb1 (Memref.isWhole_whole _) tb2 (Memref.isWhole_whole _) tb3 (Memref.isWhole_whole _) tb4 (Memref.isWhole_whole _) tb5 (Memref.isWhole_whole _)
  arg6 harg6 arg7 harg7 arg8 harg8 ob (Memref.isWhole_whole _) sc0 (Memref.isWhole_whole _) sc1 (Memref.isWhole_whole _) sc2 (Memref.isWhole_whole _) sc3 (Memref.isWhole_whole _) cc0_scratch4

/-- The place of cluster `i` in a table of 640 words. -/
def cluster (i : grid0.Coords) : S640.Idx := ix1 ⟨(i 0).val, (i 0).isLt⟩

theorem cluster_read (tb : Memref sig .tc .smem S640 .i32) (T : BufOf (F := F) c tb) (h : 0 < (Rect.unit (s := S640) (k0_off1 i) S1.size (k0_off1_inb i)).shape.numel) :
    View.readAt (Elt F) tb.view (Rect.unit (s := S640) (k0_off1 i) S1.size (k0_off1_inb i)).toLoadRect T (Shape.Idx.first h)
      = tb.view.read (Elt F) T (cluster i) := by
  rw [View.readAt_apply]
  refine congrArg _ (funext fun a => ?_)
  match a with
  | ⟨0, _⟩ =>
    apply Fin.ext
    rw [LoadRect.idx_apply]
    show k0_off1 i 0 + 1 * 0 = (i 0).val
    rw [k0_off1_eq]; rfl

theorem body_run (T1 : BufOf (F := F) c tb1) (T2 : BufOf (F := F) c tb2) (T3 : BufOf (F := F) c tb3) (T4 : BufOf (F := F) c tb4) (T5 : BufOf (F := F) c tb5)
    (hq : ∀ x, BitVec.toNat (w := 32) (T5 x) < 4096)
    (h2 : BitVec.toNat (w := 32) (T2 (cluster i)) ≤ 16384)
    (h1 : BitVec.toNat (w := 32) (T1 (cluster i)) + 32 * ((BitVec.toNat (w := 32) (T2 (cluster i)) + 31) / 32) ≤ 16416)
    (h8 : 8 ∣ BitVec.toNat (w := 32) (T3 (cluster i)))
    (h3 : BitVec.toNat (w := 32) (T3 (cluster i)) + 32 * ((BitVec.toNat (w := 32) (T2 (cluster i)) + 31) / 32) ≤ 21504)
    (f6 : BufOf (F := F) c arg6) (f7 : BufOf (F := F) c arg7) (f8 : BufOf (F := F) c arg8) (g0 : BufOf (F := F) c sc0) (g1 : BufOf (F := F) c sc1)
    (g2 : BufOf (F := F) c sc2) (g3 : BufOf (F := F) c sc3) (f9 : BufOf (F := F) c ob) (W : Waits sig Unit) :
    iprop(tpt c tb1 T1 ∗ tpt c tb2 T2 ∗ tpt c tb3 T3 ∗ tpt c tb4 T4 ∗ tpt c tb5 T5 ∗ pt c arg6 f6 ∗ pt c arg7 f7 ∗ pt c arg8 f8
      ∗ pt c sc0 g0 ∗ pt c sc1 g1 ∗ pt c sc2 g2 ∗ pt c sc3 g3 ∗ pt c ob f9
      ∗ semVal ((c : Thread nD τ), SemLoc.dma cc0_scratch4.sem) 0 ∗ owes (c : Thread nD τ) 0 W)
    ⊢ wp frame (wpE (defs₀ (F := F)) Variants.none c none) Set.univ (bodyK i arg6 harg6 arg7 harg7 arg8 harg8)
      (fun _ => iprop(tpt c tb1 T1 ∗ tpt c tb2 T2 ∗ tpt c tb3 T3 ∗ tpt c tb4 T4 ∗ tpt c tb5 T5 ∗ pt c arg6 f6 ∗ pt c arg7 f7 ∗ pt c arg8 f8
        ∗ (∃ g, pt c sc0 g) ∗ (∃ g, pt c sc1 g) ∗ (∃ g, pt c sc2 g) ∗ (∃ g, pt c sc3 g)
        ∗ pt c ob (chunks (F := F) (arg6.view.read (Elt F) f6) T5 (BitVec.toNat (w := 32) (T1 (cluster i))) (BitVec.toNat (w := 32) (T3 (cluster i)))
            (T4 (cluster i)) (k0_pay68 (arg7.view.read (Elt F) f7)) (k0_pay69 (arg7.view.read (Elt F) f7)) (arg8.view.read (Elt F) f8) f9
            ((BitVec.toNat (w := 32) (T2 (cluster i)) + 31) / 32))
        ∗ semVal ((c : Thread nD τ), SemLoc.dma cc0_scratch4.sem) 0 ∗ (∃ W', owes (c : Thread nD τ) 0 W'))) := by
  unfold bodyK
  sl_unfold [cc0_scores]
  have e1 : ∀ h, View.readAt (Elt F) tb1.view (Rect.unit (s := S640) (k0_off1 i) S1.size (k0_off1_inb i)).toLoadRect T1 (Shape.Idx.first h) = T1 (cluster i) :=
    fun h => cluster_read c i tb1 T1 h
  have e2 : ∀ h, View.readAt (Elt F) tb2.view (Rect.unit (s := S640) (k0_off1 i) S1.size (k0_off1_inb i)).toLoadRect T2 (Shape.Idx.first h) = T2 (cluster i) :=
    fun h => cluster_read c i tb2 T2 h
  have e3 : ∀ h, View.readAt (Elt F) tb3.view (Rect.unit (s := S640) (k0_off1 i) S1.size (k0_off1_inb i)).toLoadRect T3 (Shape.Idx.first h) = T3 (cluster i) :=
    fun h => cluster_read c i tb3 T3 h
  have e4 : ∀ h, View.readAt (Elt F) tb4.view (Rect.unit (s := S640) (k0_off1 i) S1.size (k0_off1_inb i)).toLoadRect T4 (Shape.Idx.first h) = T4 (cluster i) :=
    fun h => cluster_read c i tb4 T4 h
  iintro ⟨HT1, HT2, HT3, HT4, HT5, H6, H7, H8, H0, H1, H2, H3, HO, HS, HW⟩
  have c1 : ∀ a b : BitVec 32, a = T1 (cluster i) → b = T2 (cluster i) → k0_chk1 a b := fun a b ha hb => by
    subst ha hb; exact chk1_of _ _ h2 h1
  have c34 : ∀ a b : BitVec 32, a = T2 (cluster i) → b = T3 (cluster i) → k0_chk34 a b := fun a b ha hb => by
    subst ha hb; exact chk34_of _ _ h2 h8 h3
  sl_exec (disch := first | exact c1 _ _ (e1 _) (e2 _) | exact c34 _ _ (e2 _) (e3 _))
  have ev : View.readAt (Elt F) arg7.view (Rect.unit (s := S1x832x256) ![0, 0, 0] S1x832x256.size inb_S1x832x256_S1x832x256_0_0_0).toLoadRect f7
      = arg7.view.read (Elt F) f7 := by
    funext z
    rw [View.readAt_apply]
    refine congrArg _ (funext fun a => Fin.ext ?_)
    rw [LoadRect.idx_apply]
    match a with
    | ⟨0, _⟩ => show 0 + 1 * (z 0).val = (z 0).val; omega
    | ⟨1, _⟩ => show 0 + 1 * (z 1).val = (z 1).val; omega
    | ⟨2, _⟩ => show 0 + 1 * (z 2).val = (z 2).val; omega
  have hy : ∀ y : S832x256.Idx, (Rect.unit (s := S832x256) ![0, 0] S832x256.size inb_S832x256_S832x256_0_0).emb y = y := fun y => by
    funext a; apply Fin.ext; rw [Rect.emb_apply]
    match a with
    | ⟨0, _⟩ => show 0 + 1 * (y 0).val = (y 0).val; omega
    | ⟨1, _⟩ => show 0 + 1 * (y 1).val = (y 1).val; omega
  have w0 : sc0.view.writes (Elt F) sc0.view.junk (body_run.sl.H0_1 c arg7 f7) = k0_pay68 (arg7.view.read (Elt F) f7) := by
    have hr : ∀ W : sc0.view.ty.Contents (Elt F), W = View.read (Elt F) sc0.view W := fun _ => rfl
    refine (hr _).trans (funext fun y => ?_)
    unfold body_run.sl.H0_1
    refine (View.read_writes_cons_hit sc0.view _ _ _ [] y y (hy y)).trans ?_
    rw [ev]
  have w1 : sc1.view.writes (Elt F) sc1.view.junk (body_run.sl.H1_1 c arg7 f7) = k0_pay69 (arg7.view.read (Elt F) f7) := by
    have hr : ∀ W : sc1.view.ty.Contents (Elt F), W = View.read (Elt F) sc1.view W := fun _ => rfl
    refine (hr _).trans (funext fun y => ?_)
    unfold body_run.sl.H1_1
    refine (View.read_writes_cons_hit sc1.view _ _ _ [] y y (hy y)).trans ?_
    rw [ev]
  have r1 : body_run.sl.r c i T1 = T1 (cluster i) := e1 _
  have r2 : body_run.sl.r_1 c i T2 = T2 (cluster i) := e2 _
  have r3 : body_run.sl.r_2 c i T3 = T3 (cluster i) := e3 _
  have r4 : body_run.sl.r_3 c i T4 = T4 (cluster i) := e4 _
  have rt : Scf.trips (k0_t1_loop (body_run.sl.r_1 c i T2)).lb (k0_t1_loop (body_run.sl.r_1 c i T2)).ub (k0_t1_loop (body_run.sl.r_1 c i T2)).st
      = (BitVec.toNat (w := 32) (T2 (cluster i)) + 31) / 32 := by
    rw [r2]; exact trips_val _ h2
  rw [w0, w1, rt, r1, r3, r4]
  sl_step
  isplitl [HT1]; · iexact HT1
  isplitl [HT2]; · iexact HT2
  isplitl [HT3]; · iexact HT3
  isplitl [HT4]; · iexact HT4
  isplitl [HT5]; · iexact HT5
  isplitl [H6]; · iexact H6
  isplitl [H7]; · iexact H7
  isplitl [H8]; · iexact H8
  isplitl [H0]; · iexists _; iexact H0
  isplitl [H1]; · iexists _; iexact H1
  isplitl [H2]; · iexists _; iexact H2
  isplitl [H3]; · iexists _; iexact H3
  isplitl [HO]; · iexact HO
  isplitl [HS]; · iexact HS
  iexists _; iexact HW

end Cert.KernelIdeal.Hand
-- ==== Proof.Region.lean ====
/-
  The launch of the kernel: the tables and arrays its host lines leave, the proof data of the pipelined region (the score
  array held at contents that a predicate describes step by step), and the body's obligation at a grid point.
-/
module

public import proofs.«01_k».proof.Proof.Body
public import Idealize.ShloMosaic.Lib.Pipeline.FrameSuffix0

@[expose] public section

set_option maxRecDepth 2000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx (ix1 ix2)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host lines before the kernel, stretch by stretch. -/
abbrev opsBefore : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14]
/-- The host lines after the kernel. -/
abbrev opsAfter : List (List (HloOp τ sig (Elt F))) := [hostOps1, hostOps1_1]

/-- Every buffer as the host lines before the kernel leave it. -/
def atEntry (c : Dev nD) : Valuation τ sig (Elt F) := StableHlo.after opsBefore.flatten (fun b => m (c, b))
/-- One buffer of it. -/
abbrev V (c : Dev nD) (b : Ref sig .tc) : Buf (Elt F) ((c.tc : Thread nD τ).loc b) := atEntry m c (Proc.devRef .tc b)

/-- The tables' contents at the kernel's entry. -/
def tabs : (pcfg0 (F := F)).Adm := ⟨fun k => V m 0 (pre0.ref k), trivial⟩
abbrev tabsOf : (p : Fin 1) → (pcfgs (F := F) p).Adm := fun _ => tabs m
abbrev cfgA := cfg0 (tabs m)

theorem dev0 (c : Dev nD) : c = 0 := Subsingleton.elim _ _

/-- The five tables. -/
def T1 : S640.Idx → BitVec 32 := V m 0 main_v17
def T2 : S640.Idx → BitVec 32 := V m 0 main_v15
def T3 : S640.Idx → BitVec 32 := V m 0 main_v26
def T4 : S640.Idx → BitVec 32 := V m 0 main_arg4
def T5 : S16416.Idx → BitVec 32 := V m 0 main_v40

/-- What the kernel needs of the tables: no chunk leaves the query table or the score array, chunks start at multiples of 8. -/
structure TablesOk (m : (ℓ : Loc nD τ sig) → Buf (Elt F) ℓ) : Prop where
  query : ∀ x, (T5 m x).toNat < 4096
  count : ∀ i, (T2 m i).toNat ≤ 16384
  slots : ∀ i, (T1 m i).toNat + 32 * (((T2 m i).toNat + 31) / 32) ≤ 16416
  aligned : ∀ i, 8 ∣ (T3 m i).toNat
  rows : ∀ i, (T3 m i).toNat + 32 * (((T2 m i).toNat + 31) / 32) ≤ 21504

/-- A window's block at grid point `t`, as the window's array holds it at the kernel's entry. -/
def blk0 (c : Dev nD) (t : Fin grid0.N) : S4096x256.Idx → Elt F .i32 := (((cfgA m).win 0).blk t).view.read (Elt F) (V m c main_arg0)
def blk1 (c : Dev nD) (t : Fin grid0.N) : S1x832x256.Idx → Elt F .i8 := (((cfgA m).win 1).blk t).view.read (Elt F) (V m c main_arg2)
def blk2 (c : Dev nD) (t : Fin grid0.N) : S1x1x832.Idx → Elt F .f32 := (((cfgA m).win 2).blk t).view.read (Elt F) (V m c main_v41)

/-- What one grid step makes of the score array `f`. -/
def stepAt (c : Dev nD) (t : Fin grid0.N) (f : S21504x832.Idx → Elt F .f32) : S21504x832.Idx → Elt F .f32 :=
  chunks (F := F) (blk0 m c t) (T5 m) (T1 m (cluster (grid0.coords t))).toNat (T3 m (cluster (grid0.coords t))).toNat
    (T4 m (cluster (grid0.coords t))) (k0_pay68 (blk1 m c t)) (k0_pay69 (blk1 m c t)) (blk2 m c t) f
    (((T2 m (cluster (grid0.coords t))).toNat + 31) / 32)

/-! ## The proof data -/

/-- The kernel's own transfers' cell. -/
abbrev osem0 : Fin 1 → SemLoc sig := fun j => (![SemLoc.dma cc0_scratch4.sem] : Fin 1 → SemLoc sig) j

/-- The invariant: the scratch arrays, the cell at zero, the tables, the score array at contents `Pr` describes. -/
def Inv (Pr : ℕ → (S21504x832.Idx → Elt F .f32) → Prop) (c : Dev nD) (n : ℕ) : sProp 𝕄 :=
  iprop((∃ g, pt (F := F) c sc0 g) ∗ (∃ g, pt (F := F) c sc1 g) ∗ (∃ g, pt (F := F) c sc2 g) ∗ (∃ g, pt (F := F) c sc3 g)
    ∗ semVal ((c : Thread nD τ), SemLoc.dma cc0_scratch4.sem) 0
    ∗ (tpt (F := F) c tb1 (T1 m) ∗ tpt (F := F) c tb2 (T2 m) ∗ tpt (F := F) c tb3 (T3 m) ∗ tpt (F := F) c tb4 (T4 m) ∗ tpt (F := F) c tb5 (T5 m))
    ∗ ∃ f : BufOf (F := F) c ob, ⌜Pr n f⌝ ∗ pt (F := F) c ob f)

variable (Pr : ℕ → (S21504x832.Idx → Elt F .f32) → Prop)

def dats (_ : Fin 1) (c : Dev nD) : Dat τ (Elt F) Unit ℕ (Pipeline.UD sig nD τ) ℕ (cfgA m) c where
  A w := V m c (Pipeline.arrRef spec0 w)
  after w t := match w with
    | ⟨0, _⟩ => blk0 m c t
    | ⟨1, _⟩ => blk1 m c t
    | ⟨2, _⟩ => blk2 m c t
  Φ n := Inv m Pr c n.val
  q _ := fullShare
  owed _ := 0

theorem A_eq (c : Dev nD) (w : Fin (cfgA m).W) : (dats m Pr 0 c).A w = V m c (Pipeline.arrRef spec0 w) := by
  dsimp only [dats]

theorem before0 (c : Dev nD) (t : Fin (cfgA m).N) (d) : (dats m Pr 0 c).before 0 t d = blk0 m c t :=
  ((dats m Pr 0 c).before_in_eq_fetched 0 rfl (fun _ => rfl) (fun _ _ _ => rfl) (fun _ => rfl) t d).trans rfl
theorem before1 (c : Dev nD) (t : Fin (cfgA m).N) (d) : (dats m Pr 0 c).before 1 t d = blk1 m c t :=
  ((dats m Pr 0 c).before_in_eq_fetched 1 rfl (fun _ => rfl) (fun _ _ _ => rfl) (fun _ => rfl) t d).trans rfl
theorem before2 (c : Dev nD) (t : Fin (cfgA m).N) (d) : (dats m Pr 0 c).before 2 t d = blk2 m c t :=
  ((dats m Pr 0 c).before_in_eq_fetched 2 rfl (fun _ => rfl) (fun _ _ _ => rfl) (fun _ => rfl) t d).trans rfl

abbrev ms0 (t : Fin (cfgA m).N) : Memref sig .tc .vmem S4096x256 .i32 := spec0_0.stage ((cfgA m).slots t 0)
abbrev ms1 (t : Fin (cfgA m).N) : Memref sig .tc .vmem S1x832x256 .i8 := spec0_1.stage ((cfgA m).slots t 1)
abbrev ms2 (t : Fin (cfgA m).N) : Memref sig .tc .vmem S1x1x832 .f32 := spec0_2.stage ((cfgA m).slots t 2)
abbrev hs0 (t : Fin (cfgA m).N) : (ms0 m t).IsWhole := hstage0_0 (((cfgA m).slots t 0).cast nbuf0_0)
abbrev hs1 (t : Fin (cfgA m).N) : (ms1 m t).IsWhole := hstage0_1 (((cfgA m).slots t 1).cast nbuf0_1)
abbrev hs2 (t : Fin (cfgA m).N) : (ms2 m t).IsWhole := hstage0_2 (((cfgA m).slots t 2).cast nbuf0_2)

/-- Owning a whole memref is holding its buffer at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : BufOf (F := F) c M, ⌜M.view.read (Elt F) f = X⌝ ∗ pt (F := F) c M f) := by
  unfold owns pt; rw [h.set_eq_univ]

def bodyPre (c : Dev nD) (t : Fin (cfgA m).N) : sProp 𝕄 :=
  iprop((dats m Pr 0 c).Φ t.castSucc ∗ (dats m Pr 0 c).owesAt () t.castSucc
    ∗ (∃ d, owns (c : Thread nD τ) (ms0 m t) fullShare ((dats m Pr 0 c).before 0 t d))
    ∗ (∃ d, owns (c : Thread nD τ) (ms1 m t) fullShare ((dats m Pr 0 c).before 1 t d))
    ∗ (∃ d, owns (c : Thread nD τ) (ms2 m t) fullShare ((dats m Pr 0 c).before 2 t d)))
def bodyPost (c : Dev nD) (t : Fin (cfgA m).N) : sProp 𝕄 :=
  iprop((dats m Pr 0 c).Φ t.succ ∗ (dats m Pr 0 c).owesAt () t.succ
    ∗ owns (c : Thread nD τ) (ms0 m t) fullShare ((dats m Pr 0 c).after 0 t)
    ∗ owns (c : Thread nD τ) (ms1 m t) fullShare ((dats m Pr 0 c).after 1 t)
    ∗ owns (c : Thread nD τ) (ms2 m t) fullShare ((dats m Pr 0 c).after 2 t))

theorem sound_body (hT : TablesOk m) (c : Dev nD) (hPr : ∀ (t : Fin grid0.N) f, Pr t.val f → Pr (t.val + 1) (stepAt m c t f)) (t : Fin (cfgA m).N) :
    bodyPre m Pr c t ⊢ wp frame (wpE (defs₀ (F := F)) Variants.none c none) Set.univ
      (bodyK (F := F) (grid0.coords t) (ms0 m t) (hs0 m t) (ms1 m t) (hs1 m t) (ms2 m t) (hs2 m t)) (fun _ => bodyPost m Pr c t) := by
  unfold bodyPre bodyPost
  simp only [before0, before1, before2, owns_pt c _ (hs0 m t), owns_pt c _ (hs1 m t), owns_pt c _ (hs2 m t)]
  rw [show (dats m Pr 0 c).Φ t.castSucc = Inv m Pr c t.val from rfl, show (dats m Pr 0 c).Φ t.succ = Inv m Pr c (t.val + 1) from rfl,
    show (dats m Pr 0 c).after 0 t = blk0 m c t from rfl, show (dats m Pr 0 c).after 1 t = blk1 m c t from rfl,
    show (dats m Pr 0 c).after 2 t = blk2 m c t from rfl]
  unfold Dat.owesAt Pipeline.owesWithin Inv
  rw [show (dats m Pr 0 c).owed t.castSucc = 0 from rfl, show (dats m Pr 0 c).owed t.succ = 0 from rfl]
  iintro ⟨⟨⟨%g0, S0⟩, ⟨%g1, S1⟩, ⟨%g2, S2⟩, ⟨%g3, S3⟩, HS, ⟨HT1, HT2, HT3, HT4, HT5⟩, ⟨%f9, %hf9, HO⟩⟩, ⟨%W, -, HW⟩, ⟨%d0, %f6, %h6, H6⟩, ⟨%d1, %f7, %h7, H7⟩, ⟨%d2, %f8, %h8, H8⟩⟩
  iapply (wp_wand_r Idealize.ShloMosaic.frame (wpE (defs₀ (F := F)) Variants.none (c : Thread nD τ) none) Set.univ)
  isplitl [S0 S1 S2 S3 HS HT1 HT2 HT3 HT4 HT5 HO HW H6 H7 H8]
  · iapply (body_run c (grid0.coords t) (ms0 m t) (hs0 m t) (ms1 m t) (hs1 m t) (ms2 m t) (hs2 m t) (T1 m) (T2 m) (T3 m) (T4 m) (T5 m)
      hT.query (hT.count _) (hT.slots _) (hT.aligned _) (hT.rows _) f6 f7 f8 g0 g1 g2 g3 f9 W)
    isplitl [HT1]; · iexact HT1
    isplitl [HT2]; · iexact HT2
    isplitl [HT3]; · iexact HT3
    isplitl [HT4]; · iexact HT4
    isplitl [HT5]; · iexact HT5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [HO]; · iexact HO
    isplitl [HS]; · iexact HS
    iexact HW
  · iintro %_ ⟨HT1, HT2, HT3, HT4, HT5, H6, H7, H8, S0, S1, S2, S3, HO, HS, ⟨%W', HW⟩⟩
    rw [h6, h7, h8, owns_pt c _ (hs0 m t) (blk0 m c t), owns_pt c _ (hs1 m t) (blk1 m c t), owns_pt c _ (hs2 m t) (blk2 m c t)]
    isplitl [S0 S1 S2 S3 HS HT1 HT2 HT3 HT4 HT5 HO]
    · isplitl [S0]; · iexact S0
      isplitl [S1]; · iexact S1
      isplitl [S2]; · iexact S2
      isplitl [S3]; · iexact S3
      isplitl [HS]; · iexact HS
      isplitl [HT1 HT2 HT3 HT4 HT5]
      · isplitl [HT1]; · iexact HT1
        isplitl [HT2]; · iexact HT2
        isplitl [HT3]; · iexact HT3
        isplitl [HT4]; · iexact HT4
        iexact HT5
      iexists _
      isplitr
      swap; · iexact HO
      ipureintro
      exact hPr t f9 hf9
    isplitl [HW]
    · iexists W'; isplitr; · ipureintro; exact fun _ _ => Or.inl trivial
      iexact HW
    isplitl [H6]; · iexists f6; isplitr; · ipureintro; exact h6
                    iexact H6
    isplitl [H7]; · iexists f7; isplitr; · ipureintro; exact h7
                    iexact H7
    iexists f8; isplitr; · ipureintro; exact h8
    iexact H8

theorem defs₀_row (t : Fin (cfgA m).N) :
    defs₀ (F := F) .tc (cfgA m).body ((cfgA m).bodyArgs t ((cfgA m).slots t))
      = bodyK (F := F) (grid0.coords t) (ms0 m t) (hs0 m t) (ms1 m t) (hs1 m t) (ms2 m t) (hs2 m t) := by
  unfold defs₀; rw [Defs.onTc_tc]

theorem body_obligation (hT : TablesOk m) (c : Dev nD) (hPr : ∀ (t : Fin grid0.N) f, Pr t.val f → Pr (t.val + 1) (stepAt m c t f)) :
    BodyObligation (dats (F := F) m Pr 0 c) (defs₀ (F := F)) Variants.none () Set.univ := fun t => by
  rw [bigSep_W0, bigSep_W0, defs₀_row]
  exact triple_restated (sound_body m Pr hT c hPr t) rfl .rfl fun _ => .rfl

end Cert.KernelIdeal.Hand
-- ==== Proof.Run.lean ====
/-
  The program's run: its frame (it ends, nothing faults, every argument array as it was, every semaphore at zero) and what
  the score array holds when the kernel returns, `outAt` after the last grid step.
-/
module

public import proofs.«01_k».proof.Proof.Region

@[expose] public section

set_option maxRecDepth 2000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (Pr : ℕ → (S21504x832.Idx → Elt F .f32) → Prop)

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch4.sem) 0) := by
  rw [Pipeline.ownSems0_eq_of_list c osem0 [0] (by decide) (by decide)]; rfl

/-- The buffer the kernel writes itself, and those the lines after it write. -/
def R0 : Finset (Ref sig .tc) := {main_v42}
def T0 : Finset (Ref sig .tc) := {main_call7_v0, main_v43, main_v44}

theorem R0_sub : R0 ⊆ Pipeline.restRefsP sig pre0 spec0 \ ∅ := by decide

theorem owned_eq (c : Dev nD) : (Pipeline.owned R0 c : sProp 𝕄) = iprop(∃ f : BufOf (F := F) c ob, pt c ob f) := by
  unfold Pipeline.owned; rw [BI.bigSep_eq_bigSepL_of_eq [main_v42] (by decide) (by decide)]; rfl

theorem held_eq (G : (c : Dev nD) → (b : Ref sig .tc) → Buf (Elt F) ((c.tc : Thread nD τ).loc b)) (c : Dev nD) :
    (bigSep R0 fun b => ((c.tc : Thread nD τ).loc b) ↦{fullShare} G c b : sProp 𝕄) = iprop(pt (F := F) c ob (G c main_v42)) := by
  rw [BI.bigSep_eq_bigSepL_of_eq [main_v42] (by decide) (by decide)]; rfl

/-- The tables, one by one. -/
theorem tables_eq (c : Dev nD) :
    (Pipeline.ΦT (U := Pipeline.UD sig nD τ) pre0 (tabs m).1 c : sProp 𝕄)
      = iprop(tpt (F := F) c tb1 (T1 m) ∗ tpt (F := F) c tb2 (T2 m) ∗ tpt (F := F) c tb3 (T3 m) ∗ tpt (F := F) c tb4 (T4 m) ∗ tpt (F := F) c tb5 (T5 m)) := by
  unfold Pipeline.ΦT Pipeline.prefHeld
  rw [bigSep_univ_eq_bigSepL [(0 : Fin 5), 1, 2, 3, 4] (by decide) (by decide)]
  have e2 : (tabs m).1 (1 : Fin 5) = T2 m := by unfold tabs T2; dsimp only; rfl
  have h1 : (((c.tc : Thread nD τ).loc (pre0.ref 0)) ↦{fullShare.right} (tabs m).1 0 : sProp 𝕄) = tpt (F := F) c tb1 (T1 m) := rfl
  have h2 : (((c.tc : Thread nD τ).loc (pre0.ref 1)) ↦{fullShare.right} (tabs m).1 1 : sProp 𝕄) = tpt (F := F) c tb2 (T2 m) := by rw [e2]; rfl
  have h3 : (((c.tc : Thread nD τ).loc (pre0.ref 2)) ↦{fullShare.right} (tabs m).1 2 : sProp 𝕄) = tpt (F := F) c tb3 (T3 m) := rfl
  have h4 : (((c.tc : Thread nD τ).loc (pre0.ref 3)) ↦{fullShare.right} (tabs m).1 3 : sProp 𝕄) = tpt (F := F) c tb4 (T4 m) := rfl
  have h5 : (((c.tc : Thread nD τ).loc (pre0.ref 4)) ↦{fullShare.right} (tabs m).1 4 : sProp 𝕄) = tpt (F := F) c tb5 (T5 m) := rfl
  rw [← h1, ← h2, ← h3, ← h4, ← h5]; rfl

theorem main_lines (c : Dev nD) : main (F := F) c
    = Pipeline.chain (opsBefore.map StableHlo.seq ++ [Prog.lift (.customCall (Pipeline.entry 0) ())] ++ opsAfter.map StableHlo.seq) :=
  main_chain c

theorem before_sub : (opsBefore (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub⟩

theorem before_fresh : (opsBefore (F := F)).Forall fun ops => ops.Forall fun op => op.fresh = ∅ := by
  simp only [List.Forall]; repeat' apply And.intro
  all_goals rfl

theorem hmain : Pipeline.HMainPK (Ix := Unit) (Name := ℕ) (U := Pipeline.UD sig nD τ) (Lvl := ℕ) pcfgs 0 defs₀ Variants.none m (main (F := F))
    (fun c b => atEntry m c (Proc.devRef .tc b)) (fun _ => Pipeline.chain (opsAfter.map StableHlo.seq)) :=
  Pipeline.hmainP_around pcfgs 0 defs₀ Variants.none m main opsBefore opsAfter before_sub before_fresh main_lines

theorem after_sub : ∀ ops ∈ opsAfter (F := F), ∀ op ∈ ops, op.bufs ⊆ Pipeline.tailRefs (τ := τ) sig pre0 spec0 := by
  intro ops ho op h
  refine Pipeline.sub_tailRefs pre0 spec0 op ?_ ?_
  · have := List.forall_iff_forall_mem.mp (show (opsAfter (F := F)).Forall fun ops => ops.Forall fun op => op.bufs ⊆ StableHlo.tcRefs τ sig from
      ⟨hostOps1_sub, hostOps1_1_sub⟩) ops ho
    exact List.forall_iff_forall_mem.mp this op h
  · simp only [List.mem_cons, List.not_mem_nil, or_false] at ho
    rcases ho with rfl | rfl <;> simp only [List.mem_cons, List.not_mem_nil, or_false] at h
    · rcases h with rfl | rfl
      · exact (by decide : ∀ k, Proc.devRef (τ := τ) .tc (pre0.ref k) ∉ ({Proc.devRef .tc main_v37_1, Proc.devRef .tc main_call7_v0} : Finset (DevRef τ sig)))
      · exact (by decide : ∀ k, Proc.devRef (τ := τ) .tc (pre0.ref k) ∉ ({Proc.devRef .tc main_v42, Proc.devRef .tc main_call7_v0, Proc.devRef .tc main_v43} : Finset (DevRef τ sig)))
    · subst h
      exact (by decide : ∀ k, Proc.devRef (τ := τ) .tc (pre0.ref k) ∉ ({Proc.devRef .tc main_v43, Proc.devRef .tc main_v44} : Finset (DevRef τ sig)))

theorem after_fresh : ∀ ops ∈ opsAfter (F := F), ∀ op ∈ ops, op.fresh = ∅ := by
  intro ops ho op h
  simp only [List.mem_cons, List.not_mem_nil, or_false] at ho
  rcases ho with rfl | rfl <;> simp only [List.mem_cons, List.not_mem_nil, or_false] at h
  · rcases h with rfl | rfl <;> rfl
  · subst h; rfl

theorem after_keep : ∀ ops ∈ opsAfter (F := F), ∀ op ∈ ops, ∀ w, Proc.devRef .tc (Pipeline.arrRef spec0 w) ∉ op.writes := by
  intro ops ho op h
  simp only [List.mem_cons, List.not_mem_nil, or_false] at ho
  rcases ho with rfl | rfl <;> simp only [List.mem_cons, List.not_mem_nil, or_false] at h
  · rcases h with rfl | rfl
    · exact (by decide : ∀ w, Proc.devRef (τ := τ) .tc (Pipeline.arrRef spec0 w) ∉ ({Proc.devRef .tc main_call7_v0} : Finset (DevRef τ sig)))
    · exact (by decide : ∀ w, Proc.devRef (τ := τ) .tc (Pipeline.arrRef spec0 w) ∉ ({Proc.devRef .tc main_v43} : Finset (DevRef τ sig)))
  · subst h
    exact (by decide : ∀ w, Proc.devRef (τ := τ) .tc (Pipeline.arrRef spec0 w) ∉ ({Proc.devRef .tc main_v44} : Finset (DevRef τ sig)))

theorem after_writes : ∀ ops ∈ opsAfter (F := F), ∀ op ∈ ops, ∀ b : Ref sig .tc, Proc.devRef .tc b ∈ op.writes → b ∈ T0 := by
  intro ops ho op h
  simp only [List.mem_cons, List.not_mem_nil, or_false] at ho
  rcases ho with rfl | rfl <;> simp only [List.mem_cons, List.not_mem_nil, or_false] at h
  · rcases h with rfl | rfl
    · intro b hb; rw [Proc.devRef_injective _ (Finset.mem_singleton.mp hb)]; decide
    · intro b hb; rw [Proc.devRef_injective _ (Finset.mem_singleton.mp hb)]; decide
  · subst h; intro b hb; rw [Proc.devRef_injective _ (Finset.mem_singleton.mp hb)]; decide

theorem hpf : ∀ (c : Dev nD) k, atEntry m c (Proc.devRef .tc (pre0.ref k)) = (tabs m).1 k := fun c k => by rw [dev0 c]; rfl

/-! ## The frame -/

/-- Nothing said of the score array's contents. -/
abbrev anyPr : ℕ → (S21504x832.Idx → Elt F .f32) → Prop := fun _ _ => True

set_option backward.isDefEq.respectTransparency.types false in
theorem run_frame (hT : TablesOk m) : θ_run defs (onTc (τ := τ) (main (F := F))) (s₀ m ρ)
    (fun r => Pipeline.FramePostR (Pipeline.pin pcfgs (tabsOf m)) (dats m anyPr) 0 (R0 ∪ T0) (V m) r) :=
  Pipeline.θ_run_frameP_dmaR_around₀ pcfgs (tabsOf m) (dats m anyPr) (0 : Fin 1) launch0 osem0 defs₀ Variants.none ownSemFacts0 ∅ R0 T0
    (Finset.empty_subset _) R0_sub m ρ main
    (hbody := fun c => (body_obligation m anyPr hT c fun _ _ _ => trivial).loose)
    (hshare := fun c => (dats m anyPr 0 c).share_full fun _ => rfl) (howed := fun _ _ => rfl)
    (V₀ := atEntry m) (opss := opsAfter) (hsub := after_sub) (hfresh := after_fresh) (hkeep := after_keep) (hT := after_writes)
    (hmain := hmain m) (hA := A_eq m anyPr) (hpf := hpf m)
    (hin := fun c => by
      refine (Entails.of_eq (congrArg₂ (fun a b => iprop(a ∗ b)) rfl (tables_eq m c))).trans ?_
      show _ ⊢ Inv m anyPr c 0
      unfold Pipeline.ΦDR₀ Inv
      rw [scopedRest0_eq, ownSems00_eq, owned_eq]
      iintro ⟨⟨⟨S0, S1, S2, S3⟩, HS, -, ⟨%f, HO⟩⟩, HT⟩
      isplitl [S0]; · iexact S0
      isplitl [S1]; · iexact S1
      isplitl [S2]; · iexact S2
      isplitl [S3]; · iexact S3
      isplitl [HS]; · iexact HS
      isplitl [HT]; · iexact HT
      iexists f
      isplitr; · ipureintro; trivial
      iexact HO)
    (hout := fun c => by
      show Inv m anyPr c _ ⊢ _
      unfold Pipeline.ΦDR₀ Inv
      rw [scopedRest0_eq, ownSems00_eq, owned_eq, BI.bigSep_empty]
      iintro ⟨S0, S1, S2, S3, HS, -, ⟨%f, -, HO⟩⟩
      isplitl [S0 S1 S2 S3]
      · isplitl [S0]; · iexact S0
        isplitl [S1]; · iexact S1
        isplitl [S2]; · iexact S2
        iexact S3
      isplitl [HS]; · iexact HS
      isplitr; · iempintro
      iexists f; iexact HO)

/-! ## The value -/

/-- The score array after `n` grid steps. -/
def outAt (c : Dev nD) : ℕ → S21504x832.Idx → Elt F .f32
  | 0 => V m c main_v42
  | n + 1 => if h : n < grid0.N then stepAt m c ⟨n, h⟩ (outAt c n) else outAt c n

abbrev outPr (c : Dev nD) : ℕ → (S21504x832.Idx → Elt F .f32) → Prop := fun n f => f = outAt m c n

/-- The buffers after the kernel: the score array rewritten, the rest as at its entry. -/
def G (n : ℕ) (c : Dev nD) : (b : Ref sig .tc) → Buf (Elt F) ((c.tc : Thread nD τ).loc b) :=
  Function.update (fun b => V m c b) main_v42 (outAt m 0 n)

theorem G_out (n : ℕ) (c : Dev nD) : G m n c main_v42 = outAt m 0 n := Function.update_self _ _ _

set_option backward.isDefEq.respectTransparency.types false in
theorem run_value (hT : TablesOk m) : θ_run defs (onTc (τ := τ) (main (F := F))) (s₀ m ρ)
    (fun r => (∀ c : Dev nD, ∀ b ∈ Pipeline.restRefsP sig pre0 spec0, r.2.mem ((c.tc : Thread nD τ).loc b)
      = StableHlo.after (opsAfter (F := F)).flatten (Pipeline.withArrays spec0 c (Pipeline.withR (atEntry m c) R0 c (G m grid0.N c))
          fun w => (dats m (outPr m 0) 0 c).arrAt w (cfgA m).N) (Proc.devRef .tc b)) ∧ r.2.sem = fun _ => 0) :=
  Pipeline.θ_run_frameP_dmaR_aroundV (Q' := _) pcfgs (tabsOf m) (dats m (outPr m 0)) (0 : Fin 1) launch0 osem0 defs₀ Variants.none ownSemFacts0 ∅ R0
    (Finset.empty_subset _) R0_sub m ρ main
    (hbody := fun c => (body_obligation m (outPr m 0) hT c fun t f hf => by
      subst hf
      show _ = outAt m 0 (t.val + 1)
      rw [dev0 c, outAt, dif_pos t.isLt]).loose)
    (hshare := fun c => (dats m (outPr m 0) 0 c).share_full fun _ => rfl) (howed := fun _ _ => rfl)
    (V₀ := atEntry m) (opss := opsAfter) (hsub := after_sub) (hfresh := after_fresh) (hkeep := after_keep) (G := G m grid0.N)
    (hmain := hmain m) (hA := A_eq m (outPr m 0)) (hpf := hpf m)
    (hin := fun c => by
      refine (Entails.of_eq (congrArg₂ (fun a b => iprop(a ∗ b)) rfl (tables_eq m c))).trans ?_
      show _ ⊢ Inv m (outPr m 0) c 0
      unfold Pipeline.ΦDRV Inv
      rw [scopedRest0_eq, ownSems00_eq, show (bigSep R0 fun b => ((c.tc : Thread nD τ).loc b) ↦{fullShare} (fun c b => atEntry m c (Proc.devRef .tc b)) c b : sProp 𝕄) = _ from held_eq (V m) c]
      iintro ⟨⟨⟨S0, S1, S2, S3⟩, HS, -, HO⟩, HT⟩
      isplitl [S0]; · iexact S0
      isplitl [S1]; · iexact S1
      isplitl [S2]; · iexact S2
      isplitl [S3]; · iexact S3
      isplitl [HS]; · iexact HS
      isplitl [HT]; · iexact HT
      iexists _
      isplitr; swap; · iexact HO
      ipureintro; rw [dev0 c]; rfl)
    (hout := fun c => by
      show Inv m (outPr m 0) c grid0.N ⊢ _
      unfold Pipeline.ΦDRV Inv
      rw [scopedRest0_eq, ownSems00_eq, held_eq, BI.bigSep_empty, G_out]
      iintro ⟨S0, S1, S2, S3, HS, -, ⟨%f, %hf, HO⟩⟩
      rw [hf]
      isplitl [S0 S1 S2 S3]
      · isplitl [S0]; · iexact S0
        isplitl [S1]; · iexact S1
        isplitl [S2]; · iexact S2
        iexact S3
      isplitl [HS]; · iexact HS
      isplitr; · iempintro
      iexact HO)
    (hQ' := fun r h => ⟨fun c => (h.1 c).2, h.2⟩)

end Cert.KernelIdeal.Hand
-- ==== Proof.Lines.lean ====
/-
  What each stretch of host lines before the kernel leaves in the buffers the plan is read from, over any contents before it.
-/
module

public import proofs.«01_k».proof.Proof.Region
public import Idealize.ShloMosaic.Lib.StableHlo.RunRead
public import Idealize.ShloMosaic.Lib.Routing.Words

@[expose] public section

set_option maxRecDepth 4000

noncomputable section

namespace Cert.KernelIdeal.Hand

open Cert.KernelIdeal Cert.KernelIdeal.Gen
open Idealize.ShloMosaic Idealize.ShloMosaic.StableHlo
open Idealize.ShloMosaic.Routing (pyRem pyDiv)

variable {F : FTy → Type} [FloatOps F]
variable (U : Valuation τ sig (Elt F))

theorem line0_v0 : after hostOps0 U (Proc.devRef .tc main_v0) = (shapeCast S16384 (U (Proc.devRef .tc main_arg1)) shapeCasts_S2x2048x4_S16384 : IVec S16384 32) := by
  after_reads_simp
  rfl

theorem line0_v1 : after hostOps0 U (Proc.devRef .tc main_v1) = iotaInDim S16384 32 0 := by
  after_reads_simp

theorem line0_v5 : after hostOps0 U (Proc.devRef .tc main_v5) = Host.sort S16384 0 comparator_i32_d0
    (addi (muli (shapeCast S16384 (U (Proc.devRef .tc main_arg1)) shapeCasts_S2x2048x4_S16384 : IVec S16384 32)
      (broadcastInDim S16384 ![] bcast_S_S16384 (constantI S_ 32 16384#32))) (iotaInDim S16384 32 0)) := by
  after_reads_simp
  rfl

theorem line0_c : after hostOps0 U (Proc.devRef .tc main_c_0) = constantI S_ 32 16384#32 := by
  after_reads_simp

theorem line1_v6 : after hostOps0_1 U (Proc.devRef .tc main_v6) = pyRem (s := S16384) bcast_S_S16384 (U (Proc.devRef .tc main_v5)) (U (Proc.devRef .tc main_c_0)) := by
  after_reads_simp
  simp only [TRef.toBuf, TRef.ofBuf, cast_cast, cast_eq]
  rfl

theorem line2_c : after hostOps0_2 U (Proc.devRef .tc main_c_1) = constantI S_ 32 16384#32 := by
  after_reads_simp

theorem line3_v7 : after hostOps0_3 U (Proc.devRef .tc main_v7) = pyDiv (s := S16384) bcast_S_S16384 (U (Proc.devRef .tc main_v5)) (U (Proc.devRef .tc main_c_1)) := by
  after_reads_simp
  simp only [TRef.toBuf, TRef.ofBuf, cast_cast, cast_eq]
  rfl

theorem line4_v8 : after hostOps0_4 U (Proc.devRef .tc main_v8) = iotaInDim S640 32 0 := by
  after_reads_simp

theorem line4_v15 : after hostOps0_4 U (Proc.devRef .tc main_v15) = Host.reduce IntOp.addi
    (extui 32 (cmpi .eq (broadcastInDim S16384x640 ![0, 1] bcast_S16384x1_S16384x640_0_1 (broadcastInDim S16384x1 ![0] bcast_S16384_S16384x1_0 ((U (Proc.devRef .tc main_v0)) : IVec S16384 32)))
      (broadcastInDim S16384x640 ![0, 1] bcast_S1x640_S16384x640_0_1 (broadcastInDim S1x640 ![1] bcast_S640_S1x640_1 (iotaInDim S640 32 0)))) natLt_1_32)
    (constantI S_ 32 0#32) reducesTo_S16384x640_S640_d0 h_S_ := by
  after_reads_simp

theorem line5_v16 : after hostOps0_5 U (Proc.devRef .tc main_v16) = Host.reduceWindow IntOp.addi ![640] ![1] ![639] ![0] ((U (Proc.devRef .tc main_v15)) : IVec S640 32)
    (broadcastInDim S_ ![] bcast_S_S_ (constantI S_ 32 0#32)) reduceWindows_S640_S640_w640s1p639_0 h_S_ := by
  after_reads_simp
  simp only [TRef.toBuf, TRef.ofBuf, cast_cast, cast_eq]

theorem line6_v17 : after hostOps0_6 U (Proc.devRef .tc main_v17) = subi ((U (Proc.devRef .tc main_v16)) : IVec S640 32) (U (Proc.devRef .tc main_v15)) := by
  after_reads_simp

theorem line6_v21 : after hostOps0_6 U (Proc.devRef .tc main_v21) = subi (addi ((U (Proc.devRef .tc main_v15)) : IVec S640 32) (broadcastInDim S640 ![] bcast_S_S640 (constantI S_ 32 8#32)))
    (broadcastInDim S640 ![] bcast_S_S640 (constantI S_ 32 1#32)) := by
  after_reads_simp

theorem line6_c : after hostOps0_6 U (Proc.devRef .tc main_c_5) = constantI S_ 32 8#32 := by
  after_reads_simp

theorem line7_v22 : after hostOps0_7 U (Proc.devRef .tc main_v22) = pyDiv (s := S640) bcast_S_S640 (U (Proc.devRef .tc main_v21)) (U (Proc.devRef .tc main_c_5)) := by
  after_reads_simp
  simp only [TRef.toBuf, TRef.ofBuf, cast_cast, cast_eq]
  rfl

theorem line8_v24 : after hostOps0_8 U (Proc.devRef .tc main_v24) = muli ((U (Proc.devRef .tc main_v22)) : IVec S640 32) (broadcastInDim S640 ![] bcast_S_S640 (constantI S_ 32 8#32)) := by
  after_reads_simp

theorem line9_v25 : after hostOps0_9 U (Proc.devRef .tc main_v25) = Host.reduceWindow IntOp.addi ![640] ![1] ![639] ![0] ((U (Proc.devRef .tc main_v24)) : IVec S640 32)
    (broadcastInDim S_ ![] bcast_S_S_ (constantI S_ 32 0#32)) reduceWindows_S640_S640_w640s1p639_0 h_S_ := by
  after_reads_simp
  simp only [TRef.toBuf, TRef.ofBuf, cast_cast, cast_eq]

theorem line10_v26 : after hostOps0_10 U (Proc.devRef .tc main_v26) = subi ((U (Proc.devRef .tc main_v25)) : IVec S640 32) (U (Proc.devRef .tc main_v24)) := by
  after_reads_simp

theorem line10_v32 : after hostOps0_10 U (Proc.devRef .tc main_v32) = cmpi .slt (broadcastInDim S16384x640 ![0, 1] bcast_S1x640_S16384x640_0_1 (broadcastInDim S1x640 ![1] bcast_S640_S1x640_1 ((U (Proc.devRef .tc main_v8)) : IVec S640 32)))
    (broadcastInDim S16384x640 ![0, 1] bcast_S16384x1_S16384x640_0_1 (broadcastInDim S16384x1 ![0] bcast_S16384_S16384x1_0 ((U (Proc.devRef .tc main_v7)) : IVec S16384 32))) := by
  after_reads_simp

theorem line10_v33 : after hostOps0_10 U (Proc.devRef .tc main_v33) = broadcastInDim S1x640 ![1] bcast_S640_S1x640_1 (subi ((U (Proc.devRef .tc main_v24)) : IVec S640 32) (U (Proc.devRef .tc main_v15))) := by
  after_reads_simp

theorem line10_c : after hostOps0_10 U (Proc.devRef .tc main_c_7) = constantI S_ 32 0#32 := by
  after_reads_simp

theorem line11_v34 : after hostOps0_11 U (Proc.devRef .tc main_v34) = select ((U (Proc.devRef .tc main_v32)) : IVec S16384x640 1) (broadcastInDim S16384x640 ![0, 1] bcast_S1x640_S16384x640_0_1 ((U (Proc.devRef .tc main_v33)) : IVec S1x640 32))
    (broadcastInDim S16384x640 ![] bcast_S_S16384x640 ((U (Proc.devRef .tc main_c_7)) : IVec S_ 32)) := by
  after_reads_simp
  simp only [TRef.toBuf, TRef.ofBuf, cast_cast, cast_eq]
  rfl

theorem line12_v37 : after hostOps0_12 U (Proc.devRef .tc main_v37_1) = (Host.sort2 S16384 0 comparator_i32_i32_d0 ((U (Proc.devRef .tc main_v6)) : IVec S16384 32)
    (addi ((U (Proc.devRef .tc main_v1)) : IVec S16384 32) (Host.reduce IntOp.addi ((U (Proc.devRef .tc main_v34)) : IVec S16384x640 32) (constantI S_ 32 0#32) reducesTo_S16384x640_S16384_d1 h_S_))).2 := by
  after_reads_simp

theorem line12_c : after hostOps0_12 U (Proc.devRef .tc main_c_9) = constantI S_ 32 4#32 := by
  after_reads_simp

theorem line13_v38 : after hostOps0_13 U (Proc.devRef .tc main_v38) = pyDiv (s := S16384) bcast_S_S16384 (U (Proc.devRef .tc main_v6)) (U (Proc.devRef .tc main_c_9)) := by
  after_reads_simp
  simp only [TRef.toBuf, TRef.ofBuf, cast_cast, cast_eq]
  rfl

theorem line14_v40 : after hostOps0_14 U (Proc.devRef .tc main_v40) = concatenate S16416 0 [⟨S16384, ((U (Proc.devRef .tc main_v38)) : IVec S16384 32)⟩,
    ⟨S32, broadcastInDim S32 ![] bcast_S_S32 (constantI S_ 32 0#32)⟩] concatenates_S16384_S32_S16416_d0 := by
  after_results

theorem line14_v41 : after hostOps0_14 U (Proc.devRef .tc main_v41) = shapeCast S640x1x832 (U (Proc.devRef .tc main_arg3)) shapeCasts_S640x832_S640x1x832 := by
  after_reads_simp
  rfl

end Cert.KernelIdeal.Hand
-- ==== Proof.Entry.lean ====
/-
  The buffers the plan is read from, as the host lines before the kernel leave them: each in terms of the others, whatever
  the launch holds. A buffer is written once, so what a stretch of lines leaves in it is what the kernel finds.
-/
module

public import proofs.«01_k».proof.Proof.Lines
public import Idealize.ShloMosaic.Lib.Pipeline.Frame

@[expose] public section

set_option maxRecDepth 8000

noncomputable section

namespace Cert.KernelIdeal.Hand

open Cert.KernelIdeal Cert.KernelIdeal.Gen
open Idealize.ShloMosaic Idealize.ShloMosaic.StableHlo
open Idealize.ShloMosaic.Routing (pyRem pyDiv)

variable {F : FTy → Type} [FloatOps F]
variable (m : (ℓ : Loc nD τ sig) → Buf (Elt F) ℓ) (c : Dev nD)

/-- The buffers each stretch writes. -/
def writesOf : List (List (Ref sig .tc)) :=
  [[main_v0, main_v1, main_c, main_v2, main_v3, main_v4, main_v5, main_c_0],
   [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v6],
   [main_c_1],
   [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v7],
   [main_v8, main_v9, main_v10, main_v11, main_v12, main_v13, main_v14, main_c_2, main_v15],
   [main_call2_call0_c, main_call2_call0_v0, main_v16],
   [main_v17, main_c_3, main_v18, main_v19, main_c_4, main_v20, main_v21, main_c_5],
   [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v22],
   [main_c_6, main_v23, main_v24],
   [main_call4_call0_c, main_call4_call0_v0, main_v25],
   [main_v26, main_v27, main_v28, main_v29, main_v30, main_v31, main_v32, main_v33, main_c_7],
   [main_call5_v0, main_call5_v1, main_call5_v2, main_v34],
   [main_c_8, main_v35, main_v36, main_v37_0, main_v37_1, main_c_9],
   [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v38],
   [main_c_10, main_v39, main_v40, main_v41]]

theorem writes_eq : (opsBefore (F := F)).map (List.map HloOp.writes) = writesOf.map (List.map fun w => {Proc.devRef (τ := τ) .tc w}) := rfl

/-- The contents after the first `k` stretches. -/
def S (k : ℕ) : Valuation τ sig (Elt F) := after (opsBefore.take k).flatten (fun b => m (c, b))

/-- A buffer as the kernel finds it. -/
abbrev E (b : Ref sig .tc) : Buf (Elt F) ((c.tc : Thread nD τ).loc b) := atEntry m c (Proc.devRef .tc b)

theorem S_succ (k : ℕ) (h : k < 15) : S m c (k + 1) = after (opsBefore[k]'h) (S m c k) := by
  unfold S
  rw [List.take_succ_eq_append_getElem (show k < (opsBefore (F := F)).length from h), List.flatten_append, List.flatten_singleton, after_append]

/-- What no later stretch writes is as the kernel finds it. -/
theorem S_eq (k : ℕ) (b : Ref sig .tc) (hb : b ∉ (writesOf.drop k).flatten) : S m c k (Proc.devRef .tc b) = E m c b := by
  have hW : ((opsBefore (F := F)).drop k).flatten.map HloOp.writes = (writesOf.drop k).flatten.map fun w => {Proc.devRef (τ := τ) .tc w} := by
    rw [List.map_flatten, List.map_flatten, List.map_drop, List.map_drop, writes_eq]
  have h : atEntry m c = after ((opsBefore (F := F)).drop k).flatten (S m c k) := by
    unfold S atEntry
    rw [← after_append, ← List.flatten_append, List.take_append_drop]
  show _ = atEntry m c (Proc.devRef .tc b)
  rw [h, after_unwritten _ hW hb]

/-- What no stretch writes is as at the launch. -/
theorem E_arg (b : Ref sig .tc) (hb : b ∉ writesOf.flatten) : E m c b = m ((c.tc : Thread nD τ).loc b) := (S_eq m c 0 b hb).symm

theorem E_v0 : E m c main_v0 = (shapeCast S16384 (E m c main_arg1) shapeCasts_S2x2048x4_S16384 : IVec S16384 32) := by
  have h := line0_v0 (S m c 0)
  rw [← S_eq m c 1 main_v0 (by decide), ← S_eq m c 0 main_arg1 (by decide)]
  rw [S_succ m c 0 (by decide : 0 < 15)]
  exact h

theorem E_v1 : E m c main_v1 = iotaInDim S16384 32 0 := by
  have h := line0_v1 (S m c 0)
  rw [← S_eq m c 1 main_v1 (by decide)]
  rw [S_succ m c 0 (by decide : 0 < 15)]
  exact h

theorem E_v5 : E m c main_v5 = Host.sort S16384 0 comparator_i32_d0
    (addi (muli (shapeCast S16384 (E m c main_arg1) shapeCasts_S2x2048x4_S16384 : IVec S16384 32)
      (broadcastInDim S16384 ![] bcast_S_S16384 (constantI S_ 32 16384#32))) (iotaInDim S16384 32 0)) := by
  have h := line0_v5 (S m c 0)
  rw [← S_eq m c 1 main_v5 (by decide), ← S_eq m c 0 main_arg1 (by decide)]
  rw [S_succ m c 0 (by decide : 0 < 15)]
  exact h

theorem E_c_0 : E m c main_c_0 = constantI S_ 32 16384#32 := by
  have h := line0_c (S m c 0)
  rw [← S_eq m c 1 main_c_0 (by decide)]
  rw [S_succ m c 0 (by decide : 0 < 15)]
  exact h

theorem E_v6 : E m c main_v6 = pyRem (s := S16384) bcast_S_S16384 (E m c main_v5) (E m c main_c_0) := by
  have h := line1_v6 (S m c 1)
  rw [← S_eq m c 2 main_v6 (by decide), ← S_eq m c 1 main_c_0 (by decide), ← S_eq m c 1 main_v5 (by decide)]
  rw [S_succ m c 1 (by decide : 1 < 15)]
  exact h

theorem E_c_1 : E m c main_c_1 = constantI S_ 32 16384#32 := by
  have h := line2_c (S m c 2)
  rw [← S_eq m c 3 main_c_1 (by decide)]
  rw [S_succ m c 2 (by decide : 2 < 15)]
  exact h

theorem E_v7 : E m c main_v7 = pyDiv (s := S16384) bcast_S_S16384 (E m c main_v5) (E m c main_c_1) := by
  have h := line3_v7 (S m c 3)
  rw [← S_eq m c 4 main_v7 (by decide), ← S_eq m c 3 main_c_1 (by decide), ← S_eq m c 3 main_v5 (by decide)]
  rw [S_succ m c 3 (by decide : 3 < 15)]
  exact h

theorem E_v8 : E m c main_v8 = iotaInDim S640 32 0 := by
  have h := line4_v8 (S m c 4)
  rw [← S_eq m c 5 main_v8 (by decide)]
  rw [S_succ m c 4 (by decide : 4 < 15)]
  exact h

theorem E_v15 : E m c main_v15 = Host.reduce IntOp.addi
    (extui 32 (cmpi .eq (broadcastInDim S16384x640 ![0, 1] bcast_S16384x1_S16384x640_0_1 (broadcastInDim S16384x1 ![0] bcast_S16384_S16384x1_0 ((E m c main_v0) : IVec S16384 32)))
      (broadcastInDim S16384x640 ![0, 1] bcast_S1x640_S16384x640_0_1 (broadcastInDim S1x640 ![1] bcast_S640_S1x640_1 (iotaInDim S640 32 0)))) natLt_1_32)
    (constantI S_ 32 0#32) reducesTo_S16384x640_S640_d0 h_S_ := by
  have h := line4_v15 (S m c 4)
  rw [← S_eq m c 5 main_v15 (by decide), ← S_eq m c 4 main_v0 (by decide)]
  rw [S_succ m c 4 (by decide : 4 < 15)]
  exact h

theorem E_v16 : E m c main_v16 = Host.reduceWindow IntOp.addi ![640] ![1] ![639] ![0] ((E m c main_v15) : IVec S640 32)
    (broadcastInDim S_ ![] bcast_S_S_ (constantI S_ 32 0#32)) reduceWindows_S640_S640_w640s1p639_0 h_S_ := by
  have h := line5_v16 (S m c 5)
  rw [← S_eq m c 6 main_v16 (by decide), ← S_eq m c 5 main_v15 (by decide)]
  rw [S_succ m c 5 (by decide : 5 < 15)]
  exact h

theorem E_v17 : E m c main_v17 = subi ((E m c main_v16) : IVec S640 32) (E m c main_v15) := by
  have h := line6_v17 (S m c 6)
  rw [← S_eq m c 7 main_v17 (by decide), ← S_eq m c 6 main_v15 (by decide), ← S_eq m c 6 main_v16 (by decide)]
  rw [S_succ m c 6 (by decide : 6 < 15)]
  exact h

theorem E_v21 : E m c main_v21 = subi (addi ((E m c main_v15) : IVec S640 32) (broadcastInDim S640 ![] bcast_S_S640 (constantI S_ 32 8#32)))
    (broadcastInDim S640 ![] bcast_S_S640 (constantI S_ 32 1#32)) := by
  have h := line6_v21 (S m c 6)
  rw [← S_eq m c 7 main_v21 (by decide), ← S_eq m c 6 main_v15 (by decide)]
  rw [S_succ m c 6 (by decide : 6 < 15)]
  exact h

theorem E_c_5 : E m c main_c_5 = constantI S_ 32 8#32 := by
  have h := line6_c (S m c 6)
  rw [← S_eq m c 7 main_c_5 (by decide)]
  rw [S_succ m c 6 (by decide : 6 < 15)]
  exact h

theorem E_v22 : E m c main_v22 = pyDiv (s := S640) bcast_S_S640 (E m c main_v21) (E m c main_c_5) := by
  have h := line7_v22 (S m c 7)
  rw [← S_eq m c 8 main_v22 (by decide), ← S_eq m c 7 main_c_5 (by decide), ← S_eq m c 7 main_v21 (by decide)]
  rw [S_succ m c 7 (by decide : 7 < 15)]
  exact h

theorem E_v24 : E m c main_v24 = muli ((E m c main_v22) : IVec S640 32) (broadcastInDim S640 ![] bcast_S_S640 (constantI S_ 32 8#32)) := by
  have h := line8_v24 (S m c 8)
  rw [← S_eq m c 9 main_v24 (by decide), ← S_eq m c 8 main_v22 (by decide)]
  rw [S_succ m c 8 (by decide : 8 < 15)]
  exact h

theorem E_v25 : E m c main_v25 = Host.reduceWindow IntOp.addi ![640] ![1] ![639] ![0] ((E m c main_v24) : IVec S640 32)
    (broadcastInDim S_ ![] bcast_S_S_ (constantI S_ 32 0#32)) reduceWindows_S640_S640_w640s1p639_0 h_S_ := by
  have h := line9_v25 (S m c 9)
  rw [← S_eq m c 10 main_v25 (by decide), ← S_eq m c 9 main_v24 (by decide)]
  rw [S_succ m c 9 (by decide : 9 < 15)]
  exact h

theorem E_v26 : E m c main_v26 = subi ((E m c main_v25) : IVec S640 32) (E m c main_v24) := by
  have h := line10_v26 (S m c 10)
  rw [← S_eq m c 11 main_v26 (by decide), ← S_eq m c 10 main_v24 (by decide), ← S_eq m c 10 main_v25 (by decide)]
  rw [S_succ m c 10 (by decide : 10 < 15)]
  exact h

theorem E_v32 : E m c main_v32 = cmpi .slt (broadcastInDim S16384x640 ![0, 1] bcast_S1x640_S16384x640_0_1 (broadcastInDim S1x640 ![1] bcast_S640_S1x640_1 ((E m c main_v8) : IVec S640 32)))
    (broadcastInDim S16384x640 ![0, 1] bcast_S16384x1_S16384x640_0_1 (broadcastInDim S16384x1 ![0] bcast_S16384_S16384x1_0 ((E m c main_v7) : IVec S16384 32))) := by
  have h := line10_v32 (S m c 10)
  rw [← S_eq m c 11 main_v32 (by decide), ← S_eq m c 10 main_v7 (by decide), ← S_eq m c 10 main_v8 (by decide)]
  rw [S_succ m c 10 (by decide : 10 < 15)]
  exact h

theorem E_v33 : E m c main_v33 = broadcastInDim S1x640 ![1] bcast_S640_S1x640_1 (subi ((E m c main_v24) : IVec S640 32) (E m c main_v15)) := by
  have h := line10_v33 (S m c 10)
  rw [← S_eq m c 11 main_v33 (by decide), ← S_eq m c 10 main_v15 (by decide), ← S_eq m c 10 main_v24 (by decide)]
  rw [S_succ m c 10 (by decide : 10 < 15)]
  exact h

theorem E_c_7 : E m c main_c_7 = constantI S_ 32 0#32 := by
  have h := line10_c (S m c 10)
  rw [← S_eq m c 11 main_c_7 (by decide)]
  rw [S_succ m c 10 (by decide : 10 < 15)]
  exact h

theorem E_v34 : E m c main_v34 = select ((E m c main_v32) : IVec S16384x640 1) (broadcastInDim S16384x640 ![0, 1] bcast_S1x640_S16384x640_0_1 ((E m c main_v33) : IVec S1x640 32))
    (broadcastInDim S16384x640 ![] bcast_S_S16384x640 ((E m c main_c_7) : IVec S_ 32)) := by
  have h := line11_v34 (S m c 11)
  rw [← S_eq m c 12 main_v34 (by decide), ← S_eq m c 11 main_c_7 (by decide), ← S_eq m c 11 main_v32 (by decide), ← S_eq m c 11 main_v33 (by decide)]
  rw [S_succ m c 11 (by decide : 11 < 15)]
  exact h

theorem E_v37_1 : E m c main_v37_1 = (Host.sort2 S16384 0 comparator_i32_i32_d0 ((E m c main_v6) : IVec S16384 32)
    (addi ((E m c main_v1) : IVec S16384 32) (Host.reduce IntOp.addi ((E m c main_v34) : IVec S16384x640 32) (constantI S_ 32 0#32) reducesTo_S16384x640_S16384_d1 h_S_))).2 := by
  have h := line12_v37 (S m c 12)
  rw [← S_eq m c 13 main_v37_1 (by decide), ← S_eq m c 12 main_v1 (by decide), ← S_eq m c 12 main_v34 (by decide), ← S_eq m c 12 main_v6 (by decide)]
  rw [S_succ m c 12 (by decide : 12 < 15)]
  exact h

theorem E_c_9 : E m c main_c_9 = constantI S_ 32 4#32 := by
  have h := line12_c (S m c 12)
  rw [← S_eq m c 13 main_c_9 (by decide)]
  rw [S_succ m c 12 (by decide : 12 < 15)]
  exact h

theorem E_v38 : E m c main_v38 = pyDiv (s := S16384) bcast_S_S16384 (E m c main_v6) (E m c main_c_9) := by
  have h := line13_v38 (S m c 13)
  rw [← S_eq m c 14 main_v38 (by decide), ← S_eq m c 13 main_c_9 (by decide), ← S_eq m c 13 main_v6 (by decide)]
  rw [S_succ m c 13 (by decide : 13 < 15)]
  exact h

theorem E_v40 : E m c main_v40 = concatenate S16416 0 [⟨S16384, ((E m c main_v38) : IVec S16384 32)⟩,
    ⟨S32, broadcastInDim S32 ![] bcast_S_S32 (constantI S_ 32 0#32)⟩] concatenates_S16384_S32_S16416_d0 := by
  have h := line14_v40 (S m c 14)
  rw [← S_eq m c 15 main_v40 (by decide), ← S_eq m c 14 main_v38 (by decide)]
  rw [S_succ m c 14 (by decide : 14 < 15)]
  exact h

theorem E_v41 : E m c main_v41 = shapeCast S640x1x832 (E m c main_arg3) shapeCasts_S640x832_S640x1x832 := by
  have h := line14_v41 (S m c 14)
  rw [← S_eq m c 15 main_v41 (by decide), ← S_eq m c 14 main_arg3 (by decide)]
  rw [S_succ m c 14 (by decide : 14 < 15)]
  exact h

end Cert.KernelIdeal.Hand
-- ==== Proof.Plan.lean ====
/-
  The plan of a launch, in natural numbers. Each of 16384 pairs names a cluster by a word. `cnt c` pairs name cluster `c`;
  `start c` pairs name an earlier one; `cnt8 c` is `cnt c` rounded up to a multiple of 8, and `off c` is the sum of the
  earlier `cnt8`. The bounds here hold whatever the words are.
-/
module

public import Idealize.ShloMosaic.Lib.Routing.Words

@[expose] public section

namespace Cert.Plan

open Finset

variable (w : Fin 16384 → BitVec 32)

/-- How many pairs name cluster `c`. -/
def cnt (c : ℕ) : ℕ := (univ.filter fun e => w e = BitVec.ofNat 32 c).card
/-- How many pairs name a cluster before `c`. -/
def start (c : ℕ) : ℕ := ∑ x ∈ range c, cnt w x
/-- `cnt c` rounded up to a multiple of 8. -/
def cnt8 (c : ℕ) : ℕ := (cnt w c + 7) / 8 * 8
/-- The first output row of cluster `c`. -/
def off (c : ℕ) : ℕ := ∑ x ∈ range c, cnt8 w x

theorem cnt_le (c : ℕ) : cnt w c ≤ 16384 := (card_le_univ _).trans (by simp)

theorem start_succ (c : ℕ) : start w (c + 1) = start w c + cnt w c := sum_range_succ _ _
theorem off_succ (c : ℕ) : off w (c + 1) = off w c + cnt8 w c := sum_range_succ _ _

theorem le_cnt8 (c : ℕ) : cnt w c ≤ cnt8 w c := by unfold cnt8; omega
theorem cnt8_le (c : ℕ) : cnt8 w c ≤ cnt w c + 7 := by unfold cnt8; omega

theorem start_eq_card (c : ℕ) (hc : c ≤ 640) : start w c = (univ.filter fun e => (w e).toNat < c).card := by
  induction c with
  | zero => simp [start]
  | succ c ih =>
    rw [start_succ, ih (by omega)]
    have hs : (univ.filter fun e => (w e).toNat < c + 1)
        = (univ.filter fun e => (w e).toNat < c) ∪ univ.filter fun e => w e = BitVec.ofNat 32 c := by
      ext e
      simp only [mem_filter, mem_univ, true_and, mem_union]
      constructor
      · intro h
        rcases Nat.lt_or_ge (w e).toNat c with h1 | h1
        · exact Or.inl h1
        · exact Or.inr (BitVec.eq_of_toNat_eq (by rw [BitVec.toNat_ofNat, Nat.mod_eq_of_lt (by omega)]; omega))
      · rintro (h | h)
        · omega
        · rw [h, BitVec.toNat_ofNat, Nat.mod_eq_of_lt (by omega)]; omega
    rw [hs, card_union_of_disjoint]
    · rfl
    · rw [disjoint_filter]
      intro e _ h h'
      rw [h', BitVec.toNat_ofNat, Nat.mod_eq_of_lt (by omega)] at h
      omega

theorem start_le (c : ℕ) (hc : c ≤ 640) : start w c ≤ 16384 := by
  rw [start_eq_card w c hc]; exact (card_le_univ _).trans (by simp)

theorem off_le (c : ℕ) : off w c ≤ start w c + 7 * c := by
  induction c with
  | zero => simp [off, start]
  | succ c ih => rw [off_succ, start_succ]; have := cnt8_le w c; omega

theorem start_le_off (c : ℕ) : start w c ≤ off w c := sum_le_sum fun x _ => le_cnt8 w x

theorem off_mono {a b : ℕ} (h : a ≤ b) : off w a ≤ off w b :=
  sum_le_sum_of_subset (range_subset_range.mpr h)

theorem off_aligned (c : ℕ) : 8 ∣ off w c := dvd_sum fun x _ => ⟨(cnt w x + 7) / 8, by unfold cnt8; omega⟩

/-- The rounding rows before cluster `c`. -/
theorem sum_pad (c : ℕ) : ∑ x ∈ range c, (cnt8 w x - cnt w x) = off w c - start w c := by
  induction c with
  | zero => simp [off, start]
  | succ c ih =>
    rw [sum_range_succ, ih, off_succ, start_succ]
    have h1 := start_le_off w c; have h2 := le_cnt8 w c; omega

theorem slots_le (c : ℕ) (hc : c < 640) : start w c + 32 * ((cnt w c + 31) / 32) ≤ 16416 := by
  have h := start_le w (c + 1) (by omega)
  rw [start_succ] at h; omega

theorem rows_le (c : ℕ) (hc : c < 640) : off w c + 32 * ((cnt w c + 31) / 32) ≤ 21504 := by
  have h := start_le w (c + 1) (by omega)
  have h' := off_le w c
  rw [start_succ] at h; omega

theorem off_succ_le (c : ℕ) (hc : c < 640) : off w (c + 1) ≤ 21504 := by
  have h := start_le w (c + 1) (by omega)
  have h' := off_le w (c + 1); omega

end Cert.Plan
-- ==== Proof.PlanVec.lean ====
/-
  The plan's vectors read at an index: the counts of a mask's columns, exclusive running sums, rounding up to a multiple of
  8, and the shift of a sorted position. Each is stated for words that hold the natural numbers of `Cert.Plan`.
-/
module

public import proofs.«01_k».proof.Proof.Plan
public import Idealize.ShloMosaic.Lib.StableHlo.Predicate

@[expose] public section

namespace Cert.Plan

open Idealize.ShloMosaic Idealize.ShloMosaic.Routing Idealize.ShloMosaic.ValueIdx Idealize.ShloMosaic.WordCmp

theorem list_sum_range (f : ℕ → ℕ) (n : ℕ) : ((List.range n).map f).sum = ∑ x ∈ Finset.range n, f x := by
  induction n with
  | zero => rfl
  | succ n ih => rw [List.range_succ, List.map_append, List.sum_append, ih, Finset.sum_range_succ]; simp

/-- The sum over the columns of an `[n, m]` array of words, at a row, where the words hold naturals whose sum does not wrap. -/
theorem reduce_row_sum {n m : ℕ} (x : IVec (shape2 n m) 32) (p : Fin n) (f : ℕ → ℕ) (hx : ∀ q : Fin m, x (ix2 p q) = BitVec.ofNat 32 (f q.val))
    (hf : ∑ q ∈ Finset.range m, f q < 2 ^ 32)
    (h : (shape2 n m).ReducesTo [1] (shape1 n)) (hu : 0 < shape0.numel) :
    Host.reduce IntOp.addi x (constantI shape0 32 0#32) h hu (ix1 p) = BitVec.ofNat 32 (∑ q ∈ Finset.range m, f q) := by
  classical
  have hfq : ∀ q : Fin m, f q.val < 2 ^ 32 := fun q =>
    lt_of_le_of_lt (Finset.single_le_sum (f := f) (fun _ _ => Nat.zero_le _) (Finset.mem_range.mpr q.isLt)) hf
  apply BitVec.eq_of_toNat_eq
  rw [BitVec.toNat_ofNat, Nat.mod_eq_of_lt hf, Host.reduce_eq_fold]
  have hdrop : ∀ i : (shape2 n m).Idx, h.drop i = ix1 p ↔ i 0 = p := by
    intro i
    have hv : (h.drop i 0 : ℕ) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (shape2 n m).Idx, i 0 = p → ix2 p (i 1) = i := fun i h0 => by
    funext b; match b with
    | ⟨0, _⟩ => exact h0.symm
    | ⟨1, _⟩ => rfl
  have hsum : ∑ i ∈ Finset.univ.filter (fun i : (shape2 n m).Idx => h.drop i = ix1 p), (x i).toNat = ∑ q ∈ Finset.range m, f q := by
    rw [Finset.sum_range]
    refine Finset.sum_bij' (fun i _ => i 1) (fun q _ => ix2 p q) (fun _ _ => Finset.mem_univ _)
      (fun q _ => Finset.mem_filter.2 ⟨Finset.mem_univ _, (hdrop _).2 rfl⟩)
      (fun i hi => hback i ((hdrop i).1 (Finset.mem_filter.1 hi).2)) (fun _ _ => rfl) ?_
    intro i hi
    have e := hback i ((hdrop i).1 (Finset.mem_filter.1 hi).2)
    have h3 : (x (ix2 p (i 1))).toNat = f (i 1).val := by
      have := congrArg BitVec.toNat (hx (i 1))
      rw [BitVec.toNat_ofNat] at this
      exact this.trans (Nat.mod_eq_of_lt (hfq (i 1)))
    exact (congrArg (fun y => (x y).toNat) e).symm.trans h3
  show (Finset.fold IntOp.addi 0#32 x (Finset.univ.filter fun i : (shape2 n m).Idx => h.drop i = ix1 p)).toNat = _
  rw [StableHlo.Predicate.toNat_fold_addi _ _ (by rw [hsum]; exact hf), hsum]

variable (W : Fin 16384 → BitVec 32)

/-- The counts. -/
theorem cnt_ap (w : IVec (shape1 16384) 32) (hw : ∀ e, w (ix1 e) = W e) (h1 h2 h3 h4) (h5 : 1 < 32)
    (h6 : (shape2 16384 640).ReducesTo [0] (shape1 640)) (hu : 0 < shape0.numel) (c : Fin 640) :
    Host.reduce IntOp.addi
      (extui 32 (cmpi .eq (broadcastInDim (shape2 16384 640) ![0, 1] h2 (broadcastInDim (shape2 16384 1) ![0] h1 w))
        (broadcastInDim (shape2 16384 640) ![0, 1] h4 (broadcastInDim (shape2 1 640) ![1] h3 (iotaInDim (shape1 640) 32 0)))) h5)
      (constantI shape0 32 0#32) h6 hu (ix1 c) = BitVec.ofNat 32 (cnt W c) := by
  apply BitVec.eq_of_toNat_eq
  rw [StableHlo.Predicate.toNat_reduce_count_rows (by norm_num) _ h5 h6 hu (ix1 c), BitVec.toNat_ofNat,
    Nat.mod_eq_of_lt (lt_of_le_of_lt (cnt_le W c) (by norm_num))]
  unfold cnt
  refine congrArg Finset.card (Finset.filter_congr fun e _ => ?_)
  rw [ij_eq_ix2, cmpi_at, bcRows, bcCols, iota1_ap, hw]
  show BitVec.ofBool (W e == BitVec.ofNat 32 c.val) = 1#1 ↔ _
  by_cases h : W e = BitVec.ofNat 32 c.val
  · simp [h]
  · rw [beq_eq_false_iff_ne.mpr h]; exact ⟨fun h' => absurd h' (by decide), fun h' => absurd h' h⟩

/-- An exclusive running sum: the inclusive one less the entry. -/
theorem exclusive_ap (x : IVec (shape1 640) 32) (f : ℕ → ℕ) (hx : ∀ c : Fin 640, x (ix1 c) = BitVec.ofNat 32 (f c.val))
    (z : IVec shape0 32) (hz : z ix0 = 0#32)
    (h : (shape1 640).ReduceWindows (![640] : Fin 1 → ℕ) ![1] ![639] ![0] (shape1 640)) (hu : 0 < shape0.numel) (c : Fin 640) :
    subi (Host.reduceWindow IntOp.addi ![640] ![1] ![639] ![0] x z h hu) x (ix1 c) = BitVec.ofNat 32 (∑ q ∈ Finset.range c.val, f q) := by
  rw [subi_ap, cumsum1 rfl x f hx z hz h hu c, hx, list_sum_range, Finset.sum_range_succ, ofNat32_sub (Nat.le_add_left _ _), Nat.add_sub_cancel]

/-- Rounding up to a multiple of 8. -/
theorem cnt8_ap (x : IVec (shape1 640) 32) (hx : ∀ c : Fin 640, x (ix1 c) = BitVec.ofNat 32 (cnt W c.val)) (hb h1 h2 h3)
    (c : Fin 640) :
    muli (pyDiv (s := shape1 640) hb (subi (addi x (broadcastInDim (shape1 640) ![] h1 (constantI shape0 32 8#32)))
        (broadcastInDim (shape1 640) ![] h2 (constantI shape0 32 1#32))) (constantI shape0 32 8#32))
      (broadcastInDim (shape1 640) ![] h3 (constantI shape0 32 8#32)) (ix1 c) = BitVec.ofNat 32 (cnt8 W c.val) := by
  have hc := cnt_le W c.val
  rw [muli_ap, pyDiv_ap hb _ _ (ix1 c) (a := cnt W c.val + 7) (b := 8) _ rfl (by omega) (by norm_num) (by norm_num), bc0, constantI_at]
  · show BitVec.ofNat 32 _ * BitVec.ofNat 32 8 = _
    rw [← BitVec.ofNat_mul]; rfl
  · rw [subi_ap, addi_ap, bc0, bc0, constantI_at, constantI_at, hx]
    show BitVec.ofNat 32 _ + BitVec.ofNat 32 8 - BitVec.ofNat 32 1 = _
    rw [← BitVec.ofNat_add, ofNat32_sub (by omega)]; rfl

/-- The place of a sorted position `r` whose cluster is `c`: `r` shifted by the rounding rows of the clusters before. -/
theorem place_ap (x x8 : IVec (shape1 640) 32) (hx : ∀ c : Fin 640, x (ix1 c) = BitVec.ofNat 32 (cnt W c.val))
    (hx8 : ∀ c : Fin 640, x8 (ix1 c) = BitVec.ofNat 32 (cnt8 W c.val))
    (cs : IVec (shape1 16384) 32) (r : Fin 16384) (c : ℕ) (hc : c < 640) (hcs : cs (ix1 r) = BitVec.ofNat 32 c)
    (h1 h2 h3 h4 h5 h6 h7) (h8 : (shape2 16384 640).ReducesTo [1] (shape1 16384)) (hu : 0 < shape0.numel) :
    addi (iotaInDim (shape1 16384) 32 0) (Host.reduce IntOp.addi
      (select (cmpi .slt (broadcastInDim (shape2 16384 640) ![0, 1] h2 (broadcastInDim (shape2 1 640) ![1] h1 (iotaInDim (shape1 640) 32 0)))
          (broadcastInDim (shape2 16384 640) ![0, 1] h4 (broadcastInDim (shape2 16384 1) ![0] h3 cs)))
        (broadcastInDim (shape2 16384 640) ![0, 1] h6 (broadcastInDim (shape2 1 640) ![1] h5 (subi x8 x)))
        (broadcastInDim (shape2 16384 640) ![] h7 (constantI shape0 32 0#32)))
      (constantI shape0 32 0#32) h8 hu) (ix1 r) = BitVec.ofNat 32 (r.val + (off W c - start W c)) := by
  have hsum : ∑ q ∈ Finset.range 640, (if q < c then cnt8 W q - cnt W q else 0) = off W c - start W c := by
    rw [← sum_pad, Finset.sum_ite, Finset.sum_const_zero, add_zero]
    refine Finset.sum_congr (Finset.ext fun q => ?_) fun _ _ => rfl
    simp only [Finset.mem_filter, Finset.mem_range]; omega
  have hlt : off W c - start W c < 2 ^ 32 := by have := off_le W c; omega
  rw [addi_ap, iota1_ap, reduce_row_sum _ r (fun q => if q < c then cnt8 W q - cnt W q else 0) _ (by rw [hsum]; exact hlt) h8 hu, hsum,
    ← BitVec.ofNat_add]
  intro q
  have hq := q.isLt
  rw [select_at, cmpi_at, bcRows, bcCols, bcCols, bc0, iota1_ap, hcs, constantI_at, subi_ap, hx, hx8, ofNat32_sub (le_cnt8 W _),
    cmpi_slt_ofNat (w := 32) (by omega) (by omega), select_decide]
  split_ifs <;> rfl

end Cert.Plan
-- ==== Proof.PlanRem.lean ====
/-
  The remainder of any word by 16384, with the divisor's sign, is a natural number below 16384.
-/
module

public import proofs.«01_k».proof.Proof.Plan

@[expose] public section

namespace Cert.Plan

open Idealize.ShloMosaic Idealize.ShloMosaic.Routing Idealize.ShloMosaic.ValueIdx Idealize.ShloMosaic.WordCmp

theorem remsi_16384 (v : BitVec 32) : IntOp.remsi .host v 16384#32 = v.srem 16384#32 := by
  have hc : ¬ IntOp.SDivCorner v 16384#32 := by
    rintro (h | ⟨_, h⟩) <;> exact absurd h (by decide)
  unfold IntOp.remsi; rw [if_neg hc]

theorem srem_toInt (v : BitVec 32) : -16384 < (v.srem 16384#32).toInt ∧ (v.srem 16384#32).toInt < 16384 := by
  rw [BitVec.toInt_srem]
  have h : (16384#32 : BitVec 32).toInt = 16384 := by decide
  rw [h]
  have h1 := Int.tmod_lt_of_pos v.toInt (show (0 : ℤ) < 16384 by norm_num)
  have h2 : -16384 < v.toInt.tmod 16384 := by
    have := Int.tmod_lt_of_pos (-v.toInt) (show (0 : ℤ) < 16384 by norm_num)
    rw [Int.neg_tmod] at this; omega
  exact ⟨h2, h1⟩

/-- Adding the divisor to a negative remainder makes it a natural below the divisor. -/
theorem fold_lt (r : BitVec 32) (h : -16384 < r.toInt ∧ r.toInt < 16384) :
    (Scalar.select (IntOp.andi (IntOp.cmpi .ne (IntOp.cmpi .slt r 0#32) (IntOp.cmpi .slt 16384#32 0#32)) (IntOp.cmpi .ne r 0#32))
      (r + 16384#32) r).toNat < 16384 := by
  have e0 : IntOp.cmpi .slt 16384#32 0#32 = 0#1 := by decide
  rw [e0]
  have hr := BitVec.isLt r
  rw [BitVec.toInt_eq_toNat_cond] at h
  by_cases hn : 2 * r.toNat < 2 ^ 32
  · rw [if_pos hn] at h
    have h1 : IntOp.cmpi .slt r 0#32 = 0#1 := by
      show BitVec.ofBool (r.slt 0#32) = 0#1
      have : r.slt 0#32 = false := by
        rw [BitVec.slt, BitVec.toInt_eq_toNat_cond, if_pos hn]; simp
      rw [this]; rfl
    rw [h1]
    have h2 : IntOp.cmpi .ne (0#1 : BitVec 1) 0#1 = 0#1 := by decide
    rw [h2]
    rw [show ∀ y : BitVec 1, IntOp.andi 0#1 y = 0#1 from fun y => BitVec.zero_and]
    show r.toNat < 16384
    omega
  · rw [if_neg hn] at h
    have h1 : IntOp.cmpi .slt r 0#32 = 1#1 := by
      show BitVec.ofBool (r.slt 0#32) = 1#1
      have : r.slt 0#32 = true := by
        rw [BitVec.slt, BitVec.toInt_eq_toNat_cond, if_neg hn]; simp; omega
      rw [this]; rfl
    have h3 : IntOp.cmpi .ne r 0#32 = 1#1 := by
      show BitVec.ofBool (r != 0#32) = 1#1
      have : (r != 0#32) = true := by
        rw [bne_iff_ne]; rintro rfl; simp at hn
      rw [this]; rfl
    rw [h1, h3]
    show (r + 16384#32).toNat < 16384
    rw [BitVec.toNat_add]
    simp only [BitVec.toNat_ofNat]
    omega

/-- The remainder by 16384 of every word of a vector. -/
theorem pyRem_lt {s : Shape} (hb : shape0.BroadcastsInDim s (![] : Fin 0 → Fin s.rank)) (x : IVec s 32) (i : s.Idx) :
    (pyRem hb x (constantI shape0 32 16384#32) i).toNat < 16384 := by
  have hg : divGuard (constantI shape0 32 16384#32) ix0 = 16384#32 := divGuard_ap (b := 16384) _ rfl (by norm_num) (by norm_num)
  unfold pyRem
  simp only [select_at, cmpi_at, andi_at, addi_ap, Host.remsi_apply, bc0, constantI_at, hg, remsi_16384]
  exact fold_lt _ (srem_toInt _)

end Cert.Plan
-- ==== Proof.Tables.lean ====
/-
  The tables the kernel reads, as natural numbers of the plan, and the bounds its copies need: they hold whatever the
  launch holds.
-/
module

public import proofs.«01_k».proof.Proof.Entry
public import proofs.«01_k».proof.Proof.PlanVec
public import proofs.«01_k».proof.Proof.PlanRem
public import Idealize.ShloMosaic.Lib.Pipeline.Value
public import Idealize.ShloMosaic.Lib.Pointwise.SelectCore

@[expose] public section

set_option maxRecDepth 4000

noncomputable section

namespace Cert.KernelIdeal.Hand

open Cert.KernelIdeal Cert.KernelIdeal.Gen
open Idealize.ShloMosaic hiding ix1 ix2 ix3 eq_ix1
open Idealize.ShloMosaic.Routing Idealize.ShloMosaic.ValueIdx Idealize.ShloMosaic.WordCmp
open Cert.Plan (cnt start cnt8 off)

variable {F : FTy → Type} [FloatOps F]
variable (m : (ℓ : Loc nD τ sig) → Buf (Elt F) ℓ)

attribute [local irreducible] atEntry

/-- The word that names a pair's cluster. -/
def pw (e : Fin 16384) : BitVec 32 := (E m 0 main_v0 : IVec S16384 32) (ix1 e)

theorem cntE (c : Fin 640) : (E m 0 main_v15 : IVec S640 32) (ix1 c) = BitVec.ofNat 32 (cnt (pw m) c) := by
  rw [E_v15]
  exact Cert.Plan.cnt_ap (pw m) _ (fun _ => rfl) _ _ _ _ _ _ _ c

theorem startE (c : Fin 640) : (E m 0 main_v17 : IVec S640 32) (ix1 c) = BitVec.ofNat 32 (start (pw m) c) := by
  rw [E_v17, E_v16]
  exact Cert.Plan.exclusive_ap _ (cnt (pw m)) (cntE m) _ (bc0 _ _ _) _ _ c

theorem cnt8E (c : Fin 640) : (E m 0 main_v24 : IVec S640 32) (ix1 c) = BitVec.ofNat 32 (cnt8 (pw m) c) := by
  rw [E_v24, E_v22, E_v21, E_c_5]
  exact Cert.Plan.cnt8_ap (pw m) _ (cntE m) _ _ _ _ c

theorem offE (c : Fin 640) : (E m 0 main_v26 : IVec S640 32) (ix1 c) = BitVec.ofNat 32 (off (pw m) c) := by
  rw [E_v26, E_v25]
  exact Cert.Plan.exclusive_ap _ (cnt8 (pw m)) (cnt8E m) _ (bc0 _ _ _) _ _ c

theorem pairE_lt (r : Fin 16384) : ((E m 0 main_v6 : IVec S16384 32) (ix1 r)).toNat < 16384 := by
  rw [E_v6, E_c_0]
  exact Cert.Plan.pyRem_lt _ _ _

theorem quotE (r : Fin 16384) : (E m 0 main_v38 : IVec S16384 32) (ix1 r)
    = BitVec.ofNat 32 (((E m 0 main_v6 : IVec S16384 32) (ix1 r)).toNat / 4) := by
  rw [E_v38, E_c_9]
  have h := pairE_lt m r
  exact pyDiv_ap (s := shape1 16384) _ _ _ (ix1 r) (a := ((E m 0 main_v6 : IVec S16384 32) (ix1 r)).toNat) (b := 4)
    (BitVec.eq_of_toNat_eq (by rw [BitVec.toNat_ofNat, Nat.mod_eq_of_lt (by omega)])) rfl (by omega) (by norm_num) (by norm_num)

theorem toNat_of (n : ℕ) (h : n < 2 ^ 32) : (BitVec.ofNat 32 n).toNat = n := by rw [BitVec.toNat_ofNat, Nat.mod_eq_of_lt h]

theorem t1_eq (c : Fin 640) : (T1 m (ix1 c)).toNat = start (pw m) c := by
  have h := Cert.Plan.start_le (pw m) c (by have := c.isLt; omega)
  exact (congrArg BitVec.toNat (startE m c)).trans (toNat_of _ (by omega))
theorem t2_eq (c : Fin 640) : (T2 m (ix1 c)).toNat = cnt (pw m) c := by
  have h := Cert.Plan.cnt_le (pw m) c
  exact (congrArg BitVec.toNat (cntE m c)).trans (toNat_of _ (by omega))
theorem t3_eq (c : Fin 640) : (T3 m (ix1 c)).toNat = off (pw m) c := by
  have h := Cert.Plan.off_le (pw m) c
  have h' := Cert.Plan.start_le (pw m) c (by have := c.isLt; omega)
  have := c.isLt
  exact (congrArg BitVec.toNat (offE m c)).trans (toNat_of _ (by omega))

theorem t5_lt (x : S16416.Idx) : (T5 m x).toNat < 4096 := by
  have h : T5 m = E m 0 main_v40 := rfl
  rw [h, E_v40]
  refine concatenate_forall (P := fun v : BitVec 32 => v.toNat < 4096) _ _ _ _ ?_ x
  intro p hp i
  simp only [List.mem_cons, List.mem_nil_iff, or_false] at hp
  rcases hp with rfl | rfl
  · have e : i = ix1 (i 0) := eq_ix1 i
    have h := pairE_lt m (i 0)
    show (E m 0 main_v38 i).toNat < 4096
    rw [e]
    have h2 : ((E m 0 main_v38 : IVec S16384 32) (ix1 (i 0))).toNat = _ := (congrArg BitVec.toNat (quotE m (i 0))).trans (toNat_of _ (by omega))
    exact lt_of_eq_of_lt h2 (by omega)
  · show (broadcastInDim S32 ![] bcast_S_S32 (constantI S_ 32 0#32) i).toNat < 4096
    rw [bc0]; decide

theorem exists_ix1 (i : S640.Idx) : ∃ c : Fin 640, i = ix1 c := ⟨i 0, eq_ix1 i⟩

theorem tablesOk : TablesOk m where
  query := t5_lt m
  count i := by obtain ⟨c, rfl⟩ := exists_ix1 i; rw [t2_eq]; exact Cert.Plan.cnt_le _ _
  slots i := by obtain ⟨c, rfl⟩ := exists_ix1 i; rw [t2_eq, t1_eq]; exact Cert.Plan.slots_le _ _ c.isLt
  aligned i := by obtain ⟨c, rfl⟩ := exists_ix1 i; rw [t3_eq]; exact Cert.Plan.off_aligned _ _
  rows i := by obtain ⟨c, rfl⟩ := exists_ix1 i; rw [t2_eq, t3_eq]; exact Cert.Plan.rows_le _ _ c.isLt

end Cert.KernelIdeal.Hand
-- ==== Proof.Frame.lean ====
/-
  The program's frame with its result: it ends, every argument array is as it was, every semaphore is at zero, and the
  result array holds what the host lines after the kernel make of the score array.
-/
module

public import proofs.«01_k».proof.Proof.Run
public import proofs.«01_k».proof.Proof.Tables
public import Idealize.ShloMosaic.Lib.Claim

@[expose] public section

set_option maxRecDepth 2000

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- Every buffer after the last host line. -/
def endAt (c : Dev nD) : Valuation τ sig (Elt F) :=
  StableHlo.after (opsAfter (F := F)).flatten (Pipeline.withArrays spec0 c (Pipeline.withR (atEntry m c) R0 c (G m grid0.N c))
    fun w => (dats m (outPr m 0) 0 c).arrAt w (cfgA m).N)

theorem rest_arg (b : Ref sig .tc) (hb : b ∈ Pipeline.restRefs sig spec0) (h : b ∉ R0 ∪ T0) : b ∈ Pipeline.restRefs sig spec0 \ (R0 ∪ T0) :=
  Finset.mem_sdiff.mpr ⟨hb, h⟩

theorem run_all : θ_run defs (onTc (τ := τ) (main (F := F))) ⟨m, fun _ => 0, ρ⟩ (fun r => (∀ c : Dev nD,
      r.2.mem ((c.tc : Thread nD τ).loc main_v44) = endAt m c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ?_) (θ_run_and (run_frame m ρ (tablesOk m)) (run_value m ρ (tablesOk m)))
  obtain ⟨hf, hv, hs⟩ := h
  refine ⟨fun c => ⟨?_, ?_, ?_, ?_, ?_, ?_⟩, hs⟩
  · exact hv c main_v44 (by decide)
  · have h := (hf c).1 0
    rw [(dats m anyPr 0 c).arrAt_in 0 rfl, A_eq] at h
    exact h.trans (E_arg m c main_arg0 (by decide))
  · exact ((hf c).2 main_arg1 (rest_arg _ (Pipeline.mem_restRefs_of main_arg1 (by decide) (by decide)) (by decide))).trans (E_arg m c main_arg1 (by decide))
  · have h := (hf c).1 1
    rw [(dats m anyPr 0 c).arrAt_in 1 rfl, A_eq] at h
    exact h.trans (E_arg m c main_arg2 (by decide))
  · exact ((hf c).2 main_arg3 (rest_arg _ (Pipeline.mem_restRefs_of main_arg3 (by decide) (by decide)) (by decide))).trans (E_arg m c main_arg3 (by decide))
  · exact ((hf c).2 main_arg4 (rest_arg _ (Pipeline.mem_restRefs_of main_arg4 (by decide) (by decide)) (by decide))).trans (E_arg m c main_arg4 (by decide))

end Cert.KernelIdeal.Hand
-- ==== Proof.Bits.Trip.lean ====
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameSuffixV
public import Idealize.ShloMosaic.Lib.Pipeline.FrameBody
public import Idealize.ShloMosaic.Lib.Tactic
public import Idealize.ShloMosaic.Lib.ValueIdxCore
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type} [FloatOps F] [hF : Cert.Kernel.Facts]

local notation "𝕄" => MT nD τ sig Unit (Elt F) ℕ (Pipeline.UD sig nD τ) ℕ

abbrev tb1 : Memref sig .tc .smem S640 .i32 := Memref.whole main_v17
abbrev tb2 : Memref sig .tc .smem S640 .i32 := Memref.whole main_v15
abbrev tb3 : Memref sig .tc .smem S640 .i32 := Memref.whole main_v26
abbrev tb4 : Memref sig .tc .smem S640 .i32 := Memref.whole main_arg4
abbrev tb5 : Memref sig .tc .smem S16416 .i32 := Memref.whole main_v40
abbrev ob : Memref sig .tc .hbm S21504x832 .f32 := Memref.whole main_v42
abbrev sc0 : Memref sig .tc .vmem S832x256 .bf16 := Memref.whole cc0_scratch0
abbrev sc1 : Memref sig .tc .vmem S832x256 .bf16 := Memref.whole cc0_scratch1
abbrev sc2 : Memref sig .tc .vmem S32x256 .i32 := Memref.whole cc0_scratch2
abbrev sc3 : Memref sig .tc .vmem S32x832 .f32 := Memref.whole cc0_scratch3

abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f
abbrev tpt (c : Dev nD) {sp : Space} {S : Shape} {e : EltTy} (M : Memref sig .tc sp S e) (f : BufOf (F := F) c M) : sProp 𝕄 :=
  M.view.loc (c : Thread nD τ) ↦{fullShare.right} f

theorem row_inb (v : BitVec 32) (h : v.toNat < 4096) (a : Fin 2) :
    (![v.toNat, 0] : Fin 2 → ℕ) a + S1x256.size a ≤ S4096x256.size a := by
  fin_cases a
  · show v.toNat + 1 ≤ 4096; omega
  · show 0 + 256 ≤ 256; omega

/-! ## The pure content of a trip -/

/-- Slot `n` of the query table. -/
def slotIx (n : ℕ) : S16416.Idx := ix1 ⟨n % 16416, Nat.mod_lt _ (by decide)⟩

/-- The query a sorted slot names: the word of the table `T` at slot `n`, as a row of the query array. -/
def qrow (T : S16416.Idx → BitVec 32) (n : ℕ) : Fin 4096 :=
  ⟨(T (slotIx n)).toNat % 4096, Nat.mod_lt _ (by decide)⟩

/-- The 32 query rows from slot `base` on, side by side. -/
def rowsAt (X : S4096x256.Idx → BitVec 32) (T : S16416.Idx → BitVec 32) (base : ℕ) : S32x256.Idx → BitVec 32 :=
  fun y => X (ix2 (qrow T (base + (y 0).val)) (y 1))

/-- Rows `r … r + 31` of `f` replaced by the block `P`. -/
def putRows {α : Type} (r : ℕ) (P : S32x832.Idx → α) (f : S21504x832.Idx → α) : S21504x832.Idx → α :=
  fun y => if h : r ≤ (y 0).val ∧ (y 0).val < r + 32 then P (ix2 ⟨(y 0).val - r, by omega⟩ (y 1)) else f y

/-- The block of scores a trip computes from slot `base` on: the printed arithmetic at the rows loaded. -/
def block (X : S4096x256.Idx → Elt F .i32) (T : S16416.Idx → BitVec 32) (base : ℕ) (size : Elt F .i32)
    (lo hi : S832x256.Idx → Elt F .bf16) (sc : S1x1x832.Idx → Elt F .f32) : S32x832.Idx → Elt F .f32 :=
  k0_pay33 size (rowsAt X T base) lo hi sc

/-- What the score array holds after `n` trips. -/
def chunks (X : S4096x256.Idx → Elt F .i32) (T : S16416.Idx → BitVec 32) (base off : ℕ) (size : Elt F .i32)
    (lo hi : S832x256.Idx → Elt F .bf16) (sc : S1x1x832.Idx → Elt F .f32) (f : S21504x832.Idx → Elt F .f32) :
    ℕ → S21504x832.Idx → Elt F .f32
  | 0 => f
  | n + 1 => putRows (off + 32 * n) (block X T (base + 32 * n) size lo hi sc) (chunks X T base off size lo hi sc f n)

/-- The word arithmetic of a slot's address has no wraparound. -/
theorem slot_nat (v : BitVec 32) (k r : ℕ) (hr : r < 32) (h : v.toNat + 32 * (k + 1) ≤ 21504) :
    (v + (0#32 + BitVec.ofNat 32 k * 1#32) * 32#32 + BitVec.ofNat 32 r).toNat = v.toNat + 32 * k + r := by
  simp only [BitVec.toNat_add, BitVec.toNat_mul, BitVec.toNat_ofNat]; omega

theorem slot_nat' (v : BitVec 32) (k : ℕ) (h : v.toNat + 32 * (k + 1) ≤ 21504) :
    (v + (0#32 + BitVec.ofNat 32 k * 1#32) * 32#32).toNat = v.toNat + 32 * k := by
  simp only [BitVec.toNat_add, BitVec.toNat_mul, BitVec.toNat_ofNat]; omega

/-- A table's word read through a one-word rectangle at `n`. -/
theorem word_read (T : S16416.Idx → Elt F .i32) (o : Fin 1 → ℕ) (n : ℕ) (ho : o 0 = n) (inb : ∀ a, o a + S1.size a ≤ S16416.size a)
    (h : 0 < (Rect.unit (s := S16416) o S1.size inb).shape.numel) :
    View.readAt (Elt F) tb5.view (Rect.unit (s := S16416) o S1.size inb).toLoadRect T (Shape.Idx.first h)
      = T (slotIx n) := by
  have hn : n < 16416 := by have := inb 0; rw [ho] at this; exact Nat.lt_of_succ_le this
  rw [View.readAt_apply]
  refine congrArg T (funext fun a => ?_)
  match a with
  | ⟨0, _⟩ =>
    apply Fin.ext
    show o 0 + 1 * 0 = n % 16416
    rw [ho, Nat.mod_eq_of_lt hn]; rfl

/-- One row loaded at a table word is that query's row. -/
theorem row_read (M : Memref sig .tc .vmem S4096x256 .i32) {c : Dev nD} (f : BufOf (F := F) c M) (T : S16416.Idx → BitVec 32)
    (n : ℕ) (w : BitVec 32) (hw : w = T (slotIx n)) (o : Fin 2 → ℕ) (ho : o = ![w.toNat, 0])
    (inb : ∀ a, o a + S1x256.size a ≤ S4096x256.size a) (x : S1x256.Idx) :
    View.readAt (Elt F) M.view (Rect.unit (s := S4096x256) o S1x256.size inb).toLoadRect f x
      = M.view.read (Elt F) f (ix2 (qrow T n) (x 1)) := by
  subst ho hw
  rw [View.readAt_apply]
  refine congrArg _ (funext fun a => Fin.ext ?_)
  have h0 : (x 0).val = 0 := by have := (x 0).isLt; exact Nat.lt_one_iff.mp this
  have hb : (T (slotIx n)).toNat + 1 ≤ 4096 := inb 0
  fin_cases a
  · show (T (slotIx n)).toNat + 1 * (x 0).val
      = (T (slotIx n)).toNat % 4096
    rw [h0, Nat.mod_eq_of_lt hb]; rfl
  · show 0 + 1 * (x 1).val = (x 1).val
    omega

/-- The row stored at line `r` of the gathered block is the query row of slot `base + r`. -/
theorem piece_row (M : Memref sig .tc .vmem S4096x256 .i32) {c : Dev nD} (f : BufOf (F := F) c M) (T : S16416.Idx → BitVec 32)
    (base r : ℕ) (w : BitVec 32) (hw : w = T (slotIx (base + r))) (o : Fin 2 → ℕ) (ho : o = ![w.toNat, 0])
    (inb : ∀ a, o a + S1x256.size a ≤ S4096x256.size a) (inb' : ∀ a, (![r, 0] : Fin 2 → ℕ) a + S1x256.size a ≤ S32x256.size a)
    (h : S1x256.ShapeCasts S1x256) (x : S1x256.Idx) :
    shapeCast S1x256 (View.readAt (Elt F) M.view (Rect.unit (s := S4096x256) o S1x256.size inb).toLoadRect f) h x
      = rowsAt (M.view.read (Elt F) f) T base ((Rect.unit (s := S32x256) ![r, 0] S1x256.size inb').emb x) := by
  refine (congrFun (shapeCast_self _ h) x).trans ((row_read M f T (base + r) w hw o ho inb x).trans ?_)
  have h0 : (x 0).val = 0 := by have := (x 0).isLt; exact Nat.lt_one_iff.mp this
  have e0 : ((Rect.unit (s := S32x256) ![r, 0] S1x256.size inb').emb x 0).val = r := by
    rw [Rect.emb_apply]; show r + 1 * (x 0).val = r; omega
  have e1 : (Rect.unit (s := S32x256) ![r, 0] S1x256.size inb').emb x 1 = x 1 := by
    apply Fin.ext; rw [Rect.emb_apply]; show 0 + 1 * (x 1).val = (x 1).val; omega
  unfold rowsAt
  rw [e0]
  exact congrArg (fun z => M.view.read (Elt F) f (ix2 _ z)) e1.symm

/-- A block of `B` rows written through a view's rectangle at row `r`, read back: the block on its rows, the old contents off them. -/
theorem read_put {sig : RefSig} {κ : Kind} {sp : Space} {Val : EltTy → Type} {e : EltTy} {N C B : ℕ} (v : View sig κ sp ⟨2, ![N, C]⟩ e)
    (r : ℕ) (inb : ∀ a, (![r, 0] : Fin 2 → ℕ) a + (![B, C] : Fin 2 → ℕ) a ≤ (![N, C] : Fin 2 → ℕ) a) (f : v.ty.Contents Val)
    (P : (⟨2, ![B, C]⟩ : Shape).Idx → Val e) (y : (⟨2, ![N, C]⟩ : Shape).Idx) :
    v.read Val ((v.slice (Rect.unit (s := ⟨2, ![N, C]⟩) ![r, 0] ![B, C] inb)).write Val f P Finset.univ) y
      = if h : r ≤ (y 0).val ∧ (y 0).val < r + B then P (ix2 ⟨(y 0).val - r, by omega⟩ (y 1)) else v.read Val f y := by
  split
  · rename_i h
    have : y = (Rect.unit (s := ⟨2, ![N, C]⟩) ![r, 0] ![B, C] inb).emb (ix2 ⟨(y 0).val - r, by omega⟩ (y 1)) := by
      funext a; apply Fin.ext; rw [Rect.emb_apply]
      match a with
      | ⟨0, _⟩ => show (y 0).val = r + 1 * ((y 0).val - r); omega
      | ⟨1, _⟩ => show (y 1).val = 0 + 1 * (y 1).val; omega
    conv_lhs => rw [this]
    exact View.read_slice_write_emb _ _ _ (Finset.mem_univ _)
  · rename_i h
    refine View.read_slice_write_of_not_mem (v := v) (Rect.unit (s := ⟨2, ![N, C]⟩) ![r, 0] ![B, C] inb) f P _ ?_
    intro hm
    obtain ⟨x, -, hx⟩ := Finset.mem_map.mp hm
    apply h
    have h0 : (y 0).val = r + 1 * (x 0).val := by rw [← hx, Rect.emb_apply]; rfl
    have : (x 0).val < B := (x 0).isLt
    omega

/-- A block written through the slice of the score array at row `r` is `putRows`. -/
theorem slice_write (o : Fin 2 → ℕ) (r : ℕ) (ho : o = ![r, 0]) (inb : ∀ a, o a + S32x832.size a ≤ S21504x832.size a)
    (f : ob.view.ty.Contents (Elt F)) (P : S32x832.Idx → Elt F .f32) :
    View.write (Elt F) (ob.view.slice (Rect.unit (s := S21504x832) o S32x832.size inb)) f P Finset.univ = putRows r P f := by
  subst ho
  have hr : ∀ W : ob.view.ty.Contents (Elt F), W = View.read (Elt F) ob.view W := fun _ => rfl
  refine (hr _).trans (funext fun y => ?_)
  rw [read_put (N := 21504) (C := 832) (B := 32) ob.view r inb f P y, ← hr f]
  rfl

/-! ## One trip -/

variable (c : Dev nD) (i : grid0.Coords)
  (arg6 : Memref sig .tc .vmem S4096x256 .i32) (harg6 : arg6.IsWhole) (arg7 : Memref sig .tc .vmem S1x832x256 .i8) (harg7 : arg7.IsWhole)
  (arg8 : Memref sig .tc .vmem S1x1x832 .f32) (harg8 : arg8.IsWhole)
  (v20 v22 v24 v26 : Elt F .i32) (hw1 : k0_chk1 v20 v22) (hw34 : k0_chk34 v22 v24)

abbrev bodyT1 := k0_t1_body (F := F) i tb1 (Memref.isWhole_whole _) tb2 (Memref.isWhole_whole _) tb3 (Memref.isWhole_whole _) tb4 (Memref.isWhole_whole _) tb5 (Memref.isWhole_whole _)
  arg6 harg6 arg7 harg7 arg8 harg8 ob (Memref.isWhole_whole _) sc0 (Memref.isWhole_whole _) sc1 (Memref.isWhole_whole _) sc2 (Memref.isWhole_whole _) sc3 (Memref.isWhole_whole _) cc0_scratch4 v20 v22 hw1 v24 hw34 v26

theorem trip_run (k : Fin (k0_t1_loop v22).trips) (acc : BitVec 32)
    (T5 : BufOf (F := F) c tb5) (hq : ∀ x, BitVec.toNat (w := 32) (T5 x) < 4096)
    (f6 : BufOf (F := F) c arg6) (f8 : BufOf (F := F) c arg8) (g0 : BufOf (F := F) c sc0) (g1 : BufOf (F := F) c sc1)
    (g2 : BufOf (F := F) c sc2) (g3 : BufOf (F := F) c sc3) (f9 : BufOf (F := F) c ob) (W : Waits sig Unit)
    (hs : v20.toNat + 32 * (k.val + 1) ≤ 16416) (ho : v24.toNat + 32 * (k.val + 1) ≤ 21504) :
    iprop(tpt c tb5 T5 ∗ pt c arg6 f6 ∗ pt c arg8 f8 ∗ pt c sc0 g0 ∗ pt c sc1 g1 ∗ pt c sc2 g2 ∗ pt c sc3 g3 ∗ pt c ob f9
      ∗ semVal ((c : Thread nD τ), SemLoc.dma cc0_scratch4.sem) 0 ∗ owes (c : Thread nD τ) 0 W)
    ⊢ wp frame (wpE (defs₀ (F := F)) Variants.none c none) Set.univ (bodyT1 i arg6 harg6 arg7 harg7 arg8 harg8 v20 v22 v24 v26 hw1 hw34 k acc)
      (fun _ => iprop(tpt c tb5 T5 ∗ pt c arg6 f6 ∗ pt c arg8 f8 ∗ pt c sc0 g0 ∗ pt c sc1 g1 ∗ (∃ g, pt c sc2 g) ∗ (∃ g, pt c sc3 g)
        ∗ pt c ob (putRows (v24.toNat + 32 * k.val) (block (F := F) (arg6.view.read (Elt F) f6) T5 (v20.toNat + 32 * k.val) v26 g0 g1 (arg8.view.read (Elt F) f8)) f9)
        ∗ semVal ((c : Thread nD τ), SemLoc.dma cc0_scratch4.sem) 0 ∗ (∃ W', owes (c : Thread nD τ) 0 W'))) := by
  unfold bodyT1 k0_t1_body
  iintro ⟨HT, H6, H8, H0, H1, H2, H3, HO, HS, HW⟩
  sl_exec (disch := (refine fun a => row_inb _ ?_ a; exact hq _))
  have hv : trip_run.sl.v373 c arg6 v20 v22 hw1 k T5 hq f6 = rowsAt (arg6.view.read (Elt F) f6) T5 (v20.toNat + 32 * k.val) := by
    funext y
    unfold trip_run.sl.v373 View.readCov
    rw [View.readAt_apply]
    have hy : (Rect.unit (s := S32x256) ![0, 0] S32x256.size inb_S32x256_S32x256_0_0).toLoadRect.idx y = y := by
      funext a; apply Fin.ext; rw [LoadRect.idx_apply]
      match a with
      | ⟨0, _⟩ => show 0 + 1 * (y 0).val = (y 0).val; omega
      | ⟨1, _⟩ => show 0 + 1 * (y 1).val = (y 1).val; omega
    rw [hy]
    refine View.read_writes_apply_of_pieces sc2.view _ (rowsAt (arg6.view.read (Elt F) f6) T5 (v20.toNat + 32 * k.val)) _ ?_ y
      (View.cover_of_tiled (trip_run.sl.H2_32 c arg6 v20 v22 hw1 k T5 hq f6) ![1, 256] rfl y)
    unfold trip_run.sl.H2_32
    simp only [List.forall_mem_cons]
    repeat' apply And.intro
    all_goals first
      | exact fun x => piece_row arg6 f6 T5 _ _ _ (word_read T5 _ _ (slot_nat v20 k _ (by decide) (by omega)) _ _) _ rfl _ _ _ x
      | exact fun _ h => absurd h List.not_mem_nil
  have hout : trip_run.sl.HO_w0 c arg6 arg8 v20 v22 v24 v26 hw1 hw34 k T5 hq f6 f8 g0 g1 g3 f9
      = putRows (v24.toNat + 32 * k.val) (block (F := F) (arg6.view.read (Elt F) f6) T5 (v20.toNat + 32 * k.val) v26 g0 g1 (arg8.view.read (Elt F) f8)) f9 := by
    have hd : trip_run.sl.dma134 c arg6 arg8 v20 v22 v26 hw1 k T5 hq f6 f8 g0 g1 g3
        = block (F := F) (arg6.view.read (Elt F) f6) T5 (v20.toNat + 32 * k.val) v26 g0 g1 (arg8.view.read (Elt F) f8) := by
      funext y
      have hz : (![0, 0] : Fin 2 → ℕ) = fun _ => 0 := by funext a; fin_cases a <;> rfl
      have e0 := Memref.readAt_unit_zero (Elt F) cc0_scratch0 hz inb_S832x256_S832x256_0_0 g0
      have e1 := Memref.readAt_unit_zero (Elt F) cc0_scratch1 hz inb_S832x256_S832x256_0_0 g1
      have e8 : View.readAt (Elt F) arg8.view (Rect.unit (s := S1x1x832) ![0, 0, 0] S1x1x832.size inb_S1x1x832_S1x1x832_0_0_0).toLoadRect f8
          = arg8.view.read (Elt F) f8 := by
        funext z
        rw [View.readAt_apply]
        refine congrArg _ (funext fun a => Fin.ext ?_)
        rw [LoadRect.idx_apply]
        match a with
        | ⟨0, _⟩ => show 0 + 1 * (z 0).val = (z 0).val; omega
        | ⟨1, _⟩ => show 0 + 1 * (z 1).val = (z 1).val; omega
        | ⟨2, _⟩ => show 0 + 1 * (z 2).val = (z 2).val; omega
      have hy : (Rect.unit (s := S32x832) ![0, 0] S32x832.size inb_S32x832_S32x832_0_0).emb y = y := by
        funext a; apply Fin.ext; rw [Rect.emb_apply]
        match a with
        | ⟨0, _⟩ => show 0 + 1 * (y 0).val = (y 0).val; omega
        | ⟨1, _⟩ => show 0 + 1 * (y 1).val = (y 1).val; omega
      unfold trip_run.sl.dma134
      refine (View.read_writes_cons_hit sc3.view g3 _ _ [] y y hy).trans ?_
      rw [hv]
      unfold block
      exact congrFun (congrArg₂ (fun a b => a b) (congrArg₂ (k0_pay33 v26 _) e0 e1) e8) y
    unfold trip_run.sl.HO_w0
    rw [hd]
    exact slice_write _ _ (congrArg (fun n => ![n, 0]) (slot_nat' v24 k ho)) _ _ _
  rw [hout]
  sl_step
  isplitl [HT]; · iexact HT
  isplitl [H6]; · iexact H6
  isplitl [H8]; · iexact H8
  isplitl [H0]; · iexact H0
  isplitl [H1]; · iexact H1
  isplitl [H2]; · iexists _; iexact H2
  isplitl [H3]; · iexists _; iexact H3
  isplitl [HO]; · iexact HO
  isplitl [HS]; · iexact HS
  iexists _; iexact HW

end Cert.Kernel.Hand
-- ==== Proof.Bits.Trips.lean ====
/-
  The trip count of the kernel's loop over chunks of 32 pairs, and the bounds of its addresses. For a cluster with `n` pairs
  the loop makes `⌈n / 32⌉` trips; the loop behind it, for a remainder of the division by one, makes none.
-/
module

public import proofs.«01_k».proof.Proof.Bits.Trip
public import Idealize.ShloMosaic.Lib.LoopRemainder
public import Idealize.ShloMosaic.Lib.Routing.Words

@[expose] public section

namespace Cert.Kernel.Hand

open Idealize.ShloMosaic Idealize.ShloMosaic.Routing
open Cert.Kernel Cert.Kernel.Gen

/-- The printed quotient by 32, rounded down. -/
abbrev div32 (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 32#32 0#32)) (Scalar.extui (Scalar.cmpi .slt 32#32 0#32))))
    (Scalar.cmpi .ne (Scalar.remsi x 32#32) 0#32)) (Scalar.subi (Scalar.divsi x 32#32) 1#32) (Scalar.divsi x 32#32)

theorem div32_word {a : ℕ} (ha : a < 2 ^ 31) : div32 (BitVec.ofNat 32 a) = BitVec.ofNat 32 (a / 32) := by
  have hd : Scalar.divsi (BitVec.ofNat 32 a) 32#32 = BitVec.ofNat 32 (a / 32) :=
    divsi_word .scalar (a := a) (b := 32) ha (by decide) (by decide)
  rcases Nat.eq_zero_or_pos a with h | h
  · subst h; decide
  · have hg : Scalar.cmpi .sgt (BitVec.ofNat 32 a) 0#32 = 1#1 := by
      show BitVec.ofBool ((BitVec.ofNat 32 0).slt (BitVec.ofNat 32 a)) = 1#1
      rw [slt_ofNat32 (by decide) ha, decide_eq_true h]; rfl
    have hl : Scalar.cmpi .slt (BitVec.ofNat 32 a) 0#32 = 0#1 := by
      show BitVec.ofBool ((BitVec.ofNat 32 a).slt (BitVec.ofNat 32 0)) = 0#1
      rw [slt_ofNat32 ha (by decide), decide_eq_false (by omega)]; rfl
    show Scalar.select (Scalar.andi _ _) _ _ = _
    rw [hg, hl, hd]
    have e : Scalar.cmpi .ne (Scalar.subi (Scalar.extui (1#1 : BitVec 1)) (Scalar.extui (0#1 : BitVec 1)) : BitVec 32)
      (Scalar.subi (Scalar.extui (Scalar.cmpi .sgt 32#32 0#32)) (Scalar.extui (Scalar.cmpi .slt 32#32 0#32))) = 0#1 := by decide
    rw [e]
    show Scalar.select (0#1 &&& _) _ _ = _
    rw [BitVec.zero_and]; rfl

/-- The trips a cluster's pairs take. -/
theorem trips_val (v : BitVec 32) (h : v.toNat ≤ 16384) : (k0_t1_loop v).trips = (v.toNat + 31) / 32 := by
  obtain ⟨n, hn⟩ : ∃ n, v.toNat = n := ⟨_, rfl⟩
  have hv : v = BitVec.ofNat 32 n := by rw [← hn, BitVec.ofNat_toNat, BitVec.setWidth_eq]
  have e1 : Scalar.subi (Scalar.addi v 32#32) 1#32 = BitVec.ofNat 32 (n + 31) := by
    apply BitVec.eq_of_toNat_eq
    subst hv
    show (BitVec.ofNat 32 n + 32#32 - 1#32).toNat = _
    simp only [BitVec.toNat_add, BitVec.toNat_sub, BitVec.toNat_ofNat]
    omega
  have e2 : (k0_t1_loop v).ub = BitVec.ofNat 32 ((n + 31) / 32) := by
    show Scalar.addi 0#32 (Scalar.muli (Scalar.divsi (Scalar.subi (div32 (Scalar.subi (Scalar.addi v 32#32) 1#32)) 0#32) 1#32) 1#32) = _
    rw [e1, div32_word (by omega), Scalar.muli_divsi_one]
    show 0#32 + (_ - 0#32) = _
    rw [BitVec.zero_add, BitVec.sub_zero]
  show Scf.trips 0#32 (k0_t1_loop v).ub 1#32 = _
  rw [e2]
  unfold Scf.trips
  have i0 : (0#32 : BitVec 32).toInt = 0 := by decide
  have i1 : (1#32 : BitVec 32).toInt = 1 := by decide
  have i2 : (BitVec.ofNat 32 ((n + 31) / 32)).toInt = ((n + 31) / 32 : ℕ) := by
    rw [BitVec.toInt_eq_toNat_cond, BitVec.toNat_ofNat, Nat.mod_eq_of_lt (by omega), if_pos (by omega)]
  rw [i0, i1, i2, hn]; omega

theorem trips2_val (v : BitVec 32) : (k0_t2_loop v).trips = 0 := Scf.rem_trips 0#32 (Scalar.subi (div32 (Scalar.subi (Scalar.addi v 32#32) 1#32)) 0#32)

theorem no_trip2 (v : BitVec 32) (k : Fin (k0_t2_loop v).trips) : False := by
  exact Nat.not_lt_zero _ (lt_of_lt_of_eq k.isLt (trips2_val v))

theorem slot_inb (v20 v22 : BitVec 32) (h2 : v22.toNat ≤ 16384) (h1 : v20.toNat + 32 * ((v22.toNat + 31) / 32) ≤ 16416)
    (k : Fin (k0_t1_loop v22).trips) (r : ℕ) (hr : r < 32) (a : Fin 1) :
    (![(v20 + (0#32 + BitVec.ofNat 32 k * 1#32) * 32#32 + BitVec.ofNat 32 r).toNat] : Fin 1 → ℕ) a + S1.size a ≤ S16416.size a := by
  have hk := lt_of_lt_of_eq k.isLt (trips_val v22 h2)
  match a with
  | ⟨0, _⟩ =>
    show (v20 + (0#32 + BitVec.ofNat 32 k * 1#32) * 32#32 + BitVec.ofNat 32 r).toNat + 1 ≤ 16416
    rw [slot_nat v20 k r hr (by omega)]; omega

theorem slot_inb0 (v20 v22 : BitVec 32) (h2 : v22.toNat ≤ 16384) (h1 : v20.toNat + 32 * ((v22.toNat + 31) / 32) ≤ 16416)
    (k : Fin (k0_t1_loop v22).trips) (a : Fin 1) :
    (![(v20 + (0#32 + BitVec.ofNat 32 k * 1#32) * 32#32).toNat] : Fin 1 → ℕ) a + S1.size a ≤ S16416.size a := by
  have h := slot_inb v20 v22 h2 h1 k 0 (by decide) a
  rwa [BitVec.add_zero] at h

theorem loop1_ok (v22 : BitVec 32) (h2 : v22.toNat ≤ 16384) : (k0_t1_loop v22).OK := by
  refine ⟨(by decide : 0 < (1#32 : BitVec 32).toInt), ?_⟩
  show (0#32 : BitVec 32).toInt + (k0_t1_loop v22).trips * (1#32 : BitVec 32).toInt < 2 ^ 31
  rw [trips_val v22 h2]
  have i0 : (0#32 : BitVec 32).toInt = 0 := by decide
  have i1 : (1#32 : BitVec 32).toInt = 1 := by decide
  rw [i0, i1]; omega

theorem chk1_of (v20 v22 : BitVec 32) (h2 : v22.toNat ≤ 16384) (h1 : v20.toNat + 32 * ((v22.toNat + 31) / 32) ≤ 16416) :
    k0_chk1 v20 v22 := by
  refine ⟨?_, ?_, ?_⟩
  · unfold k0_chk1_0
    refine ⟨loop1_ok v22 h2, ?_⟩
    repeat' apply And.intro
    all_goals first
      | exact fun k a => slot_inb v20 v22 h2 h1 k _ (by decide) a
      | exact fun k a => slot_inb0 v20 v22 h2 h1 k a
  · unfold k0_chk1_1
    refine ⟨fun k a => slot_inb v20 v22 h2 h1 k _ (by decide) a, ?_, ?_⟩
    · exact Scf.rem_ok 0#32 (Scalar.subi (div32 (Scalar.subi (Scalar.addi v22 32#32) 1#32)) 0#32)
    · repeat' apply And.intro
      all_goals exact fun k _ => (no_trip2 v22 k).elim
  · unfold k0_chk1_2
    exact ⟨fun k _ => (no_trip2 v22 k).elim, fun k _ => (no_trip2 v22 k).elim⟩

theorem chk34_of (v22 v24 : BitVec 32) (h2 : v22.toNat ≤ 16384) (h8 : 8 ∣ v24.toNat)
    (h3 : v24.toNat + 32 * ((v22.toNat + 31) / 32) ≤ 21504) : k0_chk34 v22 v24 := by
  have hk : ∀ k : Fin (k0_t1_loop v22).trips, v24.toNat + 32 * (k.val + 1) ≤ 21504 := fun k => by
    have := lt_of_lt_of_eq k.isLt (trips_val v22 h2); omega
  refine ⟨fun k => ?_, fun k a => ?_, fun k => (no_trip2 v22 k).elim, fun k _ => (no_trip2 v22 k).elim⟩
  · show 8 ∣ (v24 + (0#32 + BitVec.ofNat 32 k * 1#32) * 32#32).toNat
    rw [slot_nat' v24 k (hk k)]; omega
  · match a with
    | ⟨0, _⟩ =>
      show (v24 + (0#32 + BitVec.ofNat 32 k * 1#32) * 32#32).toNat + 32 ≤ 21504
      rw [slot_nat' v24 k (hk k)]; have := hk k; omega
    | ⟨1, _⟩ => show 0 + 832 ≤ 832; omega

/-- The checks a cluster's pair addresses pass leave no wraparound: the slots of its trips end within the table. -/
theorem slots_fit (v20 v22 : BitVec 32) (hw : k0_chk1 v20 v22) :
    ∀ k, k < (k0_t1_loop v22).trips → v20.toNat + 32 * (k + 1) ≤ 16416 := by
  intro k
  have h0 : ∀ k : Fin (k0_t1_loop v22).trips, (v20 + (0#32 + BitVec.ofNat 32 k * 1#32) * 32#32 + 0#32).toNat + 1 ≤ 16416 :=
    fun k => k0_off2_inb v20 v22 hw k 0
  have h31 : ∀ k : Fin (k0_t1_loop v22).trips, (v20 + (0#32 + BitVec.ofNat 32 k * 1#32) * 32#32 + 31#32).toNat + 1 ≤ 16416 :=
    fun k => k0_off64_inb v20 v22 hw k 0
  have step : ∀ k, k < (k0_t1_loop v22).trips → v20.toNat + 32 * k ≤ 16416 → v20.toNat + 32 * (k + 1) ≤ 16416 := by
    intro k hk hb
    have e := h31 ⟨k, hk⟩
    have e0 := h0 ⟨k, hk⟩
    simp only [BitVec.toNat_add, BitVec.toNat_mul, BitVec.toNat_ofNat] at e e0
    omega
  have first : v20.toNat ≤ 16416 ∨ (k0_t1_loop v22).trips = 0 := by
    rcases Nat.eq_zero_or_pos (k0_t1_loop v22).trips with h | h
    · exact .inr h
    · left
      have e := h0 ⟨0, h⟩
      simp only [BitVec.toNat_add, BitVec.toNat_mul, BitVec.toNat_ofNat] at e
      have := v20.isLt
      omega
  induction k with
  | zero => intro hk; exact step 0 hk (by omega)
  | succ k ih => intro hk; exact step (k + 1) hk (ih (by omega))

/-- The same of the score rows a cluster's trips write. -/
theorem rows_fit (v22 v24 : BitVec 32) (hw : k0_chk34 v22 v24) :
    ∀ k, k < (k0_t1_loop v22).trips → v24.toNat + 32 * (k + 1) ≤ 21504 := by
  intro k
  have h0 : ∀ k : Fin (k0_t1_loop v22).trips, (v24 + (0#32 + BitVec.ofNat 32 k * 1#32) * 32#32).toNat + 32 ≤ 21504 :=
    fun k => k0_off66_inb v22 v24 hw k 0
  have step : ∀ k, k < (k0_t1_loop v22).trips → v24.toNat + 32 * k ≤ 21504 → v24.toNat + 32 * (k + 1) ≤ 21504 := by
    intro k hk hb
    have e0 := h0 ⟨k, hk⟩
    simp only [BitVec.toNat_add, BitVec.toNat_mul, BitVec.toNat_ofNat] at e0
    omega
  have first : v24.toNat ≤ 21504 ∨ (k0_t1_loop v22).trips = 0 := by
    rcases Nat.eq_zero_or_pos (k0_t1_loop v22).trips with h | h
    · exact .inr h
    · left
      have e := h0 ⟨0, h⟩
      simp only [BitVec.toNat_add, BitVec.toNat_mul, BitVec.toNat_ofNat] at e
      have := v24.isLt
      omega
  induction k with
  | zero => intro hk; exact step 0 hk (by omega)
  | succ k ih => intro hk; exact step (k + 1) hk (ih (by omega))

end Cert.Kernel.Hand
-- ==== Proof.Bits.Body.lean ====
/-
  The kernel at one cluster: the codes are unpacked into the two scratch arrays of nibbles, then the loop writes the score
  rows of the cluster's pairs 32 at a time. What it leaves in the score array is `chunks` at the cluster's numbers.
-/
module

public import proofs.«01_k».proof.Proof.Bits.Trips

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type} [FloatOps F] [hF : Cert.Kernel.Facts]

local notation "𝕄" => MT nD τ sig Unit (Elt F) ℕ (Pipeline.UD sig nD τ) ℕ

variable (c : Dev nD) (i : grid0.Coords)
  (arg6 : Memref sig .tc .vmem S4096x256 .i32) (harg6 : arg6.IsWhole) (arg7 : Memref sig .tc .vmem S1x832x256 .i8) (harg7 : arg7.IsWhole)
  (arg8 : Memref sig .tc .vmem S1x1x832 .f32) (harg8 : arg8.IsWhole)

section Loop

variable (v20 v22 v24 v26 : Elt F .i32) (hw1 : k0_chk1 v20 v22) (hw34 : k0_chk34 v22 v24)

set_option warn.classDefReducibility false in
/-- The loop over chunks: after `k` trips the score array is `chunks … k`. -/
@[sl_loop] def loopInv1 (T5 : BufOf (F := F) c tb5) (f6 : BufOf (F := F) c arg6) (f8 : BufOf (F := F) c arg8)
    (g0 : BufOf (F := F) c sc0) (g1 : BufOf (F := F) c sc1) (f9 : BufOf (F := F) c ob) :
    LoopInvTy_k0_t1 (F := F) Unit ℕ (Pipeline.UD sig nD τ) ℕ Variants.none c none Set.univ i tb1 (Memref.isWhole_whole _) tb2 (Memref.isWhole_whole _)
      tb3 (Memref.isWhole_whole _) tb4 (Memref.isWhole_whole _) tb5 (Memref.isWhole_whole _)
      arg6 harg6 arg7 harg7 arg8 harg8 ob (Memref.isWhole_whole _) sc0 (Memref.isWhole_whole _) sc1 (Memref.isWhole_whole _)
      sc2 (Memref.isWhole_whole _) sc3 (Memref.isWhole_whole _) cc0_scratch4 v20 v22 hw1 v24 hw34 v26 0#32 where
  inv k _ := iprop(⌜∀ x, BitVec.toNat (w := 32) (T5 x) < 4096⌝ ∗ tpt c tb5 T5 ∗ pt c arg6 f6 ∗ pt c arg8 f8 ∗ pt c sc0 g0 ∗ pt c sc1 g1
    ∗ (∃ g, pt c sc2 g) ∗ (∃ g, pt c sc3 g)
    ∗ pt c ob (chunks (F := F) (arg6.view.read (Elt F) f6) T5 v20.toNat v24.toNat v26 g0 g1 (arg8.view.read (Elt F) f8) f9 k)
    ∗ semVal ((c : Thread nD τ), SemLoc.dma cc0_scratch4.sem) 0 ∗ (∃ W, owes (c : Thread nD τ) 0 W))
  step k acc := by
    iintro ⟨%hq, HT, H6, H8, H0, H1, H2, H3, HO, HS, HW⟩
    icases H2 with ⟨%g2, H2⟩
    icases H3 with ⟨%g3, H3⟩
    icases HW with ⟨%W, HW⟩
    iapply (wp_wand_r Idealize.ShloMosaic.frame (wpE (defs₀ (F := F)) Variants.none (c : Thread nD τ) none) Set.univ)
    isplitr []
    · iapply (trip_run c i arg6 harg6 arg7 harg7 arg8 harg8 v20 v22 v24 v26 hw1 hw34 k acc T5 hq f6 f8 g0 g1 g2 g3 _ W
        (slots_fit v20 v22 hw1 k k.isLt) (rows_fit v22 v24 hw34 k k.isLt))
      isplitl [HT]; · iexact HT
      isplitl [H6]; · iexact H6
      isplitl [H8]; · iexact H8
      isplitl [H0]; · iexact H0
      isplitl [H1]; · iexact H1
      isplitl [H2]; · iexact H2
      isplitl [H3]; · iexact H3
      isplitl [HO]; · iexact HO
      isplitl [HS]; · iexact HS
      iexact HW
    · iintro %_ H
      isplitr; · ipureintro; exact hq
      iexact H

end Loop

abbrev bodyK := cc0_scores (F := F) i tb1 (Memref.isWhole_whole _) tb2 (Memref.isWhole_whole _) tb3 (Memref.isWhole_whole _) tb4 (Memref.isWhole_whole _) tb5 (Memref.isWhole_whole _)
  arg6 harg6 arg7 harg7 arg8 harg8 ob (Memref.isWhole_whole _) sc0 (Memref.isWhole_whole _) sc1 (Memref.isWhole_whole _) sc2 (Memref.isWhole_whole _) sc3 (Memref.isWhole_whole _) cc0_scratch4

/-- The place of cluster `i` in a table of 640 words. -/
def cluster (i : grid0.Coords) : S640.Idx := ix1 ⟨(i 0).val, (i 0).isLt⟩

theorem cluster_read (tb : Memref sig .tc .smem S640 .i32) (T : BufOf (F := F) c tb) (h : 0 < (Rect.unit (s := S640) (k0_off1 i) S1.size (k0_off1_inb i)).shape.numel) :
    View.readAt (Elt F) tb.view (Rect.unit (s := S640) (k0_off1 i) S1.size (k0_off1_inb i)).toLoadRect T (Shape.Idx.first h)
      = tb.view.read (Elt F) T (cluster i) := by
  rw [View.readAt_apply]
  refine congrArg _ (funext fun a => ?_)
  match a with
  | ⟨0, _⟩ =>
    apply Fin.ext
    rw [LoadRect.idx_apply]
    show k0_off1 i 0 + 1 * 0 = (i 0).val
    rw [k0_off1_eq]; rfl

theorem body_run (T1 : BufOf (F := F) c tb1) (T2 : BufOf (F := F) c tb2) (T3 : BufOf (F := F) c tb3) (T4 : BufOf (F := F) c tb4) (T5 : BufOf (F := F) c tb5)
    (hq : ∀ x, BitVec.toNat (w := 32) (T5 x) < 4096)
    (h2 : BitVec.toNat (w := 32) (T2 (cluster i)) ≤ 16384)
    (h1 : BitVec.toNat (w := 32) (T1 (cluster i)) + 32 * ((BitVec.toNat (w := 32) (T2 (cluster i)) + 31) / 32) ≤ 16416)
    (h8 : 8 ∣ BitVec.toNat (w := 32) (T3 (cluster i)))
    (h3 : BitVec.toNat (w := 32) (T3 (cluster i)) + 32 * ((BitVec.toNat (w := 32) (T2 (cluster i)) + 31) / 32) ≤ 21504)
    (f6 : BufOf (F := F) c arg6) (f7 : BufOf (F := F) c arg7) (f8 : BufOf (F := F) c arg8) (g0 : BufOf (F := F) c sc0) (g1 : BufOf (F := F) c sc1)
    (g2 : BufOf (F := F) c sc2) (g3 : BufOf (F := F) c sc3) (f9 : BufOf (F := F) c ob) (W : Waits sig Unit) :
    iprop(tpt c tb1 T1 ∗ tpt c tb2 T2 ∗ tpt c tb3 T3 ∗ tpt c tb4 T4 ∗ tpt c tb5 T5 ∗ pt c arg6 f6 ∗ pt c arg7 f7 ∗ pt c arg8 f8
      ∗ pt c sc0 g0 ∗ pt c sc1 g1 ∗ pt c sc2 g2 ∗ pt c sc3 g3 ∗ pt c ob f9
      ∗ semVal ((c : Thread nD τ), SemLoc.dma cc0_scratch4.sem) 0 ∗ owes (c : Thread nD τ) 0 W)
    ⊢ wp frame (wpE (defs₀ (F := F)) Variants.none c none) Set.univ (bodyK i arg6 harg6 arg7 harg7 arg8 harg8)
      (fun _ => iprop(tpt c tb1 T1 ∗ tpt c tb2 T2 ∗ tpt c tb3 T3 ∗ tpt c tb4 T4 ∗ tpt c tb5 T5 ∗ pt c arg6 f6 ∗ pt c arg7 f7 ∗ pt c arg8 f8
        ∗ (∃ g, pt c sc0 g) ∗ (∃ g, pt c sc1 g) ∗ (∃ g, pt c sc2 g) ∗ (∃ g, pt c sc3 g)
        ∗ pt c ob (chunks (F := F) (arg6.view.read (Elt F) f6) T5 (BitVec.toNat (w := 32) (T1 (cluster i))) (BitVec.toNat (w := 32) (T3 (cluster i)))
            (T4 (cluster i)) (k0_pay68 (arg7.view.read (Elt F) f7)) (k0_pay69 (arg7.view.read (Elt F) f7)) (arg8.view.read (Elt F) f8) f9
            ((BitVec.toNat (w := 32) (T2 (cluster i)) + 31) / 32))
        ∗ semVal ((c : Thread nD τ), SemLoc.dma cc0_scratch4.sem) 0 ∗ (∃ W', owes (c : Thread nD τ) 0 W'))) := by
  unfold bodyK
  sl_unfold [cc0_scores]
  have e1 : ∀ h, View.readAt (Elt F) tb1.view (Rect.unit (s := S640) (k0_off1 i) S1.size (k0_off1_inb i)).toLoadRect T1 (Shape.Idx.first h) = T1 (cluster i) :=
    fun h => cluster_read c i tb1 T1 h
  have e2 : ∀ h, View.readAt (Elt F) tb2.view (Rect.unit (s := S640) (k0_off1 i) S1.size (k0_off1_inb i)).toLoadRect T2 (Shape.Idx.first h) = T2 (cluster i) :=
    fun h => cluster_read c i tb2 T2 h
  have e3 : ∀ h, View.readAt (Elt F) tb3.view (Rect.unit (s := S640) (k0_off1 i) S1.size (k0_off1_inb i)).toLoadRect T3 (Shape.Idx.first h) = T3 (cluster i) :=
    fun h => cluster_read c i tb3 T3 h
  have e4 : ∀ h, View.readAt (Elt F) tb4.view (Rect.unit (s := S640) (k0_off1 i) S1.size (k0_off1_inb i)).toLoadRect T4 (Shape.Idx.first h) = T4 (cluster i) :=
    fun h => cluster_read c i tb4 T4 h
  iintro ⟨HT1, HT2, HT3, HT4, HT5, H6, H7, H8, H0, H1, H2, H3, HO, HS, HW⟩
  have c1 : ∀ a b : BitVec 32, a = T1 (cluster i) → b = T2 (cluster i) → k0_chk1 a b := fun a b ha hb => by
    subst ha hb; exact chk1_of _ _ h2 h1
  have c34 : ∀ a b : BitVec 32, a = T2 (cluster i) → b = T3 (cluster i) → k0_chk34 a b := fun a b ha hb => by
    subst ha hb; exact chk34_of _ _ h2 h8 h3
  sl_exec (disch := first | exact c1 _ _ (e1 _) (e2 _) | exact c34 _ _ (e2 _) (e3 _))
  have ev : View.readAt (Elt F) arg7.view (Rect.unit (s := S1x832x256) ![0, 0, 0] S1x832x256.size inb_S1x832x256_S1x832x256_0_0_0).toLoadRect f7
      = arg7.view.read (Elt F) f7 := by
    funext z
    rw [View.readAt_apply]
    refine congrArg _ (funext fun a => Fin.ext ?_)
    rw [LoadRect.idx_apply]
    match a with
    | ⟨0, _⟩ => show 0 + 1 * (z 0).val = (z 0).val; omega
    | ⟨1, _⟩ => show 0 + 1 * (z 1).val = (z 1).val; omega
    | ⟨2, _⟩ => show 0 + 1 * (z 2).val = (z 2).val; omega
  have hy : ∀ y : S832x256.Idx, (Rect.unit (s := S832x256) ![0, 0] S832x256.size inb_S832x256_S832x256_0_0).emb y = y := fun y => by
    funext a; apply Fin.ext; rw [Rect.emb_apply]
    match a with
    | ⟨0, _⟩ => show 0 + 1 * (y 0).val = (y 0).val; omega
    | ⟨1, _⟩ => show 0 + 1 * (y 1).val = (y 1).val; omega
  have w0 : sc0.view.writes (Elt F) sc0.view.junk (body_run.sl.H0_1 c arg7 f7) = k0_pay68 (arg7.view.read (Elt F) f7) := by
    have hr : ∀ W : sc0.view.ty.Contents (Elt F), W = View.read (Elt F) sc0.view W := fun _ => rfl
    refine (hr _).trans (funext fun y => ?_)
    unfold body_run.sl.H0_1
    refine (View.read_writes_cons_hit sc0.view _ _ _ [] y y (hy y)).trans ?_
    rw [ev]
  have w1 : sc1.view.writes (Elt F) sc1.view.junk (body_run.sl.H1_1 c arg7 f7) = k0_pay69 (arg7.view.read (Elt F) f7) := by
    have hr : ∀ W : sc1.view.ty.Contents (Elt F), W = View.read (Elt F) sc1.view W := fun _ => rfl
    refine (hr _).trans (funext fun y => ?_)
    unfold body_run.sl.H1_1
    refine (View.read_writes_cons_hit sc1.view _ _ _ [] y y (hy y)).trans ?_
    rw [ev]
  have r1 : body_run.sl.r c i T1 = T1 (cluster i) := e1 _
  have r2 : body_run.sl.r_1 c i T2 = T2 (cluster i) := e2 _
  have r3 : body_run.sl.r_2 c i T3 = T3 (cluster i) := e3 _
  have r4 : body_run.sl.r_3 c i T4 = T4 (cluster i) := e4 _
  have rt : Scf.trips (k0_t1_loop (body_run.sl.r_1 c i T2)).lb (k0_t1_loop (body_run.sl.r_1 c i T2)).ub (k0_t1_loop (body_run.sl.r_1 c i T2)).st
      = (BitVec.toNat (w := 32) (T2 (cluster i)) + 31) / 32 := by
    rw [r2]; exact trips_val _ h2
  rw [w0, w1, rt, r1, r3, r4]
  sl_step
  isplitl [HT1]; · iexact HT1
  isplitl [HT2]; · iexact HT2
  isplitl [HT3]; · iexact HT3
  isplitl [HT4]; · iexact HT4
  isplitl [HT5]; · iexact HT5
  isplitl [H6]; · iexact H6
  isplitl [H7]; · iexact H7
  isplitl [H8]; · iexact H8
  isplitl [H0]; · iexists _; iexact H0
  isplitl [H1]; · iexists _; iexact H1
  isplitl [H2]; · iexists _; iexact H2
  isplitl [H3]; · iexists _; iexact H3
  isplitl [HO]; · iexact HO
  isplitl [HS]; · iexact HS
  iexists _; iexact HW

end Cert.Kernel.Hand
-- ==== Proof.Bits.Region.lean ====
/-
  The launch of the kernel: the tables and arrays its host lines leave, the proof data of the pipelined region (the score
  array held at contents that a predicate describes step by step), and the body's obligation at a grid point.
-/
module

public import proofs.«01_k».proof.Proof.Bits.Body
public import Idealize.ShloMosaic.Lib.Pipeline.FrameSuffix0

@[expose] public section

set_option maxRecDepth 2000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx (ix1 ix2)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host lines before the kernel, stretch by stretch. -/
abbrev opsBefore : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14]
/-- The host lines after the kernel. -/
abbrev opsAfter : List (List (HloOp τ sig (Elt F))) := [hostOps1, hostOps1_1]

/-- Every buffer as the host lines before the kernel leave it. -/
def atEntry (c : Dev nD) : Valuation τ sig (Elt F) := StableHlo.after opsBefore.flatten (fun b => m (c, b))
/-- One buffer of it. -/
abbrev V (c : Dev nD) (b : Ref sig .tc) : Buf (Elt F) ((c.tc : Thread nD τ).loc b) := atEntry m c (Proc.devRef .tc b)

/-- The tables' contents at the kernel's entry. -/
def tabs : (pcfg0 (F := F)).Adm := ⟨fun k => V m 0 (pre0.ref k), trivial⟩
abbrev tabsOf : (p : Fin 1) → (pcfgs (F := F) p).Adm := fun _ => tabs m
abbrev cfgA := cfg0 (tabs m)

theorem dev0 (c : Dev nD) : c = 0 := Subsingleton.elim _ _

/-- The five tables. -/
def T1 : S640.Idx → BitVec 32 := V m 0 main_v17
def T2 : S640.Idx → BitVec 32 := V m 0 main_v15
def T3 : S640.Idx → BitVec 32 := V m 0 main_v26
def T4 : S640.Idx → BitVec 32 := V m 0 main_arg4
def T5 : S16416.Idx → BitVec 32 := V m 0 main_v40

/-- What the kernel needs of the tables: no chunk leaves the query table or the score array, chunks start at multiples of 8. -/
structure TablesOk (m : (ℓ : Loc nD τ sig) → Buf (Elt F) ℓ) : Prop where
  query : ∀ x, (T5 m x).toNat < 4096
  count : ∀ i, (T2 m i).toNat ≤ 16384
  slots : ∀ i, (T1 m i).toNat + 32 * (((T2 m i).toNat + 31) / 32) ≤ 16416
  aligned : ∀ i, 8 ∣ (T3 m i).toNat
  rows : ∀ i, (T3 m i).toNat + 32 * (((T2 m i).toNat + 31) / 32) ≤ 21504

/-- A window's block at grid point `t`, as the window's array holds it at the kernel's entry. -/
def blk0 (c : Dev nD) (t : Fin grid0.N) : S4096x256.Idx → Elt F .i32 := (((cfgA m).win 0).blk t).view.read (Elt F) (V m c main_arg0)
def blk1 (c : Dev nD) (t : Fin grid0.N) : S1x832x256.Idx → Elt F .i8 := (((cfgA m).win 1).blk t).view.read (Elt F) (V m c main_arg2)
def blk2 (c : Dev nD) (t : Fin grid0.N) : S1x1x832.Idx → Elt F .f32 := (((cfgA m).win 2).blk t).view.read (Elt F) (V m c main_v41)

/-- What one grid step makes of the score array `f`. -/
def stepAt (c : Dev nD) (t : Fin grid0.N) (f : S21504x832.Idx → Elt F .f32) : S21504x832.Idx → Elt F .f32 :=
  chunks (F := F) (blk0 m c t) (T5 m) (T1 m (cluster (grid0.coords t))).toNat (T3 m (cluster (grid0.coords t))).toNat
    (T4 m (cluster (grid0.coords t))) (k0_pay68 (blk1 m c t)) (k0_pay69 (blk1 m c t)) (blk2 m c t) f
    (((T2 m (cluster (grid0.coords t))).toNat + 31) / 32)

/-! ## The proof data -/

/-- The kernel's own transfers' cell. -/
abbrev osem0 : Fin 1 → SemLoc sig := fun j => (![SemLoc.dma cc0_scratch4.sem] : Fin 1 → SemLoc sig) j

/-- The invariant: the scratch arrays, the cell at zero, the tables, the score array at contents `Pr` describes. -/
def Inv (Pr : ℕ → (S21504x832.Idx → Elt F .f32) → Prop) (c : Dev nD) (n : ℕ) : sProp 𝕄 :=
  iprop((∃ g, pt (F := F) c sc0 g) ∗ (∃ g, pt (F := F) c sc1 g) ∗ (∃ g, pt (F := F) c sc2 g) ∗ (∃ g, pt (F := F) c sc3 g)
    ∗ semVal ((c : Thread nD τ), SemLoc.dma cc0_scratch4.sem) 0
    ∗ (tpt (F := F) c tb1 (T1 m) ∗ tpt (F := F) c tb2 (T2 m) ∗ tpt (F := F) c tb3 (T3 m) ∗ tpt (F := F) c tb4 (T4 m) ∗ tpt (F := F) c tb5 (T5 m))
    ∗ ∃ f : BufOf (F := F) c ob, ⌜Pr n f⌝ ∗ pt (F := F) c ob f)

variable (Pr : ℕ → (S21504x832.Idx → Elt F .f32) → Prop)

def dats (_ : Fin 1) (c : Dev nD) : Dat τ (Elt F) Unit ℕ (Pipeline.UD sig nD τ) ℕ (cfgA m) c where
  A w := V m c (Pipeline.arrRef spec0 w)
  after w t := match w with
    | ⟨0, _⟩ => blk0 m c t
    | ⟨1, _⟩ => blk1 m c t
    | ⟨2, _⟩ => blk2 m c t
  Φ n := Inv m Pr c n.val
  q _ := fullShare
  owed _ := 0

theorem A_eq (c : Dev nD) (w : Fin (cfgA m).W) : (dats m Pr 0 c).A w = V m c (Pipeline.arrRef spec0 w) := by
  dsimp only [dats]

theorem before0 (c : Dev nD) (t : Fin (cfgA m).N) (d) : (dats m Pr 0 c).before 0 t d = blk0 m c t :=
  ((dats m Pr 0 c).before_in_eq_fetched 0 rfl (fun _ => rfl) (fun _ _ _ => rfl) (fun _ => rfl) t d).trans rfl
theorem before1 (c : Dev nD) (t : Fin (cfgA m).N) (d) : (dats m Pr 0 c).before 1 t d = blk1 m c t :=
  ((dats m Pr 0 c).before_in_eq_fetched 1 rfl (fun _ => rfl) (fun _ _ _ => rfl) (fun _ => rfl) t d).trans rfl
theorem before2 (c : Dev nD) (t : Fin (cfgA m).N) (d) : (dats m Pr 0 c).before 2 t d = blk2 m c t :=
  ((dats m Pr 0 c).before_in_eq_fetched 2 rfl (fun _ => rfl) (fun _ _ _ => rfl) (fun _ => rfl) t d).trans rfl

abbrev ms0 (t : Fin (cfgA m).N) : Memref sig .tc .vmem S4096x256 .i32 := spec0_0.stage ((cfgA m).slots t 0)
abbrev ms1 (t : Fin (cfgA m).N) : Memref sig .tc .vmem S1x832x256 .i8 := spec0_1.stage ((cfgA m).slots t 1)
abbrev ms2 (t : Fin (cfgA m).N) : Memref sig .tc .vmem S1x1x832 .f32 := spec0_2.stage ((cfgA m).slots t 2)
abbrev hs0 (t : Fin (cfgA m).N) : (ms0 m t).IsWhole := hstage0_0 (((cfgA m).slots t 0).cast nbuf0_0)
abbrev hs1 (t : Fin (cfgA m).N) : (ms1 m t).IsWhole := hstage0_1 (((cfgA m).slots t 1).cast nbuf0_1)
abbrev hs2 (t : Fin (cfgA m).N) : (ms2 m t).IsWhole := hstage0_2 (((cfgA m).slots t 2).cast nbuf0_2)

/-- Owning a whole memref is holding its buffer at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : BufOf (F := F) c M, ⌜M.view.read (Elt F) f = X⌝ ∗ pt (F := F) c M f) := by
  unfold owns pt; rw [h.set_eq_univ]

def bodyPre (c : Dev nD) (t : Fin (cfgA m).N) : sProp 𝕄 :=
  iprop((dats m Pr 0 c).Φ t.castSucc ∗ (dats m Pr 0 c).owesAt () t.castSucc
    ∗ (∃ d, owns (c : Thread nD τ) (ms0 m t) fullShare ((dats m Pr 0 c).before 0 t d))
    ∗ (∃ d, owns (c : Thread nD τ) (ms1 m t) fullShare ((dats m Pr 0 c).before 1 t d))
    ∗ (∃ d, owns (c : Thread nD τ) (ms2 m t) fullShare ((dats m Pr 0 c).before 2 t d)))
def bodyPost (c : Dev nD) (t : Fin (cfgA m).N) : sProp 𝕄 :=
  iprop((dats m Pr 0 c).Φ t.succ ∗ (dats m Pr 0 c).owesAt () t.succ
    ∗ owns (c : Thread nD τ) (ms0 m t) fullShare ((dats m Pr 0 c).after 0 t)
    ∗ owns (c : Thread nD τ) (ms1 m t) fullShare ((dats m Pr 0 c).after 1 t)
    ∗ owns (c : Thread nD τ) (ms2 m t) fullShare ((dats m Pr 0 c).after 2 t))

theorem sound_body (hT : TablesOk m) (c : Dev nD) (hPr : ∀ (t : Fin grid0.N) f, Pr t.val f → Pr (t.val + 1) (stepAt m c t f)) (t : Fin (cfgA m).N) :
    bodyPre m Pr c t ⊢ wp frame (wpE (defs₀ (F := F)) Variants.none c none) Set.univ
      (bodyK (F := F) (grid0.coords t) (ms0 m t) (hs0 m t) (ms1 m t) (hs1 m t) (ms2 m t) (hs2 m t)) (fun _ => bodyPost m Pr c t) := by
  unfold bodyPre bodyPost
  simp only [before0, before1, before2, owns_pt c _ (hs0 m t), owns_pt c _ (hs1 m t), owns_pt c _ (hs2 m t)]
  rw [show (dats m Pr 0 c).Φ t.castSucc = Inv m Pr c t.val from rfl, show (dats m Pr 0 c).Φ t.succ = Inv m Pr c (t.val + 1) from rfl,
    show (dats m Pr 0 c).after 0 t = blk0 m c t from rfl, show (dats m Pr 0 c).after 1 t = blk1 m c t from rfl,
    show (dats m Pr 0 c).after 2 t = blk2 m c t from rfl]
  unfold Dat.owesAt Pipeline.owesWithin Inv
  rw [show (dats m Pr 0 c).owed t.castSucc = 0 from rfl, show (dats m Pr 0 c).owed t.succ = 0 from rfl]
  iintro ⟨⟨⟨%g0, S0⟩, ⟨%g1, S1⟩, ⟨%g2, S2⟩, ⟨%g3, S3⟩, HS, ⟨HT1, HT2, HT3, HT4, HT5⟩, ⟨%f9, %hf9, HO⟩⟩, ⟨%W, -, HW⟩, ⟨%d0, %f6, %h6, H6⟩, ⟨%d1, %f7, %h7, H7⟩, ⟨%d2, %f8, %h8, H8⟩⟩
  iapply (wp_wand_r Idealize.ShloMosaic.frame (wpE (defs₀ (F := F)) Variants.none (c : Thread nD τ) none) Set.univ)
  isplitl [S0 S1 S2 S3 HS HT1 HT2 HT3 HT4 HT5 HO HW H6 H7 H8]
  · iapply (body_run c (grid0.coords t) (ms0 m t) (hs0 m t) (ms1 m t) (hs1 m t) (ms2 m t) (hs2 m t) (T1 m) (T2 m) (T3 m) (T4 m) (T5 m)
      hT.query (hT.count _) (hT.slots _) (hT.aligned _) (hT.rows _) f6 f7 f8 g0 g1 g2 g3 f9 W)
    isplitl [HT1]; · iexact HT1
    isplitl [HT2]; · iexact HT2
    isplitl [HT3]; · iexact HT3
    isplitl [HT4]; · iexact HT4
    isplitl [HT5]; · iexact HT5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [HO]; · iexact HO
    isplitl [HS]; · iexact HS
    iexact HW
  · iintro %_ ⟨HT1, HT2, HT3, HT4, HT5, H6, H7, H8, S0, S1, S2, S3, HO, HS, ⟨%W', HW⟩⟩
    rw [h6, h7, h8, owns_pt c _ (hs0 m t) (blk0 m c t), owns_pt c _ (hs1 m t) (blk1 m c t), owns_pt c _ (hs2 m t) (blk2 m c t)]
    isplitl [S0 S1 S2 S3 HS HT1 HT2 HT3 HT4 HT5 HO]
    · isplitl [S0]; · iexact S0
      isplitl [S1]; · iexact S1
      isplitl [S2]; · iexact S2
      isplitl [S3]; · iexact S3
      isplitl [HS]; · iexact HS
      isplitl [HT1 HT2 HT3 HT4 HT5]
      · isplitl [HT1]; · iexact HT1
        isplitl [HT2]; · iexact HT2
        isplitl [HT3]; · iexact HT3
        isplitl [HT4]; · iexact HT4
        iexact HT5
      iexists _
      isplitr
      swap; · iexact HO
      ipureintro
      exact hPr t f9 hf9
    isplitl [HW]
    · iexists W'; isplitr; · ipureintro; exact fun _ _ => Or.inl trivial
      iexact HW
    isplitl [H6]; · iexists f6; isplitr; · ipureintro; exact h6
                    iexact H6
    isplitl [H7]; · iexists f7; isplitr; · ipureintro; exact h7
                    iexact H7
    iexists f8; isplitr; · ipureintro; exact h8
    iexact H8

theorem defs₀_row (t : Fin (cfgA m).N) :
    defs₀ (F := F) .tc (cfgA m).body ((cfgA m).bodyArgs t ((cfgA m).slots t))
      = bodyK (F := F) (grid0.coords t) (ms0 m t) (hs0 m t) (ms1 m t) (hs1 m t) (ms2 m t) (hs2 m t) := by
  unfold defs₀; rw [Defs.onTc_tc]

theorem body_obligation (hT : TablesOk m) (c : Dev nD) (hPr : ∀ (t : Fin grid0.N) f, Pr t.val f → Pr (t.val + 1) (stepAt m c t f)) :
    BodyObligation (dats (F := F) m Pr 0 c) (defs₀ (F := F)) Variants.none () Set.univ := fun t => by
  rw [bigSep_W0, bigSep_W0, defs₀_row]
  exact triple_restated (sound_body m Pr hT c hPr t) rfl .rfl fun _ => .rfl

end Cert.Kernel.Hand
-- ==== Proof.Bits.Run.lean ====
/-
  The program's run: its frame (it ends, nothing faults, every argument array as it was, every semaphore at zero) and what
  the score array holds when the kernel returns, `outAt` after the last grid step.
-/
module

public import proofs.«01_k».proof.Proof.Bits.Region

@[expose] public section

set_option maxRecDepth 2000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (Pr : ℕ → (S21504x832.Idx → Elt F .f32) → Prop)

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch4.sem) 0) := by
  rw [Pipeline.ownSems0_eq_of_list c osem0 [0] (by decide) (by decide)]; rfl

/-- The buffer the kernel writes itself, and those the lines after it write. -/
def R0 : Finset (Ref sig .tc) := {main_v42}
def T0 : Finset (Ref sig .tc) := {main_call7_v0, main_v43, main_v44}

theorem R0_sub : R0 ⊆ Pipeline.restRefsP sig pre0 spec0 \ ∅ := by decide

theorem owned_eq (c : Dev nD) : (Pipeline.owned R0 c : sProp 𝕄) = iprop(∃ f : BufOf (F := F) c ob, pt c ob f) := by
  unfold Pipeline.owned; rw [BI.bigSep_eq_bigSepL_of_eq [main_v42] (by decide) (by decide)]; rfl

theorem held_eq (G : (c : Dev nD) → (b : Ref sig .tc) → Buf (Elt F) ((c.tc : Thread nD τ).loc b)) (c : Dev nD) :
    (bigSep R0 fun b => ((c.tc : Thread nD τ).loc b) ↦{fullShare} G c b : sProp 𝕄) = iprop(pt (F := F) c ob (G c main_v42)) := by
  rw [BI.bigSep_eq_bigSepL_of_eq [main_v42] (by decide) (by decide)]; rfl

/-- The tables, one by one. -/
theorem tables_eq (c : Dev nD) :
    (Pipeline.ΦT (U := Pipeline.UD sig nD τ) pre0 (tabs m).1 c : sProp 𝕄)
      = iprop(tpt (F := F) c tb1 (T1 m) ∗ tpt (F := F) c tb2 (T2 m) ∗ tpt (F := F) c tb3 (T3 m) ∗ tpt (F := F) c tb4 (T4 m) ∗ tpt (F := F) c tb5 (T5 m)) := by
  unfold Pipeline.ΦT Pipeline.prefHeld
  rw [bigSep_univ_eq_bigSepL [(0 : Fin 5), 1, 2, 3, 4] (by decide) (by decide)]
  have e2 : (tabs m).1 (1 : Fin 5) = T2 m := by unfold tabs T2; dsimp only; rfl
  have h1 : (((c.tc : Thread nD τ).loc (pre0.ref 0)) ↦{fullShare.right} (tabs m).1 0 : sProp 𝕄) = tpt (F := F) c tb1 (T1 m) := rfl
  have h2 : (((c.tc : Thread nD τ).loc (pre0.ref 1)) ↦{fullShare.right} (tabs m).1 1 : sProp 𝕄) = tpt (F := F) c tb2 (T2 m) := by rw [e2]; rfl
  have h3 : (((c.tc : Thread nD τ).loc (pre0.ref 2)) ↦{fullShare.right} (tabs m).1 2 : sProp 𝕄) = tpt (F := F) c tb3 (T3 m) := rfl
  have h4 : (((c.tc : Thread nD τ).loc (pre0.ref 3)) ↦{fullShare.right} (tabs m).1 3 : sProp 𝕄) = tpt (F := F) c tb4 (T4 m) := rfl
  have h5 : (((c.tc : Thread nD τ).loc (pre0.ref 4)) ↦{fullShare.right} (tabs m).1 4 : sProp 𝕄) = tpt (F := F) c tb5 (T5 m) := rfl
  rw [← h1, ← h2, ← h3, ← h4, ← h5]; rfl

theorem main_lines (c : Dev nD) : main (F := F) c
    = Pipeline.chain (opsBefore.map StableHlo.seq ++ [Prog.lift (.customCall (Pipeline.entry 0) ())] ++ opsAfter.map StableHlo.seq) :=
  main_chain c

theorem before_sub : (opsBefore (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub⟩

theorem before_fresh : (opsBefore (F := F)).Forall fun ops => ops.Forall fun op => op.fresh = ∅ := by
  simp only [List.Forall]; repeat' apply And.intro
  all_goals rfl

theorem hmain : Pipeline.HMainPK (Ix := Unit) (Name := ℕ) (U := Pipeline.UD sig nD τ) (Lvl := ℕ) pcfgs 0 defs₀ Variants.none m (main (F := F))
    (fun c b => atEntry m c (Proc.devRef .tc b)) (fun _ => Pipeline.chain (opsAfter.map StableHlo.seq)) :=
  Pipeline.hmainP_around pcfgs 0 defs₀ Variants.none m main opsBefore opsAfter before_sub before_fresh main_lines

theorem after_sub : ∀ ops ∈ opsAfter (F := F), ∀ op ∈ ops, op.bufs ⊆ Pipeline.tailRefs (τ := τ) sig pre0 spec0 := by
  intro ops ho op h
  refine Pipeline.sub_tailRefs pre0 spec0 op ?_ ?_
  · have := List.forall_iff_forall_mem.mp (show (opsAfter (F := F)).Forall fun ops => ops.Forall fun op => op.bufs ⊆ StableHlo.tcRefs τ sig from
      ⟨hostOps1_sub, hostOps1_1_sub⟩) ops ho
    exact List.forall_iff_forall_mem.mp this op h
  · simp only [List.mem_cons, List.not_mem_nil, or_false] at ho
    rcases ho with rfl | rfl <;> simp only [List.mem_cons, List.not_mem_nil, or_false] at h
    · rcases h with rfl | rfl
      · exact (by decide : ∀ k, Proc.devRef (τ := τ) .tc (pre0.ref k) ∉ ({Proc.devRef .tc main_v37_1, Proc.devRef .tc main_call7_v0} : Finset (DevRef τ sig)))
      · exact (by decide : ∀ k, Proc.devRef (τ := τ) .tc (pre0.ref k) ∉ ({Proc.devRef .tc main_v42, Proc.devRef .tc main_call7_v0, Proc.devRef .tc main_v43} : Finset (DevRef τ sig)))
    · subst h
      exact (by decide : ∀ k, Proc.devRef (τ := τ) .tc (pre0.ref k) ∉ ({Proc.devRef .tc main_v43, Proc.devRef .tc main_v44} : Finset (DevRef τ sig)))

theorem after_fresh : ∀ ops ∈ opsAfter (F := F), ∀ op ∈ ops, op.fresh = ∅ := by
  intro ops ho op h
  simp only [List.mem_cons, List.not_mem_nil, or_false] at ho
  rcases ho with rfl | rfl <;> simp only [List.mem_cons, List.not_mem_nil, or_false] at h
  · rcases h with rfl | rfl <;> rfl
  · subst h; rfl

theorem after_keep : ∀ ops ∈ opsAfter (F := F), ∀ op ∈ ops, ∀ w, Proc.devRef .tc (Pipeline.arrRef spec0 w) ∉ op.writes := by
  intro ops ho op h
  simp only [List.mem_cons, List.not_mem_nil, or_false] at ho
  rcases ho with rfl | rfl <;> simp only [List.mem_cons, List.not_mem_nil, or_false] at h
  · rcases h with rfl | rfl
    · exact (by decide : ∀ w, Proc.devRef (τ := τ) .tc (Pipeline.arrRef spec0 w) ∉ ({Proc.devRef .tc main_call7_v0} : Finset (DevRef τ sig)))
    · exact (by decide : ∀ w, Proc.devRef (τ := τ) .tc (Pipeline.arrRef spec0 w) ∉ ({Proc.devRef .tc main_v43} : Finset (DevRef τ sig)))
  · subst h
    exact (by decide : ∀ w, Proc.devRef (τ := τ) .tc (Pipeline.arrRef spec0 w) ∉ ({Proc.devRef .tc main_v44} : Finset (DevRef τ sig)))

theorem after_writes : ∀ ops ∈ opsAfter (F := F), ∀ op ∈ ops, ∀ b : Ref sig .tc, Proc.devRef .tc b ∈ op.writes → b ∈ T0 := by
  intro ops ho op h
  simp only [List.mem_cons, List.not_mem_nil, or_false] at ho
  rcases ho with rfl | rfl <;> simp only [List.mem_cons, List.not_mem_nil, or_false] at h
  · rcases h with rfl | rfl
    · intro b hb; rw [Proc.devRef_injective _ (Finset.mem_singleton.mp hb)]; decide
    · intro b hb; rw [Proc.devRef_injective _ (Finset.mem_singleton.mp hb)]; decide
  · subst h; intro b hb; rw [Proc.devRef_injective _ (Finset.mem_singleton.mp hb)]; decide

theorem hpf : ∀ (c : Dev nD) k, atEntry m c (Proc.devRef .tc (pre0.ref k)) = (tabs m).1 k := fun c k => by rw [dev0 c]; rfl

/-! ## The frame -/

/-- Nothing said of the score array's contents. -/
abbrev anyPr : ℕ → (S21504x832.Idx → Elt F .f32) → Prop := fun _ _ => True

set_option backward.isDefEq.respectTransparency.types false in
theorem run_frame (hT : TablesOk m) : θ_run defs (onTc (τ := τ) (main (F := F))) (s₀ m ρ)
    (fun r => Pipeline.FramePostR (Pipeline.pin pcfgs (tabsOf m)) (dats m anyPr) 0 (R0 ∪ T0) (V m) r) :=
  Pipeline.θ_run_frameP_dmaR_around₀ pcfgs (tabsOf m) (dats m anyPr) (0 : Fin 1) launch0 osem0 defs₀ Variants.none ownSemFacts0 ∅ R0 T0
    (Finset.empty_subset _) R0_sub m ρ main
    (hbody := fun c => (body_obligation m anyPr hT c fun _ _ _ => trivial).loose)
    (hshare := fun c => (dats m anyPr 0 c).share_full fun _ => rfl) (howed := fun _ _ => rfl)
    (V₀ := atEntry m) (opss := opsAfter) (hsub := after_sub) (hfresh := after_fresh) (hkeep := after_keep) (hT := after_writes)
    (hmain := hmain m) (hA := A_eq m anyPr) (hpf := hpf m)
    (hin := fun c => by
      refine (Entails.of_eq (congrArg₂ (fun a b => iprop(a ∗ b)) rfl (tables_eq m c))).trans ?_
      show _ ⊢ Inv m anyPr c 0
      unfold Pipeline.ΦDR₀ Inv
      rw [scopedRest0_eq, ownSems00_eq, owned_eq]
      iintro ⟨⟨⟨S0, S1, S2, S3⟩, HS, -, ⟨%f, HO⟩⟩, HT⟩
      isplitl [S0]; · iexact S0
      isplitl [S1]; · iexact S1
      isplitl [S2]; · iexact S2
      isplitl [S3]; · iexact S3
      isplitl [HS]; · iexact HS
      isplitl [HT]; · iexact HT
      iexists f
      isplitr; · ipureintro; trivial
      iexact HO)
    (hout := fun c => by
      show Inv m anyPr c _ ⊢ _
      unfold Pipeline.ΦDR₀ Inv
      rw [scopedRest0_eq, ownSems00_eq, owned_eq, BI.bigSep_empty]
      iintro ⟨S0, S1, S2, S3, HS, -, ⟨%f, -, HO⟩⟩
      isplitl [S0 S1 S2 S3]
      · isplitl [S0]; · iexact S0
        isplitl [S1]; · iexact S1
        isplitl [S2]; · iexact S2
        iexact S3
      isplitl [HS]; · iexact HS
      isplitr; · iempintro
      iexists f; iexact HO)

/-! ## The value -/

/-- The score array after `n` grid steps. -/
def outAt (c : Dev nD) : ℕ → S21504x832.Idx → Elt F .f32
  | 0 => V m c main_v42
  | n + 1 => if h : n < grid0.N then stepAt m c ⟨n, h⟩ (outAt c n) else outAt c n

abbrev outPr (c : Dev nD) : ℕ → (S21504x832.Idx → Elt F .f32) → Prop := fun n f => f = outAt m c n

/-- The buffers after the kernel: the score array rewritten, the rest as at its entry. -/
def G (n : ℕ) (c : Dev nD) : (b : Ref sig .tc) → Buf (Elt F) ((c.tc : Thread nD τ).loc b) :=
  Function.update (fun b => V m c b) main_v42 (outAt m 0 n)

theorem G_out (n : ℕ) (c : Dev nD) : G m n c main_v42 = outAt m 0 n := Function.update_self _ _ _

set_option backward.isDefEq.respectTransparency.types false in
theorem run_value (hT : TablesOk m) : θ_run defs (onTc (τ := τ) (main (F := F))) (s₀ m ρ)
    (fun r => (∀ c : Dev nD, ∀ b ∈ Pipeline.restRefsP sig pre0 spec0, r.2.mem ((c.tc : Thread nD τ).loc b)
      = StableHlo.after (opsAfter (F := F)).flatten (Pipeline.withArrays spec0 c (Pipeline.withR (atEntry m c) R0 c (G m grid0.N c))
          fun w => (dats m (outPr m 0) 0 c).arrAt w (cfgA m).N) (Proc.devRef .tc b)) ∧ r.2.sem = fun _ => 0) :=
  Pipeline.θ_run_frameP_dmaR_aroundV (Q' := _) pcfgs (tabsOf m) (dats m (outPr m 0)) (0 : Fin 1) launch0 osem0 defs₀ Variants.none ownSemFacts0 ∅ R0
    (Finset.empty_subset _) R0_sub m ρ main
    (hbody := fun c => (body_obligation m (outPr m 0) hT c fun t f hf => by
      subst hf
      show _ = outAt m 0 (t.val + 1)
      rw [dev0 c, outAt, dif_pos t.isLt]).loose)
    (hshare := fun c => (dats m (outPr m 0) 0 c).share_full fun _ => rfl) (howed := fun _ _ => rfl)
    (V₀ := atEntry m) (opss := opsAfter) (hsub := after_sub) (hfresh := after_fresh) (hkeep := after_keep) (G := G m grid0.N)
    (hmain := hmain m) (hA := A_eq m (outPr m 0)) (hpf := hpf m)
    (hin := fun c => by
      refine (Entails.of_eq (congrArg₂ (fun a b => iprop(a ∗ b)) rfl (tables_eq m c))).trans ?_
      show _ ⊢ Inv m (outPr m 0) c 0
      unfold Pipeline.ΦDRV Inv
      rw [scopedRest0_eq, ownSems00_eq, show (bigSep R0 fun b => ((c.tc : Thread nD τ).loc b) ↦{fullShare} (fun c b => atEntry m c (Proc.devRef .tc b)) c b : sProp 𝕄) = _ from held_eq (V m) c]
      iintro ⟨⟨⟨S0, S1, S2, S3⟩, HS, -, HO⟩, HT⟩
      isplitl [S0]; · iexact S0
      isplitl [S1]; · iexact S1
      isplitl [S2]; · iexact S2
      isplitl [S3]; · iexact S3
      isplitl [HS]; · iexact HS
      isplitl [HT]; · iexact HT
      iexists _
      isplitr; swap; · iexact HO
      ipureintro; rw [dev0 c]; rfl)
    (hout := fun c => by
      show Inv m (outPr m 0) c grid0.N ⊢ _
      unfold Pipeline.ΦDRV Inv
      rw [scopedRest0_eq, ownSems00_eq, held_eq, BI.bigSep_empty, G_out]
      iintro ⟨S0, S1, S2, S3, HS, -, ⟨%f, %hf, HO⟩⟩
      rw [hf]
      isplitl [S0 S1 S2 S3]
      · isplitl [S0]; · iexact S0
        isplitl [S1]; · iexact S1
        isplitl [S2]; · iexact S2
        iexact S3
      isplitl [HS]; · iexact HS
      isplitr; · iempintro
      iexact HO)
    (hQ' := fun r h => ⟨fun c => (h.1 c).2, h.2⟩)

end Cert.Kernel.Hand
-- ==== Proof.Bits.Lines.lean ====
/-
  What each stretch of host lines before the kernel leaves in the buffers the plan is read from, over any contents before it.
-/
module

public import proofs.«01_k».proof.Proof.Bits.Region
public import Idealize.ShloMosaic.Lib.StableHlo.RunRead
public import Idealize.ShloMosaic.Lib.Routing.Words

@[expose] public section

set_option maxRecDepth 4000

noncomputable section

namespace Cert.Kernel.Hand

open Cert.Kernel Cert.Kernel.Gen
open Idealize.ShloMosaic Idealize.ShloMosaic.StableHlo
open Idealize.ShloMosaic.Routing (pyRem pyDiv)

variable {F : FTy → Type} [FloatOps F]
variable (U : Valuation τ sig (Elt F))

theorem line0_v0 : after hostOps0 U (Proc.devRef .tc main_v0) = (shapeCast S16384 (U (Proc.devRef .tc main_arg1)) shapeCasts_S2x2048x4_S16384 : IVec S16384 32) := by
  after_reads_simp
  rfl

theorem line0_v1 : after hostOps0 U (Proc.devRef .tc main_v1) = iotaInDim S16384 32 0 := by
  after_reads_simp

theorem line0_v5 : after hostOps0 U (Proc.devRef .tc main_v5) = Host.sort S16384 0 comparator_i32_d0
    (addi (muli (shapeCast S16384 (U (Proc.devRef .tc main_arg1)) shapeCasts_S2x2048x4_S16384 : IVec S16384 32)
      (broadcastInDim S16384 ![] bcast_S_S16384 (constantI S_ 32 16384#32))) (iotaInDim S16384 32 0)) := by
  after_reads_simp
  rfl

theorem line0_c : after hostOps0 U (Proc.devRef .tc main_c_0) = constantI S_ 32 16384#32 := by
  after_reads_simp

theorem line1_v6 : after hostOps0_1 U (Proc.devRef .tc main_v6) = pyRem (s := S16384) bcast_S_S16384 (U (Proc.devRef .tc main_v5)) (U (Proc.devRef .tc main_c_0)) := by
  after_reads_simp
  simp only [TRef.toBuf, TRef.ofBuf, cast_cast, cast_eq]
  rfl

theorem line2_c : after hostOps0_2 U (Proc.devRef .tc main_c_1) = constantI S_ 32 16384#32 := by
  after_reads_simp

theorem line3_v7 : after hostOps0_3 U (Proc.devRef .tc main_v7) = pyDiv (s := S16384) bcast_S_S16384 (U (Proc.devRef .tc main_v5)) (U (Proc.devRef .tc main_c_1)) := by
  after_reads_simp
  simp only [TRef.toBuf, TRef.ofBuf, cast_cast, cast_eq]
  rfl

theorem line4_v8 : after hostOps0_4 U (Proc.devRef .tc main_v8) = iotaInDim S640 32 0 := by
  after_reads_simp

theorem line4_v15 : after hostOps0_4 U (Proc.devRef .tc main_v15) = Host.reduce IntOp.addi
    (extui 32 (cmpi .eq (broadcastInDim S16384x640 ![0, 1] bcast_S16384x1_S16384x640_0_1 (broadcastInDim S16384x1 ![0] bcast_S16384_S16384x1_0 ((U (Proc.devRef .tc main_v0)) : IVec S16384 32)))
      (broadcastInDim S16384x640 ![0, 1] bcast_S1x640_S16384x640_0_1 (broadcastInDim S1x640 ![1] bcast_S640_S1x640_1 (iotaInDim S640 32 0)))) natLt_1_32)
    (constantI S_ 32 0#32) reducesTo_S16384x640_S640_d0 h_S_ := by
  after_reads_simp

theorem line5_v16 : after hostOps0_5 U (Proc.devRef .tc main_v16) = Host.reduceWindow IntOp.addi ![640] ![1] ![639] ![0] ((U (Proc.devRef .tc main_v15)) : IVec S640 32)
    (broadcastInDim S_ ![] bcast_S_S_ (constantI S_ 32 0#32)) reduceWindows_S640_S640_w640s1p639_0 h_S_ := by
  after_reads_simp
  simp only [TRef.toBuf, TRef.ofBuf, cast_cast, cast_eq]

theorem line6_v17 : after hostOps0_6 U (Proc.devRef .tc main_v17) = subi ((U (Proc.devRef .tc main_v16)) : IVec S640 32) (U (Proc.devRef .tc main_v15)) := by
  after_reads_simp

theorem line6_v21 : after hostOps0_6 U (Proc.devRef .tc main_v21) = subi (addi ((U (Proc.devRef .tc main_v15)) : IVec S640 32) (broadcastInDim S640 ![] bcast_S_S640 (constantI S_ 32 8#32)))
    (broadcastInDim S640 ![] bcast_S_S640 (constantI S_ 32 1#32)) := by
  after_reads_simp

theorem line6_c : after hostOps0_6 U (Proc.devRef .tc main_c_5) = constantI S_ 32 8#32 := by
  after_reads_simp

theorem line7_v22 : after hostOps0_7 U (Proc.devRef .tc main_v22) = pyDiv (s := S640) bcast_S_S640 (U (Proc.devRef .tc main_v21)) (U (Proc.devRef .tc main_c_5)) := by
  after_reads_simp
  simp only [TRef.toBuf, TRef.ofBuf, cast_cast, cast_eq]
  rfl

theorem line8_v24 : after hostOps0_8 U (Proc.devRef .tc main_v24) = muli ((U (Proc.devRef .tc main_v22)) : IVec S640 32) (broadcastInDim S640 ![] bcast_S_S640 (constantI S_ 32 8#32)) := by
  after_reads_simp

theorem line9_v25 : after hostOps0_9 U (Proc.devRef .tc main_v25) = Host.reduceWindow IntOp.addi ![640] ![1] ![639] ![0] ((U (Proc.devRef .tc main_v24)) : IVec S640 32)
    (broadcastInDim S_ ![] bcast_S_S_ (constantI S_ 32 0#32)) reduceWindows_S640_S640_w640s1p639_0 h_S_ := by
  after_reads_simp
  simp only [TRef.toBuf, TRef.ofBuf, cast_cast, cast_eq]

theorem line10_v26 : after hostOps0_10 U (Proc.devRef .tc main_v26) = subi ((U (Proc.devRef .tc main_v25)) : IVec S640 32) (U (Proc.devRef .tc main_v24)) := by
  after_reads_simp

theorem line10_v32 : after hostOps0_10 U (Proc.devRef .tc main_v32) = cmpi .slt (broadcastInDim S16384x640 ![0, 1] bcast_S1x640_S16384x640_0_1 (broadcastInDim S1x640 ![1] bcast_S640_S1x640_1 ((U (Proc.devRef .tc main_v8)) : IVec S640 32)))
    (broadcastInDim S16384x640 ![0, 1] bcast_S16384x1_S16384x640_0_1 (broadcastInDim S16384x1 ![0] bcast_S16384_S16384x1_0 ((U (Proc.devRef .tc main_v7)) : IVec S16384 32))) := by
  after_reads_simp

theorem line10_v33 : after hostOps0_10 U (Proc.devRef .tc main_v33) = broadcastInDim S1x640 ![1] bcast_S640_S1x640_1 (subi ((U (Proc.devRef .tc main_v24)) : IVec S640 32) (U (Proc.devRef .tc main_v15))) := by
  after_reads_simp

theorem line10_c : after hostOps0_10 U (Proc.devRef .tc main_c_7) = constantI S_ 32 0#32 := by
  after_reads_simp

theorem line11_v34 : after hostOps0_11 U (Proc.devRef .tc main_v34) = select ((U (Proc.devRef .tc main_v32)) : IVec S16384x640 1) (broadcastInDim S16384x640 ![0, 1] bcast_S1x640_S16384x640_0_1 ((U (Proc.devRef .tc main_v33)) : IVec S1x640 32))
    (broadcastInDim S16384x640 ![] bcast_S_S16384x640 ((U (Proc.devRef .tc main_c_7)) : IVec S_ 32)) := by
  after_reads_simp
  simp only [TRef.toBuf, TRef.ofBuf, cast_cast, cast_eq]
  rfl

theorem line12_v37 : after hostOps0_12 U (Proc.devRef .tc main_v37_1) = (Host.sort2 S16384 0 comparator_i32_i32_d0 ((U (Proc.devRef .tc main_v6)) : IVec S16384 32)
    (addi ((U (Proc.devRef .tc main_v1)) : IVec S16384 32) (Host.reduce IntOp.addi ((U (Proc.devRef .tc main_v34)) : IVec S16384x640 32) (constantI S_ 32 0#32) reducesTo_S16384x640_S16384_d1 h_S_))).2 := by
  after_reads_simp

theorem line12_c : after hostOps0_12 U (Proc.devRef .tc main_c_9) = constantI S_ 32 4#32 := by
  after_reads_simp

theorem line13_v38 : after hostOps0_13 U (Proc.devRef .tc main_v38) = pyDiv (s := S16384) bcast_S_S16384 (U (Proc.devRef .tc main_v6)) (U (Proc.devRef .tc main_c_9)) := by
  after_reads_simp
  simp only [TRef.toBuf, TRef.ofBuf, cast_cast, cast_eq]
  rfl

theorem line14_v40 : after hostOps0_14 U (Proc.devRef .tc main_v40) = concatenate S16416 0 [⟨S16384, ((U (Proc.devRef .tc main_v38)) : IVec S16384 32)⟩,
    ⟨S32, broadcastInDim S32 ![] bcast_S_S32 (constantI S_ 32 0#32)⟩] concatenates_S16384_S32_S16416_d0 := by
  after_results

theorem line14_v41 : after hostOps0_14 U (Proc.devRef .tc main_v41) = shapeCast S640x1x832 (U (Proc.devRef .tc main_arg3)) shapeCasts_S640x832_S640x1x832 := by
  after_reads_simp
  rfl

end Cert.Kernel.Hand
-- ==== Proof.Bits.Entry.lean ====
/-
  The buffers the plan is read from, as the host lines before the kernel leave them: each in terms of the others, whatever
  the launch holds. A buffer is written once, so what a stretch of lines leaves in it is what the kernel finds.
-/
module

public import proofs.«01_k».proof.Proof.Bits.Lines
public import Idealize.ShloMosaic.Lib.Pipeline.Frame

@[expose] public section

set_option maxRecDepth 8000

noncomputable section

namespace Cert.Kernel.Hand

open Cert.Kernel Cert.Kernel.Gen
open Idealize.ShloMosaic Idealize.ShloMosaic.StableHlo
open Idealize.ShloMosaic.Routing (pyRem pyDiv)

variable {F : FTy → Type} [FloatOps F]
variable (m : (ℓ : Loc nD τ sig) → Buf (Elt F) ℓ) (c : Dev nD)

/-- The buffers each stretch writes. -/
def writesOf : List (List (Ref sig .tc)) :=
  [[main_v0, main_v1, main_c, main_v2, main_v3, main_v4, main_v5, main_c_0],
   [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v6],
   [main_c_1],
   [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v7],
   [main_v8, main_v9, main_v10, main_v11, main_v12, main_v13, main_v14, main_c_2, main_v15],
   [main_call2_call0_c, main_call2_call0_v0, main_v16],
   [main_v17, main_c_3, main_v18, main_v19, main_c_4, main_v20, main_v21, main_c_5],
   [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v22],
   [main_c_6, main_v23, main_v24],
   [main_call4_call0_c, main_call4_call0_v0, main_v25],
   [main_v26, main_v27, main_v28, main_v29, main_v30, main_v31, main_v32, main_v33, main_c_7],
   [main_call5_v0, main_call5_v1, main_call5_v2, main_v34],
   [main_c_8, main_v35, main_v36, main_v37_0, main_v37_1, main_c_9],
   [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v38],
   [main_c_10, main_v39, main_v40, main_v41]]

theorem writes_eq : (opsBefore (F := F)).map (List.map HloOp.writes) = writesOf.map (List.map fun w => {Proc.devRef (τ := τ) .tc w}) := rfl

/-- The contents after the first `k` stretches. -/
def S (k : ℕ) : Valuation τ sig (Elt F) := after (opsBefore.take k).flatten (fun b => m (c, b))

/-- A buffer as the kernel finds it. -/
abbrev E (b : Ref sig .tc) : Buf (Elt F) ((c.tc : Thread nD τ).loc b) := atEntry m c (Proc.devRef .tc b)

theorem S_succ (k : ℕ) (h : k < 15) : S m c (k + 1) = after (opsBefore[k]'h) (S m c k) := by
  unfold S
  rw [List.take_succ_eq_append_getElem (show k < (opsBefore (F := F)).length from h), List.flatten_append, List.flatten_singleton, after_append]

/-- What no later stretch writes is as the kernel finds it. -/
theorem S_eq (k : ℕ) (b : Ref sig .tc) (hb : b ∉ (writesOf.drop k).flatten) : S m c k (Proc.devRef .tc b) = E m c b := by
  have hW : ((opsBefore (F := F)).drop k).flatten.map HloOp.writes = (writesOf.drop k).flatten.map fun w => {Proc.devRef (τ := τ) .tc w} := by
    rw [List.map_flatten, List.map_flatten, List.map_drop, List.map_drop, writes_eq]
  have h : atEntry m c = after ((opsBefore (F := F)).drop k).flatten (S m c k) := by
    unfold S atEntry
    rw [← after_append, ← List.flatten_append, List.take_append_drop]
  show _ = atEntry m c (Proc.devRef .tc b)
  rw [h, after_unwritten _ hW hb]

/-- What no stretch writes is as at the launch. -/
theorem E_arg (b : Ref sig .tc) (hb : b ∉ writesOf.flatten) : E m c b = m ((c.tc : Thread nD τ).loc b) := (S_eq m c 0 b hb).symm

theorem E_v0 : E m c main_v0 = (shapeCast S16384 (E m c main_arg1) shapeCasts_S2x2048x4_S16384 : IVec S16384 32) := by
  have h := line0_v0 (S m c 0)
  rw [← S_eq m c 1 main_v0 (by decide), ← S_eq m c 0 main_arg1 (by decide)]
  rw [S_succ m c 0 (by decide : 0 < 15)]
  exact h

theorem E_v1 : E m c main_v1 = iotaInDim S16384 32 0 := by
  have h := line0_v1 (S m c 0)
  rw [← S_eq m c 1 main_v1 (by decide)]
  rw [S_succ m c 0 (by decide : 0 < 15)]
  exact h

theorem E_v5 : E m c main_v5 = Host.sort S16384 0 comparator_i32_d0
    (addi (muli (shapeCast S16384 (E m c main_arg1) shapeCasts_S2x2048x4_S16384 : IVec S16384 32)
      (broadcastInDim S16384 ![] bcast_S_S16384 (constantI S_ 32 16384#32))) (iotaInDim S16384 32 0)) := by
  have h := line0_v5 (S m c 0)
  rw [← S_eq m c 1 main_v5 (by decide), ← S_eq m c 0 main_arg1 (by decide)]
  rw [S_succ m c 0 (by decide : 0 < 15)]
  exact h

theorem E_c_0 : E m c main_c_0 = constantI S_ 32 16384#32 := by
  have h := line0_c (S m c 0)
  rw [← S_eq m c 1 main_c_0 (by decide)]
  rw [S_succ m c 0 (by decide : 0 < 15)]
  exact h

theorem E_v6 : E m c main_v6 = pyRem (s := S16384) bcast_S_S16384 (E m c main_v5) (E m c main_c_0) := by
  have h := line1_v6 (S m c 1)
  rw [← S_eq m c 2 main_v6 (by decide), ← S_eq m c 1 main_c_0 (by decide), ← S_eq m c 1 main_v5 (by decide)]
  rw [S_succ m c 1 (by decide : 1 < 15)]
  exact h

theorem E_c_1 : E m c main_c_1 = constantI S_ 32 16384#32 := by
  have h := line2_c (S m c 2)
  rw [← S_eq m c 3 main_c_1 (by decide)]
  rw [S_succ m c 2 (by decide : 2 < 15)]
  exact h

theorem E_v7 : E m c main_v7 = pyDiv (s := S16384) bcast_S_S16384 (E m c main_v5) (E m c main_c_1) := by
  have h := line3_v7 (S m c 3)
  rw [← S_eq m c 4 main_v7 (by decide), ← S_eq m c 3 main_c_1 (by decide), ← S_eq m c 3 main_v5 (by decide)]
  rw [S_succ m c 3 (by decide : 3 < 15)]
  exact h

theorem E_v8 : E m c main_v8 = iotaInDim S640 32 0 := by
  have h := line4_v8 (S m c 4)
  rw [← S_eq m c 5 main_v8 (by decide)]
  rw [S_succ m c 4 (by decide : 4 < 15)]
  exact h

theorem E_v15 : E m c main_v15 = Host.reduce IntOp.addi
    (extui 32 (cmpi .eq (broadcastInDim S16384x640 ![0, 1] bcast_S16384x1_S16384x640_0_1 (broadcastInDim S16384x1 ![0] bcast_S16384_S16384x1_0 ((E m c main_v0) : IVec S16384 32)))
      (broadcastInDim S16384x640 ![0, 1] bcast_S1x640_S16384x640_0_1 (broadcastInDim S1x640 ![1] bcast_S640_S1x640_1 (iotaInDim S640 32 0)))) natLt_1_32)
    (constantI S_ 32 0#32) reducesTo_S16384x640_S640_d0 h_S_ := by
  have h := line4_v15 (S m c 4)
  rw [← S_eq m c 5 main_v15 (by decide), ← S_eq m c 4 main_v0 (by decide)]
  rw [S_succ m c 4 (by decide : 4 < 15)]
  exact h

theorem E_v16 : E m c main_v16 = Host.reduceWindow IntOp.addi ![640] ![1] ![639] ![0] ((E m c main_v15) : IVec S640 32)
    (broadcastInDim S_ ![] bcast_S_S_ (constantI S_ 32 0#32)) reduceWindows_S640_S640_w640s1p639_0 h_S_ := by
  have h := line5_v16 (S m c 5)
  rw [← S_eq m c 6 main_v16 (by decide), ← S_eq m c 5 main_v15 (by decide)]
  rw [S_succ m c 5 (by decide : 5 < 15)]
  exact h

theorem E_v17 : E m c main_v17 = subi ((E m c main_v16) : IVec S640 32) (E m c main_v15) := by
  have h := line6_v17 (S m c 6)
  rw [← S_eq m c 7 main_v17 (by decide), ← S_eq m c 6 main_v15 (by decide), ← S_eq m c 6 main_v16 (by decide)]
  rw [S_succ m c 6 (by decide : 6 < 15)]
  exact h

theorem E_v21 : E m c main_v21 = subi (addi ((E m c main_v15) : IVec S640 32) (broadcastInDim S640 ![] bcast_S_S640 (constantI S_ 32 8#32)))
    (broadcastInDim S640 ![] bcast_S_S640 (constantI S_ 32 1#32)) := by
  have h := line6_v21 (S m c 6)
  rw [← S_eq m c 7 main_v21 (by decide), ← S_eq m c 6 main_v15 (by decide)]
  rw [S_succ m c 6 (by decide : 6 < 15)]
  exact h

theorem E_c_5 : E m c main_c_5 = constantI S_ 32 8#32 := by
  have h := line6_c (S m c 6)
  rw [← S_eq m c 7 main_c_5 (by decide)]
  rw [S_succ m c 6 (by decide : 6 < 15)]
  exact h

theorem E_v22 : E m c main_v22 = pyDiv (s := S640) bcast_S_S640 (E m c main_v21) (E m c main_c_5) := by
  have h := line7_v22 (S m c 7)
  rw [← S_eq m c 8 main_v22 (by decide), ← S_eq m c 7 main_c_5 (by decide), ← S_eq m c 7 main_v21 (by decide)]
  rw [S_succ m c 7 (by decide : 7 < 15)]
  exact h

theorem E_v24 : E m c main_v24 = muli ((E m c main_v22) : IVec S640 32) (broadcastInDim S640 ![] bcast_S_S640 (constantI S_ 32 8#32)) := by
  have h := line8_v24 (S m c 8)
  rw [← S_eq m c 9 main_v24 (by decide), ← S_eq m c 8 main_v22 (by decide)]
  rw [S_succ m c 8 (by decide : 8 < 15)]
  exact h

theorem E_v25 : E m c main_v25 = Host.reduceWindow IntOp.addi ![640] ![1] ![639] ![0] ((E m c main_v24) : IVec S640 32)
    (broadcastInDim S_ ![] bcast_S_S_ (constantI S_ 32 0#32)) reduceWindows_S640_S640_w640s1p639_0 h_S_ := by
  have h := line9_v25 (S m c 9)
  rw [← S_eq m c 10 main_v25 (by decide), ← S_eq m c 9 main_v24 (by decide)]
  rw [S_succ m c 9 (by decide : 9 < 15)]
  exact h

theorem E_v26 : E m c main_v26 = subi ((E m c main_v25) : IVec S640 32) (E m c main_v24) := by
  have h := line10_v26 (S m c 10)
  rw [← S_eq m c 11 main_v26 (by decide), ← S_eq m c 10 main_v24 (by decide), ← S_eq m c 10 main_v25 (by decide)]
  rw [S_succ m c 10 (by decide : 10 < 15)]
  exact h

theorem E_v32 : E m c main_v32 = cmpi .slt (broadcastInDim S16384x640 ![0, 1] bcast_S1x640_S16384x640_0_1 (broadcastInDim S1x640 ![1] bcast_S640_S1x640_1 ((E m c main_v8) : IVec S640 32)))
    (broadcastInDim S16384x640 ![0, 1] bcast_S16384x1_S16384x640_0_1 (broadcastInDim S16384x1 ![0] bcast_S16384_S16384x1_0 ((E m c main_v7) : IVec S16384 32))) := by
  have h := line10_v32 (S m c 10)
  rw [← S_eq m c 11 main_v32 (by decide), ← S_eq m c 10 main_v7 (by decide), ← S_eq m c 10 main_v8 (by decide)]
  rw [S_succ m c 10 (by decide : 10 < 15)]
  exact h

theorem E_v33 : E m c main_v33 = broadcastInDim S1x640 ![1] bcast_S640_S1x640_1 (subi ((E m c main_v24) : IVec S640 32) (E m c main_v15)) := by
  have h := line10_v33 (S m c 10)
  rw [← S_eq m c 11 main_v33 (by decide), ← S_eq m c 10 main_v15 (by decide), ← S_eq m c 10 main_v24 (by decide)]
  rw [S_succ m c 10 (by decide : 10 < 15)]
  exact h

theorem E_c_7 : E m c main_c_7 = constantI S_ 32 0#32 := by
  have h := line10_c (S m c 10)
  rw [← S_eq m c 11 main_c_7 (by decide)]
  rw [S_succ m c 10 (by decide : 10 < 15)]
  exact h

theorem E_v34 : E m c main_v34 = select ((E m c main_v32) : IVec S16384x640 1) (broadcastInDim S16384x640 ![0, 1] bcast_S1x640_S16384x640_0_1 ((E m c main_v33) : IVec S1x640 32))
    (broadcastInDim S16384x640 ![] bcast_S_S16384x640 ((E m c main_c_7) : IVec S_ 32)) := by
  have h := line11_v34 (S m c 11)
  rw [← S_eq m c 12 main_v34 (by decide), ← S_eq m c 11 main_c_7 (by decide), ← S_eq m c 11 main_v32 (by decide), ← S_eq m c 11 main_v33 (by decide)]
  rw [S_succ m c 11 (by decide : 11 < 15)]
  exact h

theorem E_v37_1 : E m c main_v37_1 = (Host.sort2 S16384 0 comparator_i32_i32_d0 ((E m c main_v6) : IVec S16384 32)
    (addi ((E m c main_v1) : IVec S16384 32) (Host.reduce IntOp.addi ((E m c main_v34) : IVec S16384x640 32) (constantI S_ 32 0#32) reducesTo_S16384x640_S16384_d1 h_S_))).2 := by
  have h := line12_v37 (S m c 12)
  rw [← S_eq m c 13 main_v37_1 (by decide), ← S_eq m c 12 main_v1 (by decide), ← S_eq m c 12 main_v34 (by decide), ← S_eq m c 12 main_v6 (by decide)]
  rw [S_succ m c 12 (by decide : 12 < 15)]
  exact h

theorem E_c_9 : E m c main_c_9 = constantI S_ 32 4#32 := by
  have h := line12_c (S m c 12)
  rw [← S_eq m c 13 main_c_9 (by decide)]
  rw [S_succ m c 12 (by decide : 12 < 15)]
  exact h

theorem E_v38 : E m c main_v38 = pyDiv (s := S16384) bcast_S_S16384 (E m c main_v6) (E m c main_c_9) := by
  have h := line13_v38 (S m c 13)
  rw [← S_eq m c 14 main_v38 (by decide), ← S_eq m c 13 main_c_9 (by decide), ← S_eq m c 13 main_v6 (by decide)]
  rw [S_succ m c 13 (by decide : 13 < 15)]
  exact h

theorem E_v40 : E m c main_v40 = concatenate S16416 0 [⟨S16384, ((E m c main_v38) : IVec S16384 32)⟩,
    ⟨S32, broadcastInDim S32 ![] bcast_S_S32 (constantI S_ 32 0#32)⟩] concatenates_S16384_S32_S16416_d0 := by
  have h := line14_v40 (S m c 14)
  rw [← S_eq m c 15 main_v40 (by decide), ← S_eq m c 14 main_v38 (by decide)]
  rw [S_succ m c 14 (by decide : 14 < 15)]
  exact h

theorem E_v41 : E m c main_v41 = shapeCast S640x1x832 (E m c main_arg3) shapeCasts_S640x832_S640x1x832 := by
  have h := line14_v41 (S m c 14)
  rw [← S_eq m c 15 main_v41 (by decide), ← S_eq m c 14 main_arg3 (by decide)]
  rw [S_succ m c 14 (by decide : 14 < 15)]
  exact h

end Cert.Kernel.Hand
-- ==== Proof.Bits.Tables.lean ====
/-
  The tables the kernel reads, as natural numbers of the plan, and the bounds its copies need: they hold whatever the
  launch holds.
-/
module

public import proofs.«01_k».proof.Proof.Bits.Entry
public import proofs.«01_k».proof.Proof.PlanVec
public import proofs.«01_k».proof.Proof.PlanRem
public import Idealize.ShloMosaic.Lib.Pipeline.Value
public import Idealize.ShloMosaic.Lib.Pointwise.SelectCore

@[expose] public section

set_option maxRecDepth 4000

noncomputable section

namespace Cert.Kernel.Hand

open Cert.Kernel Cert.Kernel.Gen
open Idealize.ShloMosaic hiding ix1 ix2 ix3 eq_ix1
open Idealize.ShloMosaic.Routing Idealize.ShloMosaic.ValueIdx Idealize.ShloMosaic.WordCmp
open Cert.Plan (cnt start cnt8 off)

variable {F : FTy → Type} [FloatOps F]
variable (m : (ℓ : Loc nD τ sig) → Buf (Elt F) ℓ)

attribute [local irreducible] atEntry

/-- The word that names a pair's cluster. -/
def pw (e : Fin 16384) : BitVec 32 := (E m 0 main_v0 : IVec S16384 32) (ix1 e)

theorem cntE (c : Fin 640) : (E m 0 main_v15 : IVec S640 32) (ix1 c) = BitVec.ofNat 32 (cnt (pw m) c) := by
  rw [E_v15]
  exact Cert.Plan.cnt_ap (pw m) _ (fun _ => rfl) _ _ _ _ _ _ _ c

theorem startE (c : Fin 640) : (E m 0 main_v17 : IVec S640 32) (ix1 c) = BitVec.ofNat 32 (start (pw m) c) := by
  rw [E_v17, E_v16]
  exact Cert.Plan.exclusive_ap _ (cnt (pw m)) (cntE m) _ (bc0 _ _ _) _ _ c

theorem cnt8E (c : Fin 640) : (E m 0 main_v24 : IVec S640 32) (ix1 c) = BitVec.ofNat 32 (cnt8 (pw m) c) := by
  rw [E_v24, E_v22, E_v21, E_c_5]
  exact Cert.Plan.cnt8_ap (pw m) _ (cntE m) _ _ _ _ c

theorem offE (c : Fin 640) : (E m 0 main_v26 : IVec S640 32) (ix1 c) = BitVec.ofNat 32 (off (pw m) c) := by
  rw [E_v26, E_v25]
  exact Cert.Plan.exclusive_ap _ (cnt8 (pw m)) (cnt8E m) _ (bc0 _ _ _) _ _ c

theorem pairE_lt (r : Fin 16384) : ((E m 0 main_v6 : IVec S16384 32) (ix1 r)).toNat < 16384 := by
  rw [E_v6, E_c_0]
  exact Cert.Plan.pyRem_lt _ _ _

theorem quotE (r : Fin 16384) : (E m 0 main_v38 : IVec S16384 32) (ix1 r)
    = BitVec.ofNat 32 (((E m 0 main_v6 : IVec S16384 32) (ix1 r)).toNat / 4) := by
  rw [E_v38, E_c_9]
  have h := pairE_lt m r
  exact pyDiv_ap (s := shape1 16384) _ _ _ (ix1 r) (a := ((E m 0 main_v6 : IVec S16384 32) (ix1 r)).toNat) (b := 4)
    (BitVec.eq_of_toNat_eq (by rw [BitVec.toNat_ofNat, Nat.mod_eq_of_lt (by omega)])) rfl (by omega) (by norm_num) (by norm_num)

theorem toNat_of (n : ℕ) (h : n < 2 ^ 32) : (BitVec.ofNat 32 n).toNat = n := by rw [BitVec.toNat_ofNat, Nat.mod_eq_of_lt h]

theorem t1_eq (c : Fin 640) : (T1 m (ix1 c)).toNat = start (pw m) c := by
  have h := Cert.Plan.start_le (pw m) c (by have := c.isLt; omega)
  exact (congrArg BitVec.toNat (startE m c)).trans (toNat_of _ (by omega))
theorem t2_eq (c : Fin 640) : (T2 m (ix1 c)).toNat = cnt (pw m) c := by
  have h := Cert.Plan.cnt_le (pw m) c
  exact (congrArg BitVec.toNat (cntE m c)).trans (toNat_of _ (by omega))
theorem t3_eq (c : Fin 640) : (T3 m (ix1 c)).toNat = off (pw m) c := by
  have h := Cert.Plan.off_le (pw m) c
  have h' := Cert.Plan.start_le (pw m) c (by have := c.isLt; omega)
  have := c.isLt
  exact (congrArg BitVec.toNat (offE m c)).trans (toNat_of _ (by omega))

theorem t5_lt (x : S16416.Idx) : (T5 m x).toNat < 4096 := by
  have h : T5 m = E m 0 main_v40 := rfl
  rw [h, E_v40]
  refine concatenate_forall (P := fun v : BitVec 32 => v.toNat < 4096) _ _ _ _ ?_ x
  intro p hp i
  simp only [List.mem_cons, List.mem_nil_iff, or_false] at hp
  rcases hp with rfl | rfl
  · have e : i = ix1 (i 0) := eq_ix1 i
    have h := pairE_lt m (i 0)
    show (E m 0 main_v38 i).toNat < 4096
    rw [e]
    have h2 : ((E m 0 main_v38 : IVec S16384 32) (ix1 (i 0))).toNat = _ := (congrArg BitVec.toNat (quotE m (i 0))).trans (toNat_of _ (by omega))
    exact lt_of_eq_of_lt h2 (by omega)
  · show (broadcastInDim S32 ![] bcast_S_S32 (constantI S_ 32 0#32) i).toNat < 4096
    rw [bc0]; decide

theorem exists_ix1 (i : S640.Idx) : ∃ c : Fin 640, i = ix1 c := ⟨i 0, eq_ix1 i⟩

theorem tablesOk : TablesOk m where
  query := t5_lt m
  count i := by obtain ⟨c, rfl⟩ := exists_ix1 i; rw [t2_eq]; exact Cert.Plan.cnt_le _ _
  slots i := by obtain ⟨c, rfl⟩ := exists_ix1 i; rw [t2_eq, t1_eq]; exact Cert.Plan.slots_le _ _ c.isLt
  aligned i := by obtain ⟨c, rfl⟩ := exists_ix1 i; rw [t3_eq]; exact Cert.Plan.off_aligned _ _
  rows i := by obtain ⟨c, rfl⟩ := exists_ix1 i; rw [t2_eq, t3_eq]; exact Cert.Plan.rows_le _ _ c.isLt

end Cert.Kernel.Hand
-- ==== Proof.Bits.Frame.lean ====
/-
  The program's frame with its result: it ends, every argument array is as it was, every semaphore is at zero, and the
  result array holds what the host lines after the kernel make of the score array.
-/
module

public import proofs.«01_k».proof.Proof.Bits.Run
public import proofs.«01_k».proof.Proof.Bits.Tables
public import Idealize.ShloMosaic.Lib.Claim

@[expose] public section

set_option maxRecDepth 2000

noncomputable section

namespace Cert.Kernel.Hand

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- Every buffer after the last host line. -/
def endAt (c : Dev nD) : Valuation τ sig (Elt F) :=
  StableHlo.after (opsAfter (F := F)).flatten (Pipeline.withArrays spec0 c (Pipeline.withR (atEntry m c) R0 c (G m grid0.N c))
    fun w => (dats m (outPr m 0) 0 c).arrAt w (cfgA m).N)

theorem rest_arg (b : Ref sig .tc) (hb : b ∈ Pipeline.restRefs sig spec0) (h : b ∉ R0 ∪ T0) : b ∈ Pipeline.restRefs sig spec0 \ (R0 ∪ T0) :=
  Finset.mem_sdiff.mpr ⟨hb, h⟩

theorem run_all : θ_run defs (onTc (τ := τ) (main (F := F))) ⟨m, fun _ => 0, ρ⟩ (fun r => (∀ c : Dev nD,
      r.2.mem ((c.tc : Thread nD τ).loc main_v44) = endAt m c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ?_) (θ_run_and (run_frame m ρ (tablesOk m)) (run_value m ρ (tablesOk m)))
  obtain ⟨hf, hv, hs⟩ := h
  refine ⟨fun c => ⟨?_, ?_, ?_, ?_, ?_, ?_⟩, hs⟩
  · exact hv c main_v44 (by decide)
  · have h := (hf c).1 0
    rw [(dats m anyPr 0 c).arrAt_in 0 rfl, A_eq] at h
    exact h.trans (E_arg m c main_arg0 (by decide))
  · exact ((hf c).2 main_arg1 (rest_arg _ (Pipeline.mem_restRefs_of main_arg1 (by decide) (by decide)) (by decide))).trans (E_arg m c main_arg1 (by decide))
  · have h := (hf c).1 1
    rw [(dats m anyPr 0 c).arrAt_in 1 rfl, A_eq] at h
    exact h.trans (E_arg m c main_arg2 (by decide))
  · exact ((hf c).2 main_arg3 (rest_arg _ (Pipeline.mem_restRefs_of main_arg3 (by decide) (by decide)) (by decide))).trans (E_arg m c main_arg3 (by decide))
  · exact ((hf c).2 main_arg4 (rest_arg _ (Pipeline.mem_restRefs_of main_arg4 (by decide) (by decide)) (by decide))).trans (E_arg m c main_arg4 (by decide))

end Cert.Kernel.Hand
-- ==== Proof.Exit.lean ====
/-
  The result array: row `4 q + j` of the gathered rows is the score row the pair's place names, and the result is those
  rows as an array of queries and clusters.
-/
module

public import proofs.«01_k».proof.Proof.Frame
public import Idealize.ShloMosaic.Lib.StableHlo.RunRead

@[expose] public section

set_option maxRecDepth 4000

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ) (U : Valuation τ sig (Elt F))

theorem last_v44 : after (opsAfter (F := F)).flatten U (Proc.devRef .tc main_v44)
    = shapeCast S4096x4x832 (Host.gather gather_S21504x832_S16384x1_S16384x832_1_0_n_n_0_1_1832 ((U (Proc.devRef .tc main_v42)) : S21504x832.Idx → Elt F .f32)
      (broadcastInDim S16384x1 ![0] bcast_S16384_S16384x1_0 ((U (Proc.devRef .tc main_v37_1)) : IVec S16384 32))) shapeCasts_S16384x832_S4096x4x832 := by
  show after ((hostOps1 (F := F)) ++ hostOps1_1) U (Proc.devRef .tc main_v44) = _
  after_reads_simp
  simp only [TRef.toBuf, TRef.ofBuf, cast_cast, cast_eq]
  rfl

attribute [local irreducible] atEntry

theorem endAt_eq (c : Dev nD) : endAt m c (Proc.devRef .tc main_v44)
    = shapeCast S4096x4x832 (Host.gather gather_S21504x832_S16384x1_S16384x832_1_0_n_n_0_1_1832 (outAt m 0 grid0.N : S21504x832.Idx → Elt F .f32)
      (broadcastInDim S16384x1 ![0] bcast_S16384_S16384x1_0 (E m c main_v37_1 : IVec S16384 32))) shapeCasts_S16384x832_S4096x4x832 := by
  unfold endAt
  rw [last_v44]
  have h42 : Pipeline.withArrays spec0 c (Pipeline.withR (atEntry m c) R0 c (G m grid0.N c))
      (fun w => (dats m (outPr m 0) 0 c).arrAt w (cfgA m).N) (Proc.devRef .tc main_v42) = outAt m 0 grid0.N := by
    refine (Pipeline.withArrays_of_ne spec0 c _ _ main_v42 (by decide)).trans ?_
    exact (Pipeline.withR_of_mem _ R0 c _ main_v42 (by decide)).trans (G_out m grid0.N c)
  have h37 : Pipeline.withArrays spec0 c (Pipeline.withR (atEntry m c) R0 c (G m grid0.N c))
      (fun w => (dats m (outPr m 0) 0 c).arrAt w (cfgA m).N) (Proc.devRef .tc main_v37_1) = E m c main_v37_1 := by
    refine (Pipeline.withArrays_of_ne spec0 c _ _ main_v37_1 (by decide)).trans ?_
    exact Pipeline.withR_of_not_mem _ R0 c _ main_v37_1 (by decide)
  rw [h42, h37]

end Cert.KernelIdeal.Hand
-- ==== Proof.Score.lean ====
/-
  One score, in real numbers: what a query row and a row of packed codes make of each other. A query word holds two
  half-precision values, the low half at the even place and the high half at the odd one. A code byte holds two signed
  four-bit numbers, the low one for the even places and the high one for the odd ones.
-/
module

public import Idealize.ShloMosaic.PureOps.Ideal.Laws
public import Idealize.ShloMosaic.Lib.BitcastFour
public import Idealize.ShloMosaic.Lib.BitcastPair
public import Idealize.ShloMosaic.Lib.Routing.Words

@[expose] public section

noncomputable section

namespace Cert.Score

open Idealize.ShloMosaic

/-- The signed number in the low four bits of a code. -/
def lowOf (b : BitVec 8) : EReal := ((((b.setWidth 32 <<< 28).sshiftRight 28).toInt : ℝ) : EReal)
/-- The signed number in the high four bits of a code. -/
def highOf (b : BitVec 8) : EReal := ((((b.setWidth 32 <<< 24).sshiftRight 28).toInt : ℝ) : EReal)
/-- The value in the low half of a query word. -/
def evenOf (w : BitVec 32) : EReal := Ideal.ofBits .bf16 (w.extractLsb' 0 16)
/-- The value in the high half of a query word. -/
def oddOf (w : BitVec 32) : EReal := Ideal.ofBits .bf16 (w.extractLsb' 16 16)

/-- The score of a query row `q` against row `col` of a cluster of `size` rows, the row's codes `b` and scale `s`. -/
def score (size : BitVec 32) (q : Fin 256 → BitVec 32) (b : Fin 256 → BitVec 8) (s : EReal) (col : ℕ) : EReal :=
  Scalar.select (IntOp.cmpi .slt (BitVec.ofNat 32 col) size)
    ((∑ k, lowOf (b k) * evenOf (q k) + ∑ k, highOf (b k) * oddOf (q k)) * s) (Ideal.ofBits .f32 0xFF800000#32)

/-! ## A half-precision value widened with sixteen zero bits -/

theorem widen (v : BitVec 32) (h : v.extractLsb' 0 16 = 0#16) : Ideal.ofBits .f32 v = Ideal.ofBits .bf16 (v.extractLsb' 16 16) := by
  have e1 : (v.extractLsb' 16 16).extractLsb' 15 1 = v.extractLsb' 31 1 := by
    apply BitVec.eq_of_getLsbD_eq; intro i hi; simp only [BitVec.getLsbD_extractLsb']; rw [← Nat.add_assoc]
    have : 15 + i < 16 := by omega
    simp [this, hi]
  have e2 : (v.extractLsb' 16 16).extractLsb' 7 8 = v.extractLsb' 23 8 := by
    apply BitVec.eq_of_getLsbD_eq; intro i hi; simp only [BitVec.getLsbD_extractLsb']; rw [← Nat.add_assoc]
    have : 7 + i < 16 := by omega
    simp [this, hi]
  have e3 : (v.extractLsb' 0 23).toNat = ((v.extractLsb' 16 16).extractLsb' 0 7).toNat * 2 ^ 16 := by
    have h0 := congrArg BitVec.toNat h
    simp only [BitVec.extractLsb'_toNat, BitVec.toNat_ofNat, Nat.shiftRight_zero, Nat.shiftRight_eq_div_pow] at h0 ⊢
    omega
  show Ideal.ieee 8 23 v = Ideal.ieee 8 7 (v.extractLsb' 16 16)
  unfold Ideal.ieee
  dsimp only
  rw [show (8 + 7 : ℕ) = 15 from rfl, show (8 + 23 : ℕ) = 31 from rfl, e1, e2, e3]
  generalize ((v.extractLsb' 16 16).extractLsb' 0 7).toNat = f
  generalize (v.extractLsb' 23 8).toNat = E
  generalize (if (v.extractLsb' 31 1 == 1#1) = true then (-1 : ℝ) else 1) = s
  have hz : (f * 2 ^ 16 = 0) = (f = 0) := by simp
  have p1 : (2 : ℝ) ^ (16 : ℕ) * (2 : ℝ) ^ (1 - (2 ^ (8 - 1) - 1) - (23 : ℕ) : ℤ) = (2 : ℝ) ^ (1 - (2 ^ (8 - 1) - 1) - (7 : ℕ) : ℤ) := by
    rw [← zpow_natCast, ← zpow_add₀ (by norm_num)]; congr 1
  have p2 : (2 : ℝ) ^ (16 : ℕ) * (2 : ℝ) ^ ((E : ℤ) - (2 ^ (8 - 1) - 1) - (23 : ℕ)) = (2 : ℝ) ^ ((E : ℤ) - (2 ^ (8 - 1) - 1) - (7 : ℕ)) := by
    rw [← zpow_natCast, ← zpow_add₀ (by norm_num)]; congr 1; push_cast; ring
  simp only [hz]
  congr 1
  congr 1
  · rw [← p1]; congr 1; push_cast; ring
  · rw [← p2]; congr 1; push_cast; ring

theorem even_word (w : BitVec 32) : Ideal.ofBits .f32 (w <<< 16) = evenOf w := by
  rw [widen]
  · unfold evenOf; congr 1
    apply BitVec.eq_of_getLsbD_eq; intro i hi
    have a1 : 16 + i < 32 := by omega
    have a2 : ¬ 16 + i < 16 := by omega
    have a3 : 16 + i - 16 = i := by omega
    simp [BitVec.getLsbD_extractLsb', BitVec.getLsbD_shiftLeft, hi, a1, a2, a3]
    exact (BitVec.getLsbD_eq_getElem (by omega)).symm
  · apply BitVec.eq_of_getLsbD_eq; intro i hi
    simp [BitVec.getLsbD_extractLsb', BitVec.getLsbD_shiftLeft, hi]

theorem mask_bit (i : ℕ) (hi : i < 32) : (4294901760#32 : BitVec 32).getLsbD i = decide (16 ≤ i) := by
  interval_cases i <;> rfl

theorem odd_word (w : BitVec 32) : Ideal.ofBits .f32 (w &&& 4294901760#32) = oddOf w := by
  rw [widen]
  · unfold oddOf; congr 1
    apply BitVec.eq_of_getLsbD_eq; intro i hi
    rw [BitVec.getLsbD_extractLsb', BitVec.getLsbD_extractLsb', BitVec.getLsbD_and, mask_bit _ (by omega)]
    simp
  · apply BitVec.eq_of_getLsbD_eq; intro i hi
    rw [BitVec.getLsbD_extractLsb', BitVec.getLsbD_and, mask_bit _ (by omega)]
    simp; omega

/-! ## Four codes in a word, their halves taken lane by lane -/

theorem low_byte (b x : BitVec 8) (h : ∀ q, 4 ≤ q → q < 8 → x.getLsbD q = b.getLsbD (q - 4)) :
    (((x.sshiftRight 4).toInt : ℝ) : EReal) = lowOf b := by
  have e : x.sshiftRight 4 = (b <<< 4).sshiftRight 4 := by
    apply BitVec.eq_of_getLsbD_eq; intro i hi
    rw [BitVec.getLsbD_sshiftRight, BitVec.getLsbD_sshiftRight]
    have m : x.msb = (b <<< 4).msb := by
      rw [BitVec.msb_eq_getLsbD_last, BitVec.msb_eq_getLsbD_last]
      show x.getLsbD 7 = (b <<< 4).getLsbD 7
      rw [h 7 (by decide) (by decide), BitVec.getLsbD_shiftLeft]; rfl
    rw [m]
    by_cases hq : 4 + i < 8
    · have h4 : ¬ 4 + i < 4 := by omega
      rw [if_pos hq, if_pos hq, h _ (by omega) hq, BitVec.getLsbD_shiftLeft]
      simp [hq]
    · rw [if_neg hq, if_neg hq]
  rw [e]
  unfold lowOf
  have : ∀ b : BitVec 8, ((b <<< 4).sshiftRight 4).toInt = ((b.setWidth 32 <<< 28).sshiftRight 28).toInt := by decide +kernel
  rw [this]

theorem high_byte (b : BitVec 8) : (((b.sshiftRight 4).toInt : ℝ) : EReal) = highOf b := by
  unfold highOf
  have : ∀ b : BitVec 8, (b.sshiftRight 4).toInt = ((b.setWidth 32 <<< 24).sshiftRight 28).toInt := by decide +kernel
  rw [this]

/-- Words back to bytes: bit `q` of byte row `p` is bit `8 (p % 4) + q` of word row `p / 4`. -/
theorem bytes_of_words {R r n : ℕ} (x : (⟨2, ![R, n]⟩ : Shape).Idx → BitVec 32)
    (h : (⟨2, ![R, n]⟩ : Shape).Bitcasts 32 ⟨2, ![r, n]⟩ 8) (p : Fin r) (l : Fin n) (q : ℕ) (hq : q < 8) (a : Fin R) (ha : a.val = p.val / 4) :
    (bitcast ⟨2, ![r, n]⟩ 8 x h (ValueIdx.ix2 p l)).getLsbD q = (x (ValueIdx.ix2 a l)).getLsbD (8 * (p.val % 4) + q) := by
  rw [bitcast_getLsbD x h _ q hq (by decide)]
  have er : (⟨2, ![r, n]⟩ : Shape).row (ValueIdx.ix2 p l) = p.val := rfl
  have e2 : ((⟨2, ![r, n]⟩ : Shape).row (ValueIdx.ix2 p l) * 8 + q) % 32 = 8 * (p.val % 4) + q := by rw [er]; omega
  rw [e2]
  congr 2
  funext c
  match c with
  | ⟨0, _⟩ => exact Fin.ext ((h.srcIdx_row _ _ _ ⟨0, Nat.zero_lt_two⟩ rfl).trans (by rw [er]; show _ = a.val; omega))
  | ⟨1, _⟩ => exact Fin.ext (h.srcIdx_other _ _ _ ⟨1, Nat.one_lt_two⟩ (by show ¬ 1 + 2 = 2; omega))

/-- The four bytes of a word shifted left by four: above bit four, a byte's bits are its code's. -/
theorem shifted_bytes {R r n : ℕ} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (p : Fin R) (l : Fin n) (hp : p.val / 4 < r) (q : ℕ) (h4 : 4 ≤ q) (h8 : q < 8) :
    (bitcast ⟨2, ![R, n]⟩ 8 (fun i => bitcast ⟨2, ![r, n]⟩ 32 x h i <<< 4) h' (ValueIdx.ix2 p l)).getLsbD q
      = (x (ValueIdx.ix2 p l)).getLsbD (q - 4) := by
  rw [bytes_of_words _ h' p l q h8 ⟨p.val / 4, hp⟩ rfl, BitVec.getLsbD_shiftLeft]
  have a1 : 8 * (p.val % 4) + q < 32 := by omega
  have a2 : ¬ 8 * (p.val % 4) + q < 4 := by omega
  rw [bitcast_8_32_getLsbD_ix2 x h ⟨p.val / 4, hp⟩ l (8 * (p.val % 4) + q - 4) (by omega) p
    (by show p.val = 4 * (p.val / 4) + _; omega)]
  have a3 : (8 * (p.val % 4) + q - 4) % 8 = q - 4 := by omega
  simp [a1, a2, a3]

theorem same_bytes {R r n : ℕ} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (p : Fin R) (l : Fin n) (hp : p.val / 4 < r) :
    bitcast ⟨2, ![R, n]⟩ 8 (bitcast ⟨2, ![r, n]⟩ 32 x h) h' (ValueIdx.ix2 p l) = x (ValueIdx.ix2 p l) := by
  apply BitVec.eq_of_getLsbD_eq; intro q hq
  rw [bytes_of_words _ h' p l q hq ⟨p.val / 4, hp⟩ rfl, bitcast_8_32_getLsbD_ix2 x h ⟨p.val / 4, hp⟩ l (8 * (p.val % 4) + q) (by omega) p
    (by show p.val = 4 * (p.val / 4) + _; omega)]
  congr 1; omega

end Cert.Score
-- ==== Proof.Payload.lean ====
/-
  What the kernel's arithmetic computes, element by element: the unpacked codes, and the block of 32 rows of scores.
-/
module

public import proofs.«01_k».proof.Proof.Score
public import proofs.«01_k».proof.Proof.Trip
public import Idealize.ShloMosaic.Lib.MatmulPlain
public import Idealize.ShloMosaic.Lib.Pipeline.Value

@[expose] public section

noncomputable section

namespace Cert.KernelIdeal.Hand

open Cert.KernelIdeal Cert.KernelIdeal.Gen Cert.Score
open Idealize.ShloMosaic
open Idealize.ShloMosaic.ValueIdx

theorem codes_rank (v : Vec Ideal S1x832x256 .i8) (h : S1x832x256.ShapeCasts S832x256) (c : Fin 832) (k : Fin 256) :
    shapeCast S832x256 v h (ix2 c k) = v (ix3 0 c k) :=
  (shapeCast_dropUnit_apply _ v h (ix2 c k)).trans (congrArg v (funext fun a => match a with | ⟨0, _⟩ => rfl | ⟨1, _⟩ => rfl | ⟨2, _⟩ => rfl))

theorem low_apply (v : Vec Ideal S1x832x256 .i8) (c : Fin 832) (k : Fin 256) : k0_pay68 (F := Ideal) v (ix2 c k) = lowOf (v (ix3 0 c k)) := by
  unfold k0_pay68 k0_pay67
  dsimp only
  rw [shapeCast_self]
  refine (low_byte (v (ix3 0 c k)) _ fun q h4 h8 => ?_)
  refine (shifted_bytes _ _ _ c k (by omega) q h4 h8).trans ?_
  rw [codes_rank]

theorem high_apply (v : Vec Ideal S1x832x256 .i8) (c : Fin 832) (k : Fin 256) : k0_pay69 (F := Ideal) v (ix2 c k) = highOf (v (ix3 0 c k)) := by
  unfold k0_pay69 k0_pay67
  dsimp only
  rw [shapeCast_self]
  refine Eq.trans ?_ (high_byte (v (ix3 0 c k)))
  have := same_bytes (shapeCast S832x256 v shapeCasts_S1x832x256_S832x256) bitcasts_S832x256_w8_S208x256_w32
    bitcasts_S208x256_w32_S832x256_w8 c k (by omega)
  rw [codes_rank] at this
  rw [← this]
  rfl

theorem dot_eq : dot_S32x256_S832x256_S32x832_1_1_0_0_n_n = DotDims.transposedRhs 32 256 832 := rfl

/-- One row of a block of scores. -/
theorem block_apply (size : BitVec 32) (R : Vec Ideal S32x256 .i32) (lo hi : Vec Ideal S832x256 .bf16) (sc : Vec Ideal S1x1x832 .f32)
    (b : Fin 832 → Fin 256 → BitVec 8) (hl : ∀ c k, lo (ix2 c k) = lowOf (b c k)) (hh : ∀ c k, hi (ix2 c k) = highOf (b c k))
    (r : Fin 32) (c : Fin 832) :
    k0_pay33 (F := Ideal) size R lo hi sc (ix2 r c) = score size (fun k => R (ix2 r k)) (b c) (sc (ix3 0 0 c)) c.val := by
  unfold k0_pay33
  dsimp only
  rw [shapeCast_self]
  unfold score
  refine congrArg₂ (fun a (x : EReal) => Scalar.select a x _) ?_ ?_
  · exact congrArg (fun x => IntOp.cmpi CmpIPredicate.slt x size) (iota_single_apply .tc S32x832 32 1 iota_S32x832_d1_w32 (ix2 r c))
  · refine congrArg₂ (fun (x y : EReal) => x * y) (congrArg₂ (fun (x y : EReal) => x + y) ?_ ?_) ?_
    · simp only [matmul]
      rw [dot_eq, Ideal.matmul_transposedRhs_apply]
      refine Eq.trans (congrArg₂ (fun (x y : EReal) => x + y) Ideal.ofBits_zero_f32 rfl) ((zero_add _).trans (Finset.sum_congr rfl fun k _ => ?_))
      rw [hl, mul_comm]
      exact congrArg (fun x : EReal => lowOf (b c k) * x) (even_word (R (ix2 r k)))
    · simp only [matmul]
      rw [dot_eq, Ideal.matmul_transposedRhs_apply]
      refine Eq.trans (congrArg₂ (fun (x y : EReal) => x + y) Ideal.ofBits_zero_f32 rfl) ((zero_add _).trans (Finset.sum_congr rfl fun k _ => ?_))
      rw [hh, mul_comm]
      exact congrArg (fun x : EReal => highOf (b c k) * x) (odd_word (R (ix2 r k)))
    · refine (broadcastTo_apply _ broadcasts_S1x832_S32x832 (ix2 r c) (ix2 0 c) ?_).trans ((shapeCast_dropUnit_apply _ sc _ (ix2 0 c)).trans
        (congrArg sc (funext fun a => match a with | ⟨0, _⟩ => rfl | ⟨1, _⟩ => rfl | ⟨2, _⟩ => rfl)))
      intro a
      match a with
      | ⟨0, _⟩ => rfl
      | ⟨1, _⟩ => rfl

end Cert.KernelIdeal.Hand
-- ==== Proof.Rows.lean ====
/-
  A cluster's trips, row by row: the row at place `i` from the cluster's first row on is the score of the query that the
  cluster's slot `i` names; every other row is as it was.
-/
module

public import proofs.«01_k».proof.Proof.Payload

@[expose] public section

noncomputable section

namespace Cert.KernelIdeal.Hand

open Cert.KernelIdeal Cert.KernelIdeal.Gen Cert.Score
open Idealize.ShloMosaic
open Idealize.ShloMosaic.ValueIdx

variable (X : S4096x256.Idx → BitVec 32) (T : S16416.Idx → BitVec 32) (base off : ℕ) (size : BitVec 32)
  (lo hi : S832x256.Idx → Elt Ideal .bf16) (sc : S1x1x832.Idx → Elt Ideal .f32) (f : S21504x832.Idx → Elt Ideal .f32)

theorem chunks_other (n : ℕ) (y : S21504x832.Idx) (h : (y 0).val < off ∨ off + 32 * n ≤ (y 0).val) :
    chunks (F := Ideal) X T base off size lo hi sc f n y = f y := by
  induction n with
  | zero => rfl
  | succ n ih =>
    show putRows (off + 32 * n) _ _ y = _
    unfold putRows
    rw [dif_neg (by omega)]
    exact ih (by omega)

theorem chunks_row (b : Fin 832 → Fin 256 → BitVec 8) (hl : ∀ c k, lo (ix2 c k) = lowOf (b c k)) (hh : ∀ c k, hi (ix2 c k) = highOf (b c k))
    (n i : ℕ) (hin : i < 32 * n) (r : Fin 21504) (hr : r.val = off + i) (c : Fin 832) :
    chunks (F := Ideal) X T base off size lo hi sc f n (ix2 r c)
      = score size (fun k => X (ix2 (qrow T (base + i)) k)) (b c) (sc (ix3 0 0 c)) c.val := by
  induction n with
  | zero => omega
  | succ n ih =>
    show putRows (off + 32 * n) _ _ (ix2 r c) = _
    unfold putRows
    by_cases h : 32 * n ≤ i
    · rw [dif_pos (show off + 32 * n ≤ r.val ∧ r.val < off + 32 * n + 32 by omega)]
      refine (block_apply size (rowsAt X T (base + 32 * n)) lo hi sc b hl hh _ c).trans ?_
      congr 1
      funext k
      show X (ix2 (qrow T (base + 32 * n + (r.val - (off + 32 * n)))) k) = _
      rw [show base + 32 * n + (r.val - (off + 32 * n)) = base + i by omega]
    · rw [dif_neg (show ¬ (off + 32 * n ≤ r.val ∧ r.val < off + 32 * n + 32) by omega)]
      exact ih (by omega)

end Cert.KernelIdeal.Hand
-- ==== Proof.Blocks.lean ====
/-
  The blocks a grid step reads, as elements of the arrays: the whole query array, and the step's own cluster of codes and
  of scales.
-/
module

public import proofs.«01_k».proof.Proof.Region
public import proofs.«01_k».proof.Proof.Entry
public import Idealize.ShloMosaic.Lib.Pipeline.Value
public import Idealize.ShloMosaic.Lib.ValueIdx

@[expose] public section

noncomputable section

namespace Cert.KernelIdeal.Hand

open Cert.KernelIdeal Cert.KernelIdeal.Gen
open Idealize.ShloMosaic Idealize.ShloMosaic.TcCoe
open Idealize.ShloMosaic.ValueIdx

attribute [local irreducible] atEntry

variable {F : FTy → Type} [FloatOps F]
variable (m : (ℓ : Loc nD τ sig) → Buf (Elt F) ℓ)

theorem steps : grid0.N = 640 := by decide +kernel

theorem coord_val (t : Fin grid0.N) : (grid0.coords t 0).val = t.val := by
  have h : t.val < 640 := lt_of_lt_of_eq t.isLt steps
  rw [Pipeline.Grid.coords_val t 0 (S := 1) (B := 640) (by decide +kernel) rfl]
  omega

theorem cluster_at (t : Fin grid0.N) : cluster (grid0.coords t) = ix1 ⟨t.val, lt_of_lt_of_eq t.isLt steps⟩ := by
  unfold cluster
  exact congrArg ix1 (Fin.ext (coord_val t))

theorem blk0_apply (c : Dev nD) (t : Fin grid0.N) (q : Fin 4096) (k : Fin 256) : blk0 m c t (ix2 q k) = E m c main_arg0 (ix2 q k) := by
  unfold blk0
  show V m c main_arg0 _ = _
  refine congrArg (V m c main_arg0) (funext fun a => Fin.ext ?_)
  match a with
  | ⟨0, _⟩ => show 0 * 4096 + 1 * q.val = q.val; omega
  | ⟨1, _⟩ => show 0 * 256 + 1 * k.val = k.val; omega

theorem blk1_apply (c : Dev nD) (t : Fin grid0.N) (r : Fin 832) (k : Fin 256) :
    blk1 m c t (ix3 0 r k) = E m c main_arg2 (ix3 ⟨t.val, lt_of_lt_of_eq t.isLt steps⟩ r k) := by
  unfold blk1
  show V m c main_arg2 _ = _
  refine congrArg (V m c main_arg2) (funext fun a => Fin.ext ?_)
  have h : t.val < 640 := lt_of_lt_of_eq t.isLt steps
  match a with
  | ⟨0, _⟩ =>
    show (BitVec.ofNat 32 (grid0.coords t 0).val).toNat * 1 + 1 * 0 = t.val
    rw [coord_val, BitVec.toNat_ofNat]; omega
  | ⟨1, _⟩ => show 0 * 832 + 1 * r.val = r.val; omega
  | ⟨2, _⟩ => show 0 * 256 + 1 * k.val = k.val; omega

theorem blk2_apply (c : Dev nD) (t : Fin grid0.N) (r : Fin 832) :
    blk2 m c t (ix3 0 0 r) = E m c main_v41 (ix3 ⟨t.val, lt_of_lt_of_eq t.isLt steps⟩ 0 r) := by
  unfold blk2
  show V m c main_v41 _ = _
  refine congrArg (V m c main_v41) (funext fun a => Fin.ext ?_)
  have h : t.val < 640 := lt_of_lt_of_eq t.isLt steps
  match a with
  | ⟨0, _⟩ =>
    show (BitVec.ofNat 32 (grid0.coords t 0).val).toNat * 1 + 1 * 0 = t.val
    rw [coord_val, BitVec.toNat_ofNat]; omega
  | ⟨1, _⟩ => rfl
  | ⟨2, _⟩ => show 0 * 832 + 1 * r.val = r.val; omega

end Cert.KernelIdeal.Hand
-- ==== Proof.Filled.lean ====
/-
  The score array after the kernel: row `off c + i` holds the scores of the query in sorted slot `start c + i` against
  cluster `c`, for each of the cluster's `cnt c` slots.
-/
module

public import proofs.«01_k».proof.Proof.Rows
public import proofs.«01_k».proof.Proof.Blocks
public import proofs.«01_k».proof.Proof.Run
public import proofs.«01_k».proof.Proof.Tables

@[expose] public section

noncomputable section

namespace Cert.KernelIdeal.Hand

open Cert.KernelIdeal Cert.KernelIdeal.Gen Cert.Score
open Idealize.ShloMosaic hiding ix1 ix2 ix3 eq_ix1
open Idealize.ShloMosaic.TcCoe
open Idealize.ShloMosaic.ValueIdx
open Cert.Plan (cnt start cnt8 off)

attribute [local irreducible] atEntry

variable (m : (ℓ : Loc nD τ sig) → Buf (Elt Ideal) ℓ)

/-- The score of the query in slot `n` against row `r` of cluster `c`. -/
def slotScore (c : Fin 640) (n : ℕ) (r : Fin 832) : EReal :=
  score ((E m 0 main_arg4 : S640.Idx → BitVec 32) (ix1 c)) (fun k => (E m 0 main_arg0 : S4096x256.Idx → BitVec 32) (ix2 (qrow (T5 m) n) k))
    (fun k => (E m 0 main_arg2 : S640x832x256.Idx → BitVec 8) (ix3 c r k)) ((E m 0 main_v41 : S640x1x832.Idx → EReal) (ix3 c 0 r)) r.val

theorem step_other (t : Fin grid0.N) (f : S21504x832.Idx → Elt Ideal .f32) (y : S21504x832.Idx) (h : (y 0).val < off (pw m) t.val) :
    stepAt m 0 t f y = f y := by
  unfold stepAt
  have e := t3_eq m ⟨t.val, lt_of_lt_of_eq t.isLt steps⟩
  rw [← cluster_at t] at e
  exact chunks_other _ _ _ _ _ _ _ _ _ _ y (Or.inl (by rw [e]; exact h))

theorem step_row (t : Fin grid0.N) (c : Fin 640) (hc : c.val = t.val) (f : S21504x832.Idx → Elt Ideal .f32) (i : ℕ) (hi : i < cnt (pw m) c.val) (r : Fin 21504)
    (hr : r.val = off (pw m) c.val + i) (col : Fin 832) :
    stepAt m 0 t f (ix2 r col) = slotScore m c (start (pw m) c.val + i) col := by
  obtain rfl : c = ⟨t.val, lt_of_lt_of_eq t.isLt steps⟩ := Fin.ext hc
  unfold stepAt
  have e1 := t1_eq m ⟨t.val, lt_of_lt_of_eq t.isLt steps⟩
  have e2 := t2_eq m ⟨t.val, lt_of_lt_of_eq t.isLt steps⟩
  have e3 := t3_eq m ⟨t.val, lt_of_lt_of_eq t.isLt steps⟩
  rw [cluster_at t, e1, e2, e3]
  refine (chunks_row _ _ _ _ _ _ _ _ _ (fun r k => blk1 m 0 t (ix3 0 r k)) (low_apply _) (high_apply _) _ i (by omega) r hr col).trans ?_
  unfold slotScore
  rw [blk2_apply]
  simp only [blk0_apply, blk1_apply]
  rfl

/-- After `n` grid steps the rows of the clusters before `n` are filled. -/
theorem filled (n : ℕ) (hn : n ≤ 640) (c : Fin 640) (hc : c.val < n) (i : ℕ) (hi : i < cnt (pw m) c.val) (r : Fin 21504)
    (hr : r.val = off (pw m) c.val + i) (col : Fin 832) :
    outAt m 0 n (ix2 r col) = slotScore m c (start (pw m) c.val + i) col := by
  induction n with
  | zero => omega
  | succ n ih =>
    have hN : n < grid0.N := by rw [steps]; omega
    rw [outAt, dif_pos hN]
    rcases Nat.lt_succ_iff_lt_or_eq.mp hc with h | h
    · rw [step_other]
      · exact ih (by omega) h
      · have h1 := Cert.Plan.off_mono (pw m) (a := c.val + 1) (b := n) h
        have h2 := Cert.Plan.off_succ (pw m) c.val
        have h3 := Cert.Plan.le_cnt8 (pw m) c.val
        show r.val < off (pw m) n
        omega
    · exact step_row m ⟨n, hN⟩ c h _ i hi r hr col

end Cert.KernelIdeal.Hand
-- ==== Proof.PlanSort.lean ====
/-
  The two sorts of the plan. The pairs are sorted by cluster and, within a cluster, by their own number; `perm p` names the
  pair at each sorted position, and `place p` the position of each pair. Sorting the positions by their pair undoes it.
-/
module

public import proofs.«01_k».proof.Proof.Plan
public import Idealize.ShloMosaic.Lib.Routing.SortLink

@[expose] public section

namespace Cert.Plan

open Idealize.ShloMosaic Idealize.ShloMosaic.Routing Idealize.ShloMosaic.ValueIdx Idealize.ShloMosaic.WordCmp

theorem along1 {n : ℕ} (hd : 0 < (shape1 n).rank) (j : (shape1 n).Idx) (c : Fin n) : j.along (⟨0, hd⟩ : Fin (shape1 n).rank) c = ix1 c :=
  (Shape.Idx.along_rank1 j c).trans (ofFin_eq_ix1 c)

/-- A stable sort of words that hold naturals, read. -/
theorem sort_ap {n : ℕ} (x : IVec (shape1 n) 32) (K : Fin n → ℕ) (hK : ∀ a, K a < 2 ^ 31) (hx : ∀ a, x (ix1 a) = BitVec.ofNat 32 (K a))
    (r : Fin n) :
    Host.sort (shape1 n) 0 (fun l r => IntOp.cmpi .slt l r) x (ix1 r) = BitVec.ofNat 32 (K (sortedFrom (fun a b => decide (K a < K b)) r)) := by
  have hd : 0 < (shape1 n).rank := Nat.zero_lt_one
  have hbefore : ∀ j : (shape1 n).Idx,
      (fun a b : Fin n => IntOp.cmpi .slt (x (j.along ⟨0, hd⟩ a)) (x (j.along ⟨0, hd⟩ b)) == 1#1) = fun a b => decide (K a < K b) := fun j => by
    funext a b
    rw [along1 hd j a, along1 hd j b, hx a, hx b, cmpi_slt_ofNat (w := 32) (hK a) (hK b)]
    by_cases h : K a < K b <;> simp [h]
  unfold Host.sort
  rw [dif_pos hd]
  show x ((ix1 r).along ⟨0, hd⟩ (sortedFrom (fun a b : Fin n => IntOp.cmpi .slt (x ((ix1 r).along ⟨0, hd⟩ a)) (x ((ix1 r).along ⟨0, hd⟩ b)) == 1#1) r)) = _
  rw [hbefore (ix1 r)]
  exact (congrArg x (along1 hd _ _)).trans (hx _)

/-- A stable sort of pairs by their first word, its second result read. -/
theorem sort2_ap {n : ℕ} (x y : IVec (shape1 n) 32) (K : Fin n → ℕ) (hK : ∀ a, K a < 2 ^ 31) (hx : ∀ a, x (ix1 a) = BitVec.ofNat 32 (K a))
    (r : Fin n) :
    (Host.sort2 (shape1 n) 0 (fun l r : BitVec 32 × BitVec 32 => IntOp.cmpi .slt l.1 r.1) x y).2 (ix1 r)
      = y (ix1 (sortedFrom (fun a b => decide (K a < K b)) r)) := by
  have hd : 0 < (shape1 n).rank := Nat.zero_lt_one
  have hbefore : ∀ j : (shape1 n).Idx,
      (fun a b : Fin n => IntOp.cmpi .slt (x (j.along ⟨0, hd⟩ a)) (x (j.along ⟨0, hd⟩ b)) == 1#1) = fun a b => decide (K a < K b) := fun j => by
    funext a b
    rw [along1 hd j a, along1 hd j b, hx a, hx b, cmpi_slt_ofNat (w := 32) (hK a) (hK b)]
    by_cases h : K a < K b <;> simp [h]
  unfold Host.sort2
  rw [dif_pos hd]
  show y ((ix1 r).along ⟨0, hd⟩ (sortedFrom (fun a b : Fin n => IntOp.cmpi .slt (x ((ix1 r).along ⟨0, hd⟩ a)) (x ((ix1 r).along ⟨0, hd⟩ b)) == 1#1) r)) = _
  rw [hbefore (ix1 r)]
  exact congrArg y (along1 hd _ _)

section Order
variable {n : ℕ}

/-- A sort by different numbers ascends. -/
theorem sorted_lt (K : Fin n → ℕ) (hK : Function.Injective K) {i j : Fin n} (h : i < j) :
    K (sortedFrom (fun a b => decide (K a < K b)) i) < K (sortedFrom (fun a b => decide (K a < K b)) j) := by
  have h1 := sortedFrom_noInversion (fun a b => decide (K a < K b)) (fun a b => decide (K a < K b))
    (fun a b h => by simp only [decide_eq_true_eq, decide_eq_false_iff_not] at h ⊢; omega) (fun _ _ h => h)
    (fun a b c h₁ h₂ => by simp only [decide_eq_false_iff_not] at h₁ h₂ ⊢; omega) i j h
  simp only [decide_eq_false_iff_not] at h1
  have h2 : K (sortedFrom (fun a b => decide (K a < K b)) i) ≠ K (sortedFrom (fun a b => decide (K a < K b)) j) := fun e =>
    absurd (sortedFrom_injective _ (hK e)) (ne_of_lt h)
  omega

/-- Sorting a permutation of the positions by its values gives its inverse. -/
theorem sorted_perm (π : Fin n → Fin n) (hπ : Function.Injective π) (e : Fin n) :
    π (sortedFrom (fun a b => decide ((π a).val < (π b).val)) e) = e := by
  set σ := sortedFrom (fun a b : Fin n => decide ((π a).val < (π b).val)) with hσ
  have hmono : StrictMono fun i => π (σ i) := fun i j h =>
    sorted_lt (fun a => (π a).val) (fun a b h => hπ (Fin.ext h)) h
  have hid : (fun i => π (σ i)) = id := by
    have := StrictMono.range_inj (f := fun i => π (σ i)) (g := id) hmono strictMono_id
    refine this.mp ?_
    rw [Set.range_id, Set.range_eq_univ]
    exact Finite.surjective_of_injective hmono.injective
  exact congrFun hid e

end Order

variable (p : Fin 16384 → ℕ)

/-- The key of a pair: its cluster, then its number. -/
def key (e : Fin 16384) : ℕ := p e * 16384 + e.val
/-- The pair at a sorted position. -/
def perm (r : Fin 16384) : Fin 16384 := sortedFrom (fun a b => decide (key p a < key p b)) r
/-- The sorted position of a pair. -/
def place (e : Fin 16384) : Fin 16384 := sortedFrom (fun a b => decide ((perm p a).val < (perm p b).val)) e

theorem key_inj : Function.Injective (key p) := fun a b h => Fin.ext (by unfold key at h; omega)
theorem perm_inj : Function.Injective (perm p) := sortedFrom_injective _
theorem perm_place (e : Fin 16384) : perm p (place p e) = e := sorted_perm (perm p) (perm_inj p) e

/-- Clusters ascend along the sorted positions. -/
theorem perm_mono {i j : Fin 16384} (h : i ≤ j) : p (perm p i) ≤ p (perm p j) := by
  rcases eq_or_lt_of_le h with rfl | h
  · exact le_rfl
  · have := sorted_lt (key p) (key_inj p) h
    unfold key at this
    change p (perm p i) * 16384 + (perm p i).val < p (perm p j) * 16384 + (perm p j).val at this
    have := (perm p i).isLt; have := (perm p j).isLt
    omega

/-- How many pairs name a smaller number, counted along the sorted positions. -/
theorem card_lt (c : ℕ) : (Finset.univ.filter fun e => p e < c).card = (Finset.univ.filter fun r => p (perm p r) < c).card := by
  refine (Finset.card_bij (fun r _ => perm p r) ?_ ?_ ?_).symm
  · intro r hr; simpa using hr
  · intro a _ b _ h; exact perm_inj p h
  · intro e he
    refine ⟨place p e, ?_, perm_place p e⟩
    simp only [Finset.mem_filter, Finset.mem_univ, true_and, perm_place] at he ⊢
    exact he

/-- A pair's sorted position lies among the positions of its cluster. -/
theorem place_bounds (w : Fin 16384 → BitVec 32) (hw : ∀ e, w e = BitVec.ofNat 32 (p e)) (hp : ∀ e, p e < 640) (e : Fin 16384) :
    start w (p e) ≤ (place p e).val ∧ (place p e).val < start w (p e) + cnt w (p e) := by
  have hn : ∀ e, (w e).toNat = p e := fun e => by rw [hw, BitVec.toNat_ofNat, Nat.mod_eq_of_lt (by have := hp e; omega)]
  have he := hp e
  have hs : ∀ c ≤ 640, start w c = (Finset.univ.filter fun r => p (perm p r) < c).card := fun c hc => by
    rw [start_eq_card w c hc, ← card_lt]
    refine congrArg Finset.card (Finset.filter_congr fun e _ => by rw [hn])
  constructor
  · rw [hs _ (by omega)]
    have hsub : (Finset.univ.filter fun r => p (perm p r) < p e) ⊆ Finset.Iio (place p e) := fun r hr => by
      simp only [Finset.mem_filter, Finset.mem_univ, true_and] at hr
      rw [Finset.mem_Iio]
      by_contra hge
      have := perm_mono p (not_lt.mp hge)
      rw [perm_place] at this
      omega
    have := Finset.card_le_card hsub
    rwa [Fin.card_Iio] at this
  · rw [← start_succ, hs _ (by omega)]
    have hsub : Finset.Iic (place p e) ⊆ Finset.univ.filter fun r => p (perm p r) < p e + 1 := fun r hr => by
      rw [Finset.mem_Iic] at hr
      simp only [Finset.mem_filter, Finset.mem_univ, true_and]
      have := perm_mono p hr
      rw [perm_place] at this
      omega
    have := Finset.card_le_card hsub
    rw [Fin.card_Iic] at this
    omega

end Cert.Plan
-- ==== Proof.Slots.lean ====
/-
  Where each pair's scores lie. A pair of a query and a cluster is numbered `4 q + j`. The pairs are sorted by cluster, then
  by number; a pair's output row is its cluster's first row plus its place among the cluster's pairs; and the slot table
  names, for each sorted slot, the pair's query.
-/
module

public import proofs.«01_k».proof.Proof.Tables
public import proofs.«01_k».proof.Proof.PlanSort
public import proofs.«01_k».proof.Proof.Trip

@[expose] public section

noncomputable section

namespace Cert.KernelIdeal.Hand

open Cert.KernelIdeal Cert.KernelIdeal.Gen
open Idealize.ShloMosaic hiding ix1 ix2 ix3 eq_ix1
open Idealize.ShloMosaic.TcCoe
open Idealize.ShloMosaic.Routing Idealize.ShloMosaic.ValueIdx Idealize.ShloMosaic.WordCmp
open Cert.Plan (cnt start cnt8 off perm place)

attribute [local irreducible] atEntry

variable {F : FTy → Type} [FloatOps F]
variable (m : (ℓ : Loc nD τ sig) → Buf (Elt F) ℓ)
variable (p : Fin 16384 → ℕ) (hw : ∀ e, pw m e = BitVec.ofNat 32 (p e)) (hp : ∀ e, p e < 640)

include hw hp

theorem sortedE (r : Fin 16384) : (E m 0 main_v5 : IVec S16384 32) (ix1 r) = BitVec.ofNat 32 (Cert.Plan.key p (perm p r)) := by
  rw [E_v5]
  refine Cert.Plan.sort_ap _ (Cert.Plan.key p) (fun a => by have := hp a; unfold Cert.Plan.key; omega) (fun a => ?_) r
  have h : (shapeCast S16384 (E m 0 main_arg1) shapeCasts_S2x2048x4_S16384 : IVec S16384 32) (ix1 a) = BitVec.ofNat 32 (p a) := by
    rw [← hw a]; unfold pw; rw [E_v0]
  have h' := hp a
  show IntOp.addi (IntOp.muli ((shapeCast S16384 (E m 0 main_arg1) shapeCasts_S2x2048x4_S16384 : IVec S16384 32) (ix1 a)) _) (BitVec.ofNat 32 a.val) = _
  rw [h]
  unfold Cert.Plan.key
  apply BitVec.eq_of_toNat_eq
  show (BitVec.ofNat 32 (p a) * 16384#32 + BitVec.ofNat 32 a.val).toNat = _
  simp only [BitVec.toNat_add, BitVec.toNat_mul, BitVec.toNat_ofNat]
  omega

theorem pairE (r : Fin 16384) : (E m 0 main_v6 : IVec S16384 32) (ix1 r) = BitVec.ofNat 32 (perm p r).val := by
  rw [E_v6, E_c_0]
  have h := hp (perm p r)
  refine (pyRem_ap (s := shape1 16384) _ _ _ (ix1 r) (a := Cert.Plan.key p (perm p r)) (b := 16384) (sortedE m p hw hp r) rfl
    (by unfold Cert.Plan.key; omega) (by norm_num) (by norm_num)).trans (congrArg (BitVec.ofNat 32) ?_)
  unfold Cert.Plan.key; omega

theorem clusterE (r : Fin 16384) : (E m 0 main_v7 : IVec S16384 32) (ix1 r) = BitVec.ofNat 32 (p (perm p r)) := by
  rw [E_v7, E_c_1]
  have h := hp (perm p r)
  refine (pyDiv_ap (s := shape1 16384) _ _ _ (ix1 r) (a := Cert.Plan.key p (perm p r)) (b := 16384) (sortedE m p hw hp r) rfl
    (by unfold Cert.Plan.key; omega) (by norm_num) (by norm_num)).trans (congrArg (BitVec.ofNat 32) ?_)
  unfold Cert.Plan.key; omega

/-- The query a sorted slot names. -/
theorem queryE (r : Fin 16384) : (qrow (T5 m) r.val).val = (perm p r).val / 4 := by
  have h := (perm p r).isLt
  have e : T5 m (slotIx r.val) = BitVec.ofNat 32 ((perm p r).val / 4) := by
    have h5 : T5 m = E m 0 main_v40 := rfl
    have hs : slotIx r.val = (ix1 (⟨r.val, by omega⟩ : Fin 16416) : S16416.Idx) := by
      unfold slotIx; exact congrArg ix1 (Fin.ext (Nat.mod_eq_of_lt (by omega)))
    rw [h5, E_v40, hs]
    refine (concatenate_pair_apply_left (t := S16416) (s₁ := S16384) (s₂ := S32) 0 (E m 0 main_v38 : IVec S16384 32)
      (broadcastInDim S32 ![] bcast_S_S32 (constantI S_ 32 0#32)) concatenates_S16384_S32_S16416_d0 (ix1 (⟨r.val, by omega⟩ : Fin 16416)) rfl (ix1 r) ?_).trans ?_
    · intro a; match a with | ⟨0, _⟩ => rfl
    · refine (quotE m r).trans ?_
      rw [pairE m p hw hp, toNat_of _ (by omega)]
  unfold qrow
  show (T5 m (slotIx r.val)).toNat % 4096 = _
  rw [e, toNat_of _ (by omega)]
  omega

/-- The output row of a pair. -/
theorem rowE (e : Fin 16384) : (E m 0 main_v37_1 : IVec S16384 32) (ix1 e)
    = BitVec.ofNat 32 ((place p e).val + (off (pw m) (p e) - start (pw m) (p e))) := by
  rw [E_v37_1]
  refine (Cert.Plan.sort2_ap _ _ (fun a => (perm p a).val) (fun a => by have := (perm p a).isLt; omega) (pairE m p hw hp) e).trans ?_
  show _ = BitVec.ofNat 32 ((place p e).val + _)
  have hc := clusterE m p hw hp (place p e)
  rw [Cert.Plan.perm_place] at hc
  rw [E_v1, E_v34, E_c_7, E_v32, E_v33, E_v8]
  exact Cert.Plan.place_ap (pw m) _ _ (cntE m) (cnt8E m) _ (place p e) (p e) (hp e) hc _ _ _ _ _ _ _ _ _

end Cert.KernelIdeal.Hand
-- ==== Proof.Answer.lean ====
/-
  An entry of the result: for query `q`, its cluster `j` and row `col` of that cluster, the score of the cluster's row.
-/
module

public import proofs.«01_k».proof.Proof.Exit
public import proofs.«01_k».proof.Proof.Filled
public import proofs.«01_k».proof.Proof.Slots

@[expose] public section

noncomputable section

namespace Cert.KernelIdeal.Hand

open Cert.KernelIdeal Cert.KernelIdeal.Gen Cert.Score
open Idealize.ShloMosaic hiding ix1 ix2 ix3 eq_ix1
open Idealize.ShloMosaic.TcCoe
open Idealize.ShloMosaic.Routing Idealize.ShloMosaic.ValueIdx
open Cert.Plan (cnt start cnt8 off perm place)

attribute [local irreducible] atEntry

variable (m : (ℓ : Loc nD τ sig) → Buf (Elt Ideal) ℓ)
variable (p : Fin 16384 → ℕ) (hw : ∀ e, pw m e = BitVec.ofNat 32 (p e)) (hp : ∀ e, p e < 640)

/-- The pair of query `q` and its cluster number `j`. -/
def pair (q : Fin 4096) (j : Fin 4) : Fin 16384 := ⟨4 * q.val + j.val, by omega⟩

include hw in
/-- The score row a pair's place names holds the pair's scores. -/
theorem placed (e : Fin 16384) (r : Fin 21504) (hr : r.val = (place p e).val + (off (pw m) (p e) - start (pw m) (p e)))
    (col : Fin 832) (q : Fin 4096) (hq : q.val = e.val / 4) :
    outAt m 0 grid0.N (ix2 r col)
      = score (E m 0 main_arg4 (ix1 (⟨p e, hp e⟩ : Fin 640))) (fun k => E m 0 main_arg0 (ix2 q k))
          (fun k => E m 0 main_arg2 (ix3 (⟨p e, hp e⟩ : Fin 640) col k)) (E m 0 main_arg3 (ix2 (⟨p e, hp e⟩ : Fin 640) col)) col.val := by
  obtain ⟨h1, h2⟩ := Cert.Plan.place_bounds p (pw m) hw hp e
  have h3 := Cert.Plan.start_le_off (pw m) (p e)
  rw [steps, filled m 640 le_rfl ⟨p e, hp e⟩ (hp e) ((place p e).val - start (pw m) (p e)) (by show _ < cnt (pw m) (p e); omega) r
    (by show r.val = off (pw m) (p e) + _; omega) col]
  have hs : start (pw m) (p e) + ((place p e).val - start (pw m) (p e)) = (place p e).val := by omega
  show slotScore m ⟨p e, hp e⟩ (start (pw m) (p e) + ((place p e).val - start (pw m) (p e))) col = _
  rw [hs]
  unfold slotScore
  have hrow : qrow (T5 m) (place p e).val = q := Fin.ext (by rw [queryE m p hw hp (place p e), Cert.Plan.perm_place, hq])
  have hsc : E m 0 main_v41 (ix3 (⟨p e, hp e⟩ : Fin 640) (0 : Fin 1) col) = E m 0 main_arg3 (ix2 (⟨p e, hp e⟩ : Fin 640) col) := by
    rw [E_v41]
    refine shapeCast_apply (s := S640x832) (t := S640x1x832) _ _ _ _ ?_
    rw [Shape.rowMajor_val_three, Shape.rowMajor_val_two]
    show p e * 832 + col.val = (p e * 1 + 0) * 832 + col.val
    omega
  rw [hrow, hsc]

include hw in
theorem answer (c : Fin nD) (q : Fin 4096) (j : Fin 4) (col : Fin 832) :
    (endAt m c (Proc.devRef .tc main_v44) : FVec Ideal S4096x4x832 .f32) (ix3 q j col)
      = score (E m 0 main_arg4 (ix1 (⟨p (pair q j), hp _⟩ : Fin 640))) (fun k => E m 0 main_arg0 (ix2 q k))
          (fun k => E m 0 main_arg2 (ix3 (⟨p (pair q j), hp _⟩ : Fin 640) col k))
          (E m 0 main_arg3 (ix2 (⟨p (pair q j), hp _⟩ : Fin 640) col)) col.val := by
  obtain rfl : c = 0 := Subsingleton.elim _ _
  have hq := q.isLt
  have hj := j.isLt
  have hsh : (endAt m 0 (Proc.devRef .tc main_v44) : FVec Ideal S4096x4x832 .f32) (ix3 q j col)
      = Host.gather gather_S21504x832_S16384x1_S16384x832_1_0_n_n_0_1_1832 (outAt m 0 grid0.N)
          (broadcastInDim S16384x1 ![0] bcast_S16384_S16384x1_0 (E m 0 main_v37_1)) (ix2 (pair q j) col) := by
    rw [endAt_eq]
    refine shapeCast_apply (s := S16384x832) (t := S4096x4x832) _ _ _ _ ?_
    rw [Shape.rowMajor_val_three, Shape.rowMajor_val_two]
    show (4 * q.val + j.val) * 832 + col.val = (q.val * 4 + j.val) * 832 + col.val
    omega
  rw [hsh]
  obtain ⟨h1, h2⟩ := Cert.Plan.place_bounds p (pw m) hw hp (pair q j)
  have h3 := Cert.Plan.start_le_off (pw m) (p (pair q j))
  have h4 := Cert.Plan.off_le (pw m) (p (pair q j))
  have h5 := (place p (pair q j)).isLt
  have h6 := hp (pair q j)
  have hb : (place p (pair q j)).val + (off (pw m) (p (pair q j)) - start (pw m) (p (pair q j))) < 21504 := by omega
  refine (gather_row gather_S21504x832_S16384x1_S16384x832_1_0_n_n_0_1_1832 rfl rfl rfl rfl rfl (outAt m 0 grid0.N) _ (pair q j) col
    ⟨_, hb⟩ ?_ (by norm_num)).trans (placed m p hw hp (pair q j) ⟨_, hb⟩ rfl col q (by show q.val = (4 * q.val + j.val) / 4; omega))
  refine Eq.trans ?_ (rowE m p hw hp (pair q j))
  exact congrArg (E m 0 main_v37_1) (funext fun a => match a with | ⟨0, _⟩ => rfl)

end Cert.KernelIdeal.Hand
-- ==== Proof.Gathers.lean ====
/-
  The reference's three gathers, read at an index: each takes what the named cluster has in one of the arrays.
-/
module

public import proofs.«01_k».proof.Proof.Gen.ReferenceIdeal.Read
public import Idealize.ShloMosaic.Lib.ValueIdxCore
public import Idealize.ShloMosaic.Lib.StableHlo.Predicate

@[expose] public section

noncomputable section

namespace Cert.ReferenceIdeal.Hand

open Cert.ReferenceIdeal Cert.ReferenceIdeal.Gen
open Idealize.ShloMosaic Idealize.ShloMosaic.ValueIdx

/-- Along the axis the start indices address, a gather reads the place they name. -/
theorem named {s si t : Shape} (d : GatherDims s si t) (y : t.Idx) (idx : IVec si 32) (a : Fin s.rank) (z : si.Idx) (b : ℕ)
    (hb : a ∉ d.operandBatchingDims) (hk : a ∉ d.sKept) (hm : a ∈ d.startIndexMap)
    (hz : d.siIdx y ⟨d.startIndexMap.idxOf a, List.idxOf_lt_length_iff.2 hm⟩ = z) (hi : idx z = BitVec.ofNat 32 b)
    (hs : b + d.sliceSizes a ≤ s.size a) (h31 : b < 2 ^ 31) :
    d.start y idx a + d.batchCoord y a + d.offCoord y a = b := by
  rw [d.batchCoord_eq_zero _ _ hb, d.offCoord_eq_zero _ _ hk]
  simp only [Nat.add_zero]
  unfold GatherDims.start
  rw [dif_pos hm, hz, hi, StableHlo.Predicate.toInt_ofNat_small _ h31]
  show min b (s.size a - d.sliceSizes a) = b
  omega

/-- Along an axis taken whole, a gather reads at the result's own coordinate. -/
theorem whole {s si t : Shape} (d : GatherDims s si t) (y : t.Idx) (idx : IVec si 32) (a : Fin s.rank)
    (hb : a ∉ d.operandBatchingDims) (hm : a ∉ d.startIndexMap) :
    d.start y idx a + d.batchCoord y a + d.offCoord y a = d.offCoord y a := by
  rw [d.batchCoord_eq_zero _ _ hb]
  unfold GatherDims.start
  rw [dif_neg hm, Nat.add_zero, Nat.zero_add]

variable {α : Type} (idx : IVec S4096x4x1 32) (q : Fin 4096) (j : Fin 4) (b : Fin 640)
variable (hb : idx (ix3 q j (0 : Fin 1)) = BitVec.ofNat 32 b.val)

include hb

theorem sizes_gather (x : S640.Idx → α) : Host.gather gather_S640_S4096x4x1_S4096x4_n_0_n_n_0_2_1 x idx (ix2 q j) = x (ix1 b) := by
  unfold Host.gather
  refine congrArg x (funext fun a => Fin.ext ?_)
  have h := b.isLt
  match a with
  | ⟨0, _⟩ =>
    refine named gather_S640_S4096x4x1_S4096x4_n_0_n_n_0_2_1 _ idx 0 (ix3 q j (0 : Fin 1)) b.val (by decide) (by decide) (by decide) ?_ hb
      (by show b.val + 1 ≤ 640; omega) (by omega)
    funext a
    match a with
    | ⟨0, _⟩ => rfl
    | ⟨1, _⟩ => rfl
    | ⟨2, _⟩ => rfl

theorem scales_gather (x : S640x832.Idx → α) (col : Fin 832) :
    Host.gather gather_S640x832_S4096x4x1_S4096x4x832_2_0_n_n_0_2_1832 x idx (ix3 q j col) = x (ix2 b col) := by
  unfold Host.gather
  refine congrArg x (funext fun a => Fin.ext ?_)
  have h := b.isLt
  match a with
  | ⟨0, _⟩ =>
    refine named gather_S640x832_S4096x4x1_S4096x4x832_2_0_n_n_0_2_1832 _ idx 0 (ix3 q j (0 : Fin 1)) b.val (by decide) (by decide) (by decide) ?_ hb
      (by show b.val + 1 ≤ 640; omega) (by omega)
    funext a
    match a with
    | ⟨0, _⟩ => rfl
    | ⟨1, _⟩ => rfl
    | ⟨2, _⟩ => rfl
  | ⟨1, _⟩ => exact whole gather_S640x832_S4096x4x1_S4096x4x832_2_0_n_n_0_2_1832 _ idx 1 (by decide) (by decide)

theorem codes_gather (x : S640x832x256.Idx → α) (col : Fin 832) (k : Fin 256) :
    Host.gather gather_S640x832x256_S4096x4x1_S4096x4x832x256_23_0_n_n_0_2_1832256 x idx (ix4 q j col k) = x (ix3 b col k) := by
  unfold Host.gather
  refine congrArg x (funext fun a => Fin.ext ?_)
  have h := b.isLt
  match a with
  | ⟨0, _⟩ =>
    refine named gather_S640x832x256_S4096x4x1_S4096x4x832x256_23_0_n_n_0_2_1832256 _ idx 0 (ix3 q j (0 : Fin 1)) b.val (by decide) (by decide) (by decide) ?_ hb
      (by show b.val + 1 ≤ 640; omega) (by omega)
    funext a
    match a with
    | ⟨0, _⟩ => rfl
    | ⟨1, _⟩ => rfl
    | ⟨2, _⟩ => rfl
  | ⟨1, _⟩ => exact whole gather_S640x832x256_S4096x4x1_S4096x4x832x256_23_0_n_n_0_2_1832256 _ idx 1 (by decide) (by decide)
  | ⟨2, _⟩ => exact whole gather_S640x832x256_S4096x4x1_S4096x4x832x256_23_0_n_n_0_2_1832256 _ idx 2 (by decide) (by decide)

end Cert.ReferenceIdeal.Hand
-- ==== Proof.Reference.lean ====
/-
  An entry of what the reference computes: for query `q`, its cluster `j` and row `col` of that cluster, the score of the
  cluster's row.
-/
module

public import proofs.«01_k».proof.Proof.Gathers
public import proofs.«01_k».proof.Proof.Score

@[expose] public section

noncomputable section

namespace Cert.ReferenceIdeal.Hand

open Cert.ReferenceIdeal Cert.ReferenceIdeal.Gen Cert.ReferenceIdeal.Read Cert.Score
open Idealize.ShloMosaic Idealize.ShloMosaic.ValueIdx

variable (x0 : IVec S4096x256 32) (x1 : IVec S2x2048x4 32) (x2 : IVec S640x832x256 8)
variable (x3 : FVec Ideal S640x832 .f32) (x4 : IVec S640 32)

/-! ## The two halves of a query word -/

theorem even_half (q : Fin 4096) (k : Fin 256) : val_main_v2 (F := Ideal) x0 (ix2 q k) = evenOf (x0 (ix2 q k)) := by
  rw [val_main_v2_apply, val_main_v1_apply]
  have hd : (splits_S4096x256_w32_S4096x256x2_w16).drop (ix3 q k (0 : Fin 2)) = ix2 q k :=
    funext fun a => match a with | ⟨0, _⟩ => rfl | ⟨1, _⟩ => rfl
  have hi : idx_main_v1 (idx_main_v2 (ix2 q k)) = ix3 q k (0 : Fin 2) := funext fun a => Fin.ext (match a with
    | ⟨0, _⟩ => by have := q.isLt; have := k.isLt; show (q.val * 256 + k.val) / 256 = q.val; omega
    | ⟨1, _⟩ => by have := q.isLt; have := k.isLt; show (q.val * 256 + k.val) / 1 % 256 = k.val; omega
    | ⟨2, _⟩ => rfl)
  rw [hi]
  show Ideal.ofBits .bf16 ((x0 (Shape.SplitsWords.drop splits_S4096x256_w32_S4096x256x2_w16 (ix3 q k (0 : Fin 2)))).extractLsb' (0 * 16) 16) = _
  rw [hd]
  rfl

theorem odd_half (q : Fin 4096) (k : Fin 256) : val_main_v4 (F := Ideal) x0 (ix2 q k) = oddOf (x0 (ix2 q k)) := by
  rw [val_main_v4_apply, val_main_v3_apply]
  have hd : (splits_S4096x256_w32_S4096x256x2_w16).drop (ix3 q k (1 : Fin 2)) = ix2 q k :=
    funext fun a => match a with | ⟨0, _⟩ => rfl | ⟨1, _⟩ => rfl
  have hi : idx_main_v3 (idx_main_v4 (ix2 q k)) = ix3 q k (1 : Fin 2) := funext fun a => Fin.ext (match a with
    | ⟨0, _⟩ => by have := q.isLt; have := k.isLt; show (q.val * 256 + k.val) / 256 = q.val; omega
    | ⟨1, _⟩ => by have := q.isLt; have := k.isLt; show (q.val * 256 + k.val) / 1 % 256 = k.val; omega
    | ⟨2, _⟩ => rfl)
  rw [hi]
  show Ideal.ofBits .bf16 ((x0 (Shape.SplitsWords.drop splits_S4096x256_w32_S4096x256x2_w16 (ix3 q k (1 : Fin 2)))).extractLsb' (1 * 16) 16) = _
  rw [hd]
  rfl

/-! ## The named cluster -/

/-- The cluster a query's place names, counted from the end where it is negative. -/
theorem wrapped (v : BitVec 32) (b : ℕ) (hv : v = BitVec.ofNat 32 b) (h : b < 640) :
    Scalar.select (IntOp.cmpi .slt v 0#32) (IntOp.addi v 640#32) v = BitVec.ofNat 32 b := by
  subst hv
  have hn : ¬ IntOp.cmpi .slt (BitVec.ofNat 32 b) 0#32 = 1#1 := by
    rw [StableHlo.Predicate.slt_iff_toNat (by rw [BitVec.toNat_ofNat]; omega) (by decide)]
    simp
  exact if_neg hn

variable (q : Fin 4096) (j : Fin 4) (b : Fin 640)
variable (hb : val_main_v5 (F := Ideal) x1 (ix2 q j) = BitVec.ofNat 32 b.val)

include hb

theorem named11 : val_main_v11 (F := Ideal) x1 (ix3 q j (0 : Fin 1)) = BitVec.ofNat 32 b.val := by
  rw [val_main_v11_apply, val_main_v10_apply, val_main_v7_apply, val_main_v9_apply, val_main_v6_apply, val_main_v8_apply]
  exact wrapped _ _ ((congrArg (val_main_v5 (F := Ideal) x1) (funext fun a => match a with | ⟨0, _⟩ => rfl | ⟨1, _⟩ => rfl)).trans hb) b.isLt

theorem named32 : val_main_v32 (F := Ideal) x1 (ix3 q j (0 : Fin 1)) = BitVec.ofNat 32 b.val := by
  rw [val_main_v32_apply, val_main_v31_apply, val_main_v28_apply, val_main_v30_apply, val_main_v27_apply, val_main_v29_apply]
  exact wrapped _ _ ((congrArg (val_main_v5 (F := Ideal) x1) (funext fun a => match a with | ⟨0, _⟩ => rfl | ⟨1, _⟩ => rfl)).trans hb) b.isLt

theorem named42 : val_main_v42 (F := Ideal) x1 (ix3 q j (0 : Fin 1)) = BitVec.ofNat 32 b.val := by
  rw [val_main_v42_apply, val_main_v41_apply, val_main_v38_apply, val_main_v40_apply, val_main_v37_apply, val_main_v39_apply]
  exact wrapped _ _ ((congrArg (val_main_v5 (F := Ideal) x1) (funext fun a => match a with | ⟨0, _⟩ => rfl | ⟨1, _⟩ => rfl)).trans hb) b.isLt

/-! ## The named cluster's codes, scale and size -/

variable (col : Fin 832)

theorem code (k : Fin 256) : val_main_v12 (F := Ideal) x1 x2 (ix4 q j col k) = x2 (ix3 b col k) :=
  codes_gather _ q j b (named11 x1 q j b hb) x2 col k

theorem scale : val_main_v33 (F := Ideal) x1 x3 (ix3 q j col) = x3 (ix2 b col) :=
  scales_gather _ q j b (named32 x1 q j b hb) x3 col

theorem size : val_main_v46 (F := Ideal) x1 x4 (ix3 q j col) = x4 (ix1 b) := by
  rw [val_main_v46_apply, val_main_v44_apply]
  exact (congrArg (val_main_v43 (F := Ideal) x1 x4) (funext fun a => match a with | ⟨0, _⟩ => rfl | ⟨1, _⟩ => rfl)).trans
    (sizes_gather _ q j b (named42 x1 q j b hb) x4)

theorem low (k : Fin 256) : val_main_v18 (F := Ideal) x1 x2 (ix4 q j col k) = lowOf (x2 (ix3 b col k)) := by
  rw [val_main_v18_apply, val_main_v17_apply, val_main_v15_apply, val_main_v13_apply, val_main_v14_apply, val_main_v16_apply,
    code x1 x2 q j b hb]
  rfl

theorem high (k : Fin 256) : val_main_v23 (F := Ideal) x1 x2 (ix4 q j col k) = highOf (x2 (ix3 b col k)) := by
  rw [val_main_v23_apply, val_main_v22_apply, val_main_v20_apply, val_main_v13_apply, val_main_v19_apply, val_main_v21_apply,
    code x1 x2 q j b hb]
  rfl

/-! ## The score -/

theorem entry : val_main_v48 (F := Ideal) x0 x1 x2 x3 x4 (ix3 q j col)
    = score (x4 (ix1 b)) (fun k => x0 (ix2 q k)) (fun k => x2 (ix3 b col k)) (x3 (ix2 b col)) col.val := by
  rw [val_main_v48_apply, val_main_v47_apply, val_main_v34_apply, val_main_v26_apply, val_main_v24_apply, val_main_v25_apply,
    size x1 x4 q j b hb, scale x1 x3 q j b hb, val_main_v45_apply, val_main_v36_apply, val_main_v35_apply, val_main_call0_v1_apply]
  have e1 : ∀ k, val_main_v18 (F := Ideal) x1 x2 (lidx_main_v24 (ix3 q j col) k) * val_main_v2 (F := Ideal) x0 (ridx_main_v24 (ix3 q j col) k)
      = lowOf (x2 (ix3 b col k)) * evenOf (x0 (ix2 q k)) := fun k => by
    rw [← low x1 x2 q j b hb col k, ← even_half x0 q k]
    exact congrArg₂ (· * ·) (congrArg _ (funext fun a => match a with | ⟨0, _⟩ => rfl | ⟨1, _⟩ => rfl | ⟨2, _⟩ => rfl | ⟨3, _⟩ => rfl))
      (congrArg _ (funext fun a => match a with | ⟨0, _⟩ => rfl | ⟨1, _⟩ => rfl))
  have e2 : ∀ k, val_main_v23 (F := Ideal) x1 x2 (lidx_main_v25 (ix3 q j col) k) * val_main_v4 (F := Ideal) x0 (ridx_main_v25 (ix3 q j col) k)
      = highOf (x2 (ix3 b col k)) * oddOf (x0 (ix2 q k)) := fun k => by
    rw [← high x1 x2 q j b hb col k, ← odd_half x0 q k]
    exact congrArg₂ (· * ·) (congrArg _ (funext fun a => match a with | ⟨0, _⟩ => rfl | ⟨1, _⟩ => rfl | ⟨2, _⟩ => rfl | ⟨3, _⟩ => rfl))
      (congrArg _ (funext fun a => match a with | ⟨0, _⟩ => rfl | ⟨1, _⟩ => rfl))
  rw [Finset.sum_congr rfl fun k _ => e1 k, Finset.sum_congr rfl fun k _ => e2 k]
  rfl

end Cert.ReferenceIdeal.Hand
-- ==== Proof.Equation.lean ====
/-
  The equation: where every cluster a query names is one of the 640, the kernel's result is the reference's.
-/
module

public import proofs.«01_k».proof.Defs
public import proofs.«01_k».proof.Proof.Answer
public import proofs.«01_k».proof.Proof.Reference
public import proofs.«01_k».proof.Proof.Gen.Pre_pre
public import Idealize.ShloMosaic.Lib.ReduceAll

@[expose] public section

noncomputable section

namespace Cert.Proof

open Idealize.ShloMosaic hiding ix1 ix2 ix3 eq_ix1
open Idealize.ShloMosaic.TcCoe
open Idealize.ShloMosaic.ValueIdx
open Cert.KernelIdeal.Hand (pw pair endAt E)

/-- The precondition, read at one entry of `probes`: it is one of the 640 clusters. -/
theorem named_of_pre (x0 : IVec Cert.Pre_pre.S4096x256 32) (x1 : IVec Cert.Pre_pre.S2x2048x4 32) (x2 : IVec Cert.Pre_pre.S640x832x256 8)
    (x3 : FVec Ideal Cert.Pre_pre.S640x832 .f32) (x4 : IVec Cert.Pre_pre.S640 32)
    (h : Cert.Pre_pre.fn (F := Ideal) x0 x1 x2 x3 x4 = fun _ => 1#1) (i : Cert.Pre_pre.S2x2048x4.Idx) : (x1 i).toNat < 640 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 640#32) = 1#1 → v.toNat < 640 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  haveI : Subsingleton Cert.Pre_pre.S_.Idx := ⟨fun a b => funext fun k => k.elim0⟩
  have e := congrFun h (fun a => a.elim0)
  dsimp only [Cert.Pre_pre.fn] at e
  exact key _ (Host.reduce_andi_all _ _ _ _ _ e i)

variable (m : (ℓ : Loc Cert.KernelIdeal.nD Cert.KernelIdeal.τ Cert.KernelIdeal.sig) → Buf (Elt Ideal) ℓ)

/-- The word of pair `4 q + j` is the reference's word for query `q`'s cluster `j`. -/
theorem word_eq (q : Fin 4096) (j : Fin 4) :
    pw m (pair q j) = Cert.ReferenceIdeal.Read.val_main_v5 (F := Ideal) (E m 0 Cert.KernelIdeal.main_arg1) (ix2 q j) := by
  unfold pw
  rw [Cert.KernelIdeal.Hand.E_v0, Cert.ReferenceIdeal.Read.val_main_v5_apply]
  refine shapeCast_apply (s := Cert.KernelIdeal.S2x2048x4) (t := Cert.KernelIdeal.S16384) _ _ _ _ ?_
  rw [Shape.rowMajor_val_three, Shape.rowMajor_val_one]
  have hq := q.isLt
  have hj := j.isLt
  show ((q.val * 4 + j.val) / 8192 * 2048 + (q.val * 4 + j.val) / 4 % 2048) * 4 + (q.val * 4 + j.val) % 4 = 4 * q.val + j.val
  omega

/-- Every pair names one of the 640 clusters. -/
theorem word_lt (h : Cert.Pre_KernelIdeal_pre m) (e : Fin 16384) : (pw m e).toNat < 640 := by
  have hi : ∀ i, ((m ((0 : Dev Cert.KernelIdeal.nD).tc.loc Cert.KernelIdeal.main_arg1) : IVec Cert.KernelIdeal.S2x2048x4 32) i).toNat < 640 :=
    named_of_pre _ _ _ _ _ (h 0)
  obtain ⟨q, j, rfl⟩ : ∃ q j, e = pair q j := ⟨⟨e.val / 4, by omega⟩, ⟨e.val % 4, by omega⟩, Fin.ext (by show e.val = 4 * (e.val / 4) + e.val % 4; omega)⟩
  rw [word_eq, Cert.ReferenceIdeal.Read.val_main_v5_apply, Cert.KernelIdeal.Hand.E_arg m 0 Cert.KernelIdeal.main_arg1 (by decide)]
  exact hi _

/-- The result array is the reference's term of the arguments. -/
theorem result_eq (h : Cert.Pre_KernelIdeal_pre m) (c : Dev Cert.KernelIdeal.nD) :
    (endAt m c (Proc.devRef .tc Cert.KernelIdeal.main_v44) : FVec Ideal Cert.KernelIdeal.S4096x4x832 .f32)
      = Cert.ReferenceIdeal.Read.val_main_v48 (F := Ideal) (m (c.tc.loc Cert.KernelIdeal.main_arg0)) (m (c.tc.loc Cert.KernelIdeal.main_arg1))
          (m (c.tc.loc Cert.KernelIdeal.main_arg2)) (m (c.tc.loc Cert.KernelIdeal.main_arg3)) (m (c.tc.loc Cert.KernelIdeal.main_arg4)) := by
  obtain rfl : c = 0 := Subsingleton.elim _ _
  rw [← Cert.KernelIdeal.Hand.E_arg m 0 Cert.KernelIdeal.main_arg0 (by decide), ← Cert.KernelIdeal.Hand.E_arg m 0 Cert.KernelIdeal.main_arg1 (by decide),
    ← Cert.KernelIdeal.Hand.E_arg m 0 Cert.KernelIdeal.main_arg2 (by decide), ← Cert.KernelIdeal.Hand.E_arg m 0 Cert.KernelIdeal.main_arg3 (by decide),
    ← Cert.KernelIdeal.Hand.E_arg m 0 Cert.KernelIdeal.main_arg4 (by decide)]
  have hw : ∀ e, pw m e = BitVec.ofNat 32 (pw m e).toNat := fun e => by simp
  have hp := word_lt m h
  funext i
  obtain ⟨q, j, col, rfl⟩ : ∃ q j col, i = ix3 q j col := ⟨i 0, i 1, i 2, funext fun a => match a with | ⟨0, _⟩ => rfl | ⟨1, _⟩ => rfl | ⟨2, _⟩ => rfl⟩
  refine (Cert.KernelIdeal.Hand.answer m (fun e => (pw m e).toNat) hw hp 0 q j col).trans ?_
  exact (Cert.ReferenceIdeal.Hand.entry _ _ _ _ _ q j ⟨(pw m (pair q j)).toNat, hp _⟩ ((word_eq m q j).symm.trans (hw _)) col).symm

end Cert.Proof
-- ==== Proof.Merge.lean ====
module

public import Mathlib.Data.EReal.Basic
public import Mathlib.Data.List.Sort

/-!
# Merging descending lists with comparators

The network the merge call runs, written over any pair of operations, and the fact that on descending
lists of twenty values it leaves the twenty largest: the bits "at least `t`" of a descending list are a
run of ones and then zeros, the network commutes with taking those bits, and on such runs its result is
checked for every pair of lengths.
-/

@[expose] public section

namespace Cert.Merge

/-- The entries at even places. -/
def evens {α : Type} : List α → List α
  | [] => []
  | [a] => [a]
  | a :: _ :: l => a :: evens l

/-- The entries at odd places. -/
def odds {α : Type} : List α → List α
  | [] => []
  | [_] => []
  | _ :: b :: l => b :: odds l

/-- Compare two lists entry by entry, the larger first, and append what one of them has left over. -/
def weave {α : Type} (mx mn : α → α → α) : List α → List α → List α
  | [], o => o
  | e, [] => e
  | a :: e, b :: o => mx a b :: mn a b :: weave mx mn e o

/-- Merge two descending lists and keep the first `k`: the even and the odd places apart, then one row of
    comparators. `n` bounds the depth of the recursion. -/
def merge {α : Type} (mx mn : α → α → α) (k : Nat) : Nat → List α → List α → List α
  | 0, _, _ => []
  | n + 1, a, b =>
    match a.take k, b.take k with
    | [], b => b
    | a, [] => a
    | [a], [b] => [mx a b, mn a b].take k
    | a, b =>
      match merge mx mn k n (evens a) (evens b) with
      | [] => []
      | e :: ev => (e :: weave mx mn ev (merge mx mn k n (odds a) (odds b))).take k

/-- The merge of four lists of twenty, two and two and then the two results. -/
def merge4 {α : Type} (mx mn : α → α → α) (a b c d : List α) : List α :=
  merge mx mn 20 6 (merge mx mn 20 6 a b) (merge mx mn 20 6 c d)

section Map

variable {α β : Type} (h : α → β) (mx mn : α → α → α) (mx' mn' : β → β → β)

theorem map_evens : ∀ l : List α, (evens l).map h = evens (l.map h)
  | [] => rfl
  | [_] => rfl
  | _ :: _ :: l => by simp [evens, map_evens l]

theorem map_odds : ∀ l : List α, (odds l).map h = odds (l.map h)
  | [] => rfl
  | [_] => rfl
  | _ :: _ :: l => by simp [odds, map_odds l]

variable (hx : ∀ a b, h (mx a b) = mx' (h a) (h b)) (hn : ∀ a b, h (mn a b) = mn' (h a) (h b))
include hx hn

theorem map_weave : ∀ e o : List α, (weave mx mn e o).map h = weave mx' mn' (e.map h) (o.map h)
  | [], o => by simp [weave]
  | a :: e, [] => by simp [weave]
  | a :: e, b :: o => by simp [weave, hx, hn, map_weave e o]

/-- A map that carries the comparators over carries the network over. -/
theorem map_merge (k : Nat) : ∀ (n : Nat) (a b : List α),
    (merge mx mn k n a b).map h = merge mx' mn' k n (a.map h) (b.map h)
  | 0, _, _ => rfl
  | n + 1, a, b => by
    have ih := map_merge k n
    unfold merge
    rw [← List.map_take, ← List.map_take]
    generalize a.take k = a
    generalize b.take k = b
    have step : ∀ a b : List α,
        (match merge mx mn k n (evens a) (evens b) with
          | [] => []
          | e :: ev => (e :: weave mx mn ev (merge mx mn k n (odds a) (odds b))).take k).map h
        = (match merge mx' mn' k n (evens (a.map h)) (evens (b.map h)) with
          | [] => []
          | e :: ev => (e :: weave mx' mn' ev (merge mx' mn' k n (odds (a.map h)) (odds (b.map h)))).take k) := by
      intro a b
      rw [← map_evens, ← map_evens, ← map_odds, ← map_odds, ← ih, ← ih]
      cases merge mx mn k n (evens a) (evens b) with
      | nil => rfl
      | cons e ev => simp [List.map_take, map_weave h mx mn mx' mn' hx hn]
    match a, b with
    | [], b => rfl
    | [x], [] => rfl
    | x :: y :: a, [] => rfl
    | [x], [y] => simp [List.map_take, hx, hn]
    | x :: y :: a, [z] => exact step (x :: y :: a) [z]
    | x :: y :: a, z :: w :: b => exact step (x :: y :: a) (z :: w :: b)
    | [x], z :: w :: b => exact step [x] (z :: w :: b)

end Map

/-- `i` ones and then zeros, twenty in all. -/
def run (i : Nat) : List Bool := List.replicate i true ++ List.replicate (20 - i) false

/-- Two runs merge into the run of their ones, cut at twenty. -/
theorem merge_run : ∀ i < 21, ∀ j < 21, merge or and 20 6 (run i) (run j) = run (min 20 (i + j)) := by
  decide +kernel

/-- The bits "at least `t`" of a list. -/
noncomputable def bits (t : EReal) (l : List EReal) : List Bool := l.map fun x => decide (t ≤ x)

/-- How many entries are at least `t`. -/
noncomputable def reach (t : EReal) (l : List EReal) : Nat := l.countP fun x => decide (t ≤ x)

/-- The bits of a descending list are ones and then zeros. -/
theorem bits_of_pairwise (t : EReal) : ∀ l : List EReal, l.Pairwise (· ≥ ·) →
    bits t l = List.replicate (reach t l) true ++ List.replicate (l.length - reach t l) false
  | [], _ => rfl
  | x :: l, hp => by
    have ⟨hx, hl⟩ := List.pairwise_cons.1 hp
    have ih := bits_of_pairwise t l hl
    by_cases hc : t ≤ x
    · have h1 : reach t (x :: l) = reach t l + 1 := by simp [reach, hc]
      have h2 : bits t (x :: l) = true :: bits t l := by simp [bits, hc]
      rw [h2, ih, h1]
      simp [List.replicate_succ]
    · have h0 : ∀ y ∈ l, ¬ t ≤ y := fun y hy hty => hc (hty.trans (hx y hy))
      have h1 : reach t (x :: l) = 0 := by
        unfold reach
        rw [List.countP_eq_zero]
        intro y hy
        rcases List.mem_cons.1 hy with rfl | hy
        · simpa using hc
        · simpa using h0 y hy
      rw [h1]
      have : bits t (x :: l) = List.replicate (x :: l).length false := by
        unfold bits
        rw [List.eq_replicate_iff]
        refine ⟨by simp, fun b hb => ?_⟩
        obtain ⟨y, hy, rfl⟩ := List.mem_map.1 hb
        rcases List.mem_cons.1 hy with rfl | hy
        · simpa using hc
        · simpa using h0 y hy
      rw [this]; simp

theorem bits_merge (t : EReal) (k n : Nat) (a b : List EReal) :
    bits t (merge max min k n a b) = merge or and k n (bits t a) (bits t b) :=
  map_merge _ _ _ _ _ (fun a b => by simp [le_max_iff]) (fun a b => by simp [le_min_iff]) k n a b

/-- Two lists with the same bits at every `t` are equal. -/
theorem eq_of_bits {l l' : List EReal} (h : ∀ t, bits t l = bits t l') : l = l' := by
  have hlen : l.length = l'.length := by simpa [bits] using congrArg List.length (h 0)
  refine List.ext_getElem hlen fun i h1 h2 => ?_
  have key : ∀ t, t ≤ l[i] ↔ t ≤ l'[i] := fun t => by
    have := congrArg (fun b : List Bool => b[i]?) (h t)
    simpa [bits, h1, h2] using this
  exact le_antisymm ((key _).1 le_rfl) ((key _).2 le_rfl)

theorem bits_run {t : EReal} {l : List EReal} (hl : l.length = 20) (hp : l.Pairwise (· ≥ ·)) :
    bits t l = run (reach t l) := by
  rw [bits_of_pairwise t l hp, hl]; rfl

/-- The network leaves the twenty largest of the four descending lists. -/
theorem merge4_eq (a b c d s : List EReal) (ha : a.length = 20) (hb : b.length = 20) (hc : c.length = 20)
    (hd : d.length = 20) (pa : a.Pairwise (· ≥ ·)) (pb : b.Pairwise (· ≥ ·)) (pc : c.Pairwise (· ≥ ·))
    (pd : d.Pairwise (· ≥ ·)) (ps : s.Pairwise (· ≥ ·)) (hs : s.Perm (a ++ b ++ c ++ d)) :
    merge4 max min a b c d = s.take 20 := by
  refine eq_of_bits fun t => ?_
  have le : ∀ l : List EReal, l.length = 20 → reach t l < 21 := fun l hl =>
    Nat.lt_succ_of_le (hl ▸ List.countP_le_length)
  have hcount : reach t s = reach t a + reach t b + reach t c + reach t d := by
    unfold reach; rw [hs.countP_eq]; simp [List.countP_append, Nat.add_assoc]
  have hslen : s.length = 80 := by rw [hs.length_eq]; simp [ha, hb, hc, hd]
  unfold merge4
  rw [bits_merge, bits_merge, bits_merge, bits_run ha pa, bits_run hb pb, bits_run hc pc, bits_run hd pd,
    merge_run _ (le a ha) _ (le b hb), merge_run _ (le c hc) _ (le d hd),
    merge_run _ (by omega) _ (by omega)]
  have hs' : bits t (s.take 20) = (bits t s).take 20 := by simp [bits, List.map_take]
  rw [hs', bits_of_pairwise t s ps, hslen, hcount]
  have := le a ha; have := le b hb; have := le c hc; have := le d hd
  have e : min 20 (min 20 (reach t a + reach t b) + min 20 (reach t c + reach t d))
      = min 20 (reach t a + reach t b + reach t c + reach t d) := by omega
  rw [e]
  unfold run
  rw [List.take_append, List.take_replicate, List.take_replicate, List.length_replicate]
  congr 1 <;> congr 1 <;> omega

end Cert.Merge
-- ==== Proof.MergeBody.lean ====
module

public import proofs.«01_k».proof.Proof.Merge
public import proofs.«01_k».proof.Proof.Gen.MergedIdeal.Frame

/-!
# What one grid step of the merge call stores

The step loads the twenty entries of its four lists as 8 × 128 tiles and stores twenty tiles. They are
the network of `Merge`, run on tiles.
-/

@[expose] public section

noncomputable section

namespace Cert.MergedIdeal.Gen

open Idealize.ShloMosaic Cert.MergedIdeal.Facts₀

variable {F : FTy → Type} [FloatOps F]

theorem inb_entry (p : Fin 4) (i : Fin 20) :
    ∀ a, (![p.val, i.val, 0, 0] : Fin 4 → Nat) a + S1x1x8x128.size a ≤ S4x20x8x128.size a := by
  intro a
  fin_cases a
  · exact p.isLt
  · exact i.isLt
  · exact Nat.le_refl 8
  · exact Nat.le_refl 128

theorem inb_tile (j : Fin 20) :
    ∀ a, (![j.val, 0, 0] : Fin 3 → Nat) a + S1x8x128.size a ≤ S20x8x128.size a := by
  intro a
  fin_cases a
  · exact j.isLt
  · exact Nat.le_refl 8
  · exact Nat.le_refl 128

/-- Entry `i` of list `p`, one tile. -/
def entry (x0 : Vec F S4x20x8x128 .f32) (p : Fin 4) (i : Fin 20) : FVec F S8x128 .f32 :=
  shapeCast S8x128 (View.ld x0 (Rect.unit (s := S4x20x8x128) ![p.val, i.val, 0, 0] S1x1x8x128.size (inb_entry p i)))
    shapeCasts_S1x1x8x128_S8x128

/-- The tiles of list `p`. -/
def entries (x0 : Vec F S4x20x8x128 .f32) (p : Fin 4) : List (FVec F S8x128 .f32) :=
  (List.finRange 20).map (entry x0 p)

/-- The network on the tiles of the four lists. -/
def network (x0 : Vec F S4x20x8x128 .f32) : List (FVec F S8x128 .f32) :=
  Merge.merge4 maximumf minimumf (entries x0 0) (entries x0 1) (entries x0 2) (entries x0 3)

/-- The store of tile `j`. -/
def piece (x0 : Vec F S4x20x8x128 .f32) (j : Fin 20) : View.Piece (Elt F) S20x8x128 .f32 :=
  ⟨Rect.unit (s := S20x8x128) ![j.val, 0, 0] S1x8x128.size (inb_tile j),
    shapeCast S1x8x128 ((network x0).getD j.val (entry x0 0 0)) shapeCasts_S8x128_S1x8x128⟩

end Cert.MergedIdeal.Gen
-- ==== Proof.MergeStores.lean ====
module

public import proofs.«01_k».proof.Proof.MergeBody

/-!
# The stores of a grid step of the merge call are the network's tiles
-/

@[expose] public section

noncomputable section

namespace Cert.MergedIdeal.Gen

open Idealize.ShloMosaic Cert.MergedIdeal.Facts₀

variable {F : FTy → Type} [FloatOps F]

/-- The twenty places, written out. -/
theorem places : List.finRange 20 = [0, 1, 2, 3, 4, 5, 6, 7, 8, 9, 10, 11, 12, 13, 14, 15, 16, 17, 18, 19] := rfl

set_option maxRecDepth 65536 in
set_option maxHeartbeats 20000000 in
/-- The stores of the step, as stated by its frame, are the network's tiles, the last store first. -/
theorem out_network (x0 : Vec F S4x20x8x128 .f32) :
    out0_1 x0 = View.canon ((List.finRange 20).reverse.map (piece x0)) := by
  rw [places]
  simp only [List.reverse_cons, List.reverse_nil, List.nil_append, List.cons_append, List.map, piece]
  simp only [network, Merge.merge4, entries, places, List.map, Merge.merge, Merge.evens, Merge.odds, Merge.weave,
    List.take_succ_cons, List.take_nil, List.take_zero]
  rfl

end Cert.MergedIdeal.Gen
-- ==== Proof.MergeTile.lean ====
module

public import proofs.«01_k».proof.Proof.MergeBody
public import Idealize.ShloMosaic.Lib.ValueLayout
public import Idealize.ShloMosaic.PureOps.Ideal
public import Idealize.ShloMosaic.Lib.Pipeline.ValueKit

/-!
# One entry of the tiles a grid step of the merge call stores

At one row and lane the network on tiles is the network on the four lists of that query.
-/

@[expose] public section

noncomputable section

namespace Cert.MergedIdeal.Gen

open Idealize.ShloMosaic hiding ix2 ix3 ix4
open Idealize.ShloMosaic.ValueIdx Cert.MergedIdeal.Facts₀

/-- An index of a tile stack whose first coordinate is `j` lies under the store of tile `j`. -/
theorem canon_pieces {F : FTy → Type} [FloatOps F] (x0 : Vec F S4x20x8x128 .f32) (j : Fin 20) (s : Fin 8) (l : Fin 128) :
    ∀ L : List (Fin 20), j ∈ L →
      View.canon (L.map (piece x0)) (ix3 j s l) = (network x0).getD j.val (entry x0 0 0) (ix2 s l)
  | [], h => absurd h (by simp)
  | k :: L, h => by
    rw [List.map_cons]
    by_cases hk : k = j
    · subst hk
      have hy : (ix3 k s l : S20x8x128.Idx)
          = (Rect.unit (s := S20x8x128) ![k.val, 0, 0] S1x8x128.size (inb_tile k)).emb (ix3 (0 : Fin 1) s l) := by
        funext a
        refine Fin.ext ?_
        rw [ValueKit.rect_emb_unit_val]
        match a with
        | ⟨0, _⟩ => rfl
        | ⟨1, _⟩ => exact (Nat.zero_add _).symm
        | ⟨2, _⟩ => exact (Nat.zero_add _).symm
      rw [hy]
      refine (View.canon_cons_emb _ _ _ _).trans ?_
      exact shapeCast_ab_1ab_apply _ _ _ _ _
    · refine (View.canon_cons_of_not_mem _ _ ?_).trans
        (canon_pieces x0 j s l L ((List.mem_cons.1 h).resolve_left fun e => hk e.symm))
      refine Rect.not_mem_set_of_axis (piece x0 k).1 (ix3 j s l) (0 : Fin 3) k.val 1 rfl rfl rfl ?_
      have : k.val ≠ j.val := fun e => hk (Fin.ext e)
      show j.val < k.val ∨ k.val + 1 ≤ j.val
      omega

/-- An entry of a list's tile is the block's. -/
theorem entry_apply {F : FTy → Type} [FloatOps F] (x0 : Vec F S4x20x8x128 .f32) (p : Fin 4) (i : Fin 20) (s : Fin 8) (l : Fin 128) :
    entry x0 p i (ix2 s l) = x0 (ix4 p i s l) := by
  unfold entry
  rw [shapeCast_apply _ _ _ (ix4 (0 : Fin 1) (0 : Fin 1) s l) (by
    rw [Shape.rowMajor_val_four, Shape.rowMajor_val_two]
    show ((0 * 1 + 0) * 8 + s.val) * 128 + l.val = s.val * 128 + l.val
    omega)]
  rw [View.ld_apply]
  congr 1
  funext a
  refine Fin.ext ?_
  match a with
  | ⟨0, _⟩ => rfl
  | ⟨1, _⟩ => rfl
  | ⟨2, _⟩ => show 0 + 1 * s.val = s.val; omega
  | ⟨3, _⟩ => show 0 + 1 * l.val = l.val; omega

/-- The values of list `p` of the block at row `s`, lane `l`. -/
def values (x0 : Vec Ideal S4x20x8x128 .f32) (p : Fin 4) (s : Fin 8) (l : Fin 128) : List EReal :=
  (List.finRange 20).map fun i => x0 (ix4 p i s l)

theorem network_apply (x0 : Vec Ideal S4x20x8x128 .f32) (s : Fin 8) (l : Fin 128) :
    (network x0).map (fun v => (v (ix2 s l) : EReal))
      = Merge.merge4 max min (values x0 0 s l) (values x0 1 s l) (values x0 2 s l) (values x0 3 s l) := by
  have hm := Merge.map_merge (fun v : FVec Ideal S8x128 .f32 => (v (ix2 s l) : EReal)) maximumf minimumf max min
    (fun _ _ => rfl) (fun _ _ => rfl) 20 6
  have hv : ∀ p, (entries x0 p).map (fun v => (v (ix2 s l) : EReal)) = values x0 p s l := fun p => by
    unfold entries values
    rw [List.map_map]
    exact List.map_congr_left fun i _ => entry_apply x0 p i s l
  unfold network Merge.merge4
  rw [hm, hm, hm, hv, hv, hv, hv]

end Cert.MergedIdeal.Gen
-- ==== Proof.MergeTop.lean ====
module

public import proofs.«01_k».proof.Proof.Merge
public import proofs.«01_k».proof.Proof.Gen.MergedReferenceIdeal.Read
public import Idealize.ShloMosaic.Lib.SortFacts
public import Idealize.ShloMosaic.Lib.ValueLayout
public import Idealize.ShloMosaic.PureOps.Ideal

/-!
# The largest twenty of eighty, as the reference of the merge call takes them

The reference sorts the eighty candidates of a query, greatest first, and keeps twenty. On four descending
lists that is what the network of `Merge` leaves.
-/

@[expose] public section

noncomputable section

namespace Cert.Merge

open Idealize.ShloMosaic Idealize.ShloMosaic.ValueIdx

/-- The order the sort asks for: the first is greater. -/
def greater (f : Fin 80 → EReal) (a b : Fin 80) : Bool := decide (f b < f a)

/-- The candidates, greatest first. -/
def sorted (f : Fin 80 → EReal) : List EReal := (sortPositions 80 (greater f)).map f

theorem sorted_perm (f : Fin 80 → EReal) : (sorted f).Perm ((List.finRange 80).map f) :=
  (perm_sortPositions 80 _).map f

theorem sorted_pairwise (f : Fin 80 → EReal) : (sorted f).Pairwise (· ≥ ·) := by
  unfold sorted
  rw [List.pairwise_map]
  have hp : (sortPositions 80 (greater f)).Pairwise fun b c => greater f c b = false :=
    pairwise_stableSort (greater f) (greater f)
      (fun a b h => by simp only [greater, decide_eq_true_eq, decide_eq_false_iff_not] at h ⊢; exact not_lt.2 h.le)
      (fun _ _ h => h)
      (fun a b c h₁ h₂ => by
        simp only [greater, decide_eq_false_iff_not, not_lt] at h₁ h₂ ⊢; exact h₁.trans h₂)
      (List.finRange 80)
  exact hp.imp fun {b c} h => by simpa [greater] using h

/-- Candidate `20 p + i` is entry `i` of list `p`. -/
def place (p : Fin 4) (i : Fin 20) : Fin 80 := ⟨20 * p.val + i.val, by omega⟩

theorem finRange_split : List.finRange 80 = (List.finRange 20).map (place 0) ++ (List.finRange 20).map (place 1)
    ++ (List.finRange 20).map (place 2) ++ (List.finRange 20).map (place 3) := by
  decide +kernel

/-- A list given by its entries, each at least the next, descends. -/
theorem pairwise_of_steps (g : Fin 20 → EReal) (h : ∀ i : Fin 19, g i.succ ≤ g i.castSucc) :
    ((List.finRange 20).map g).Pairwise (· ≥ ·) := by
  have anti : Antitone g := Fin.antitone_iff_succ_le.2 h
  rw [List.pairwise_map]
  exact (List.pairwise_lt_finRange 20).imp fun {a b} hab => anti hab.le

/-- The network on four descending lists leaves the first twenty of the sorted candidates. -/
theorem merge4_sorted (f : Fin 80 → EReal) (h : ∀ (p : Fin 4) (i : Fin 19), f (place p i.succ) ≤ f (place p i.castSucc)) :
    merge4 max min ((List.finRange 20).map fun i => f (place 0 i)) ((List.finRange 20).map fun i => f (place 1 i))
        ((List.finRange 20).map fun i => f (place 2 i)) ((List.finRange 20).map fun i => f (place 3 i))
      = (sorted f).take 20 := by
  refine merge4_eq _ _ _ _ _ (by simp) (by simp) (by simp) (by simp) (pairwise_of_steps _ (h 0)) (pairwise_of_steps _ (h 1))
    (pairwise_of_steps _ (h 2)) (pairwise_of_steps _ (h 3)) (sorted_pairwise f) ?_
  refine (sorted_perm f).trans (List.Perm.of_eq ?_)
  rw [finRange_split]
  simp [Function.comp_def]

end Cert.Merge

namespace Cert.MergedReferenceIdeal.Read

open Idealize.ShloMosaic Idealize.ShloMosaic.ValueIdx Cert.Merge

/-- The candidates of query `q`. -/
def candidates (x0 : (⟨S4096x4x20, .f32⟩ : BufTy).Contents (Elt Ideal)) (q : Fin 4096) (k : Fin 80) : EReal :=
  val_main_v1 (F := Ideal) x0 (ix2 q k)

/-- A candidate is an entry of one of the query's four lists. -/
theorem candidates_place (x0 : (⟨S4096x4x20, .f32⟩ : BufTy).Contents (Elt Ideal)) (q : Fin 4096) (p : Fin 4)
    (i : Fin 20) : candidates x0 q (place p i) = x0 (ix3 q p i) := by
  unfold candidates
  rw [val_main_v1_apply]
  congr 1
  funext a
  have hq := q.isLt; have hp := p.isLt; have hi := i.isLt
  match a with
  | ⟨0, _⟩ => exact Fin.ext (by show (q.val * 80 + (20 * p.val + i.val)) / 80 = q.val; omega)
  | ⟨1, _⟩ => exact Fin.ext (by show (q.val * 80 + (20 * p.val + i.val)) / 20 % 4 = p.val; omega)
  | ⟨2, _⟩ => exact Fin.ext (by show (q.val * 80 + (20 * p.val + i.val)) % 20 = i.val; omega)

theorem along_last (i : S4096x80.Idx) (hd : 1 < S4096x80.rank) (k : Fin (S4096x80.size ⟨1, hd⟩)) :
    i.along ⟨1, hd⟩ k = ix2 (i 0) k := by
  funext a
  match a with
  | ⟨0, _⟩ => rfl
  | ⟨1, _⟩ => rfl

/-- The greatest twenty along the last axis, read at one place: the source of that place in the sort of its row. -/
theorem topK_apply {α : Type} (gt : α → α → BitVec 1) (y : S4096x80.Idx → α)
    (h : S4096x80.Slices (fun _ => 0) S4096x20) (q : Fin 4096) (j : Fin 20) :
    (Host.topK S4096x20 1 gt y h).1 (ix2 q j)
      = y (ix2 q (sortedFrom (fun k k' => gt (y (ix2 q k)) (y (ix2 q k')) == 1#1) ⟨j.val, by omega⟩)) := by
  have hd : 1 < S4096x80.rank := by decide
  have e : ∀ i : S4096x80.Idx, i = ix2 q ⟨j.val, by omega⟩ → (Host.sort2 S4096x80 1 (fun l r => gt l.1 r.1) y
      (fun i => if hd : 1 < S4096x80.rank then iotaInDim S4096x80 32 ⟨1, hd⟩ i else 0#32)).1 i
      = y (ix2 q (sortedFrom (fun k k' => gt (y (ix2 q k)) (y (ix2 q k')) == 1#1) ⟨j.val, by omega⟩)) := by
    rintro i rfl
    unfold Host.sort2
    rw [dif_pos hd]
    simp only [along_last]
    rfl
  unfold Host.topK
  refine (extractStridedSlice_apply _ _ h _ _ ?_).trans (e (ix2 q ⟨j.val, by omega⟩) rfl)
  intro a
  match a with
  | ⟨0, _⟩ => exact (Nat.zero_add _).symm
  | ⟨1, _⟩ => exact (Nat.zero_add _).symm

/-- The sort's comparison is the order of the extended reals. -/
theorem total_gt (u v : EReal) : (FloatOps.cmpfTotal (F := Ideal) (φ := .f32) .gt u v == 1#1) = decide (v < u) := by
  have h : FloatOps.cmpfTotal (F := Ideal) (φ := .f32) .gt u v = BitVec.ofBool (decide (v < u)) := rfl
  rw [h]
  generalize decide (v < u) = b
  cases b <;> rfl

/-- The reference's twenty largest of a query: place `j` of the sorted candidates. -/
theorem result_sorted (x0 : (⟨S4096x4x20, .f32⟩ : BufTy).Contents (Elt Ideal)) (q : Fin 4096) (j : Fin 20) :
    some (val_main_values (F := Ideal) x0 (ix2 q j)) = (sorted (candidates x0 q))[j.val]? := by
  have hb : (fun k k' : Fin 80 => (FloatOps.cmpfTotal (F := Ideal) (φ := .f32) .gt (candidates x0 q k) (candidates x0 q k')) == 1#1)
      = greater (candidates x0 q) := by
    funext k k'
    exact total_gt _ _
  have hv : val_main_values (F := Ideal) x0 (ix2 q j)
      = candidates x0 q (sortedFrom (greater (candidates x0 q)) ⟨j.val, by omega⟩) := by
    rw [← hb]
    unfold val_main_values candidates
    generalize val_main_v1 (F := Ideal) x0 = y
    exact topK_apply _ y _ q j
  rw [hv]
  unfold sorted sortedFrom
  rw [List.getElem?_map, List.getElem?_eq_getElem (by rw [length_sortPositions]; omega)]
  rfl

end Cert.MergedReferenceIdeal.Read
-- ==== Proof.MergeValue.lean ====
module

public import proofs.«01_k».proof.Proof.MergeStores
public import proofs.«01_k».proof.Proof.MergeTile
public import proofs.«01_k».proof.Proof.MergeTop
public import proofs.«01_k».proof.Proof.Gen.MergedIdeal.Frame
public import proofs.«01_k».proof.Proof.Gen.Pre_sorted_lists
public import proofs.«01_k».proof.Defs
public import Idealize.ShloMosaic.Lib.ReduceAll

/-!
# The result of the merge call is its reference's

Each grid step merges the lists of eight rows of queries. On descending lists the network leaves the
twenty largest of the eighty candidates in order, and the reference takes those by sorting.
-/

@[expose] public section

noncomputable section

namespace Cert.MergedIdeal.Gen

open Idealize.ShloMosaic hiding ix2 ix3 ix4
open Idealize.ShloMosaic.TcCoe Idealize.ShloMosaic.ValueIdx Cert.MergedIdeal.Facts₀
open Idealize.SL Idealize.SL.Sem
open Idealize.ShloMosaic.Pipeline (Dat Cfg Window)

/-- The precondition, read at one entry of a list: it is at least the next. -/
theorem descends (a : FVec Ideal Cert.Pre_sorted_lists.S4096x4x20 .f32)
    (h : Cert.Pre_sorted_lists.fn (F := Ideal) a = fun _ => 1#1) (q : Fin 4096) (p : Fin 4) (i : Fin 19) :
    (a (ix3 q p i.succ) : EReal) ≤ a (ix3 q p i.castSucc) := by
  have key : ∀ u v : EReal, Ideal.cmp .oge u v = 1#1 → v ≤ u := by
    intro u v e
    by_contra hn
    have : Ideal.cmp .oge u v = BitVec.ofBool (decide (v ≤ u)) := rfl
    rw [this, decide_eq_false hn] at e
    exact absurd e (by decide)
  haveI : Subsingleton Cert.Pre_sorted_lists.S_.Idx := ⟨fun a b => funext fun k => k.elim0⟩
  have e := congrFun h (fun a => a.elim0)
  dsimp only [Cert.Pre_sorted_lists.fn] at e
  have e' := key _ _ (Host.reduce_andi_all _ _ _ _ _ e (ix3 q p i))
  rw [extractStridedSlice_apply _ _ _ _ (ix3 q p i.succ), extractStridedSlice_apply _ _ _ _ (ix3 q p i.castSucc)] at e'
  · exact e'
  · intro k
    match k with
    | ⟨0, _⟩ => exact (Nat.zero_add _).symm
    | ⟨1, _⟩ => exact (Nat.zero_add _).symm
    | ⟨2, _⟩ => exact (Nat.zero_add _).symm
  · intro k
    match k with
    | ⟨0, _⟩ => exact (Nat.zero_add _).symm
    | ⟨1, _⟩ => exact (Nat.zero_add _).symm
    | ⟨2, _⟩ => exact Nat.add_comm i.val 1

/-- What a grid step stores at tile `j`, row `s`, lane `l`, when the four lists there are those of the
    candidates `f` and each descends: place `j` of the sorted candidates. -/
theorem out_sorted (x0 : Vec Ideal S4x20x8x128 .f32) (f : Fin 80 → EReal) (j : Fin 20) (s : Fin 8) (l : Fin 128)
    (hx : ∀ p i, x0 (ix4 p i s l) = f (Merge.place p i))
    (hf : ∀ (p : Fin 4) (i : Fin 19), f (Merge.place p i.succ) ≤ f (Merge.place p i.castSucc)) :
    some (out0_1 x0 (ix3 j s l) : EReal) = (Merge.sorted f)[j.val]? := by
  have hm := network_apply x0 s l
  have hv : ∀ p, values x0 p s l = (List.finRange 20).map fun i => f (Merge.place p i) := fun p =>
    List.map_congr_left fun i _ => hx p i
  rw [hv, hv, hv, hv, Merge.merge4_sorted f hf] at hm
  have hlen : (Merge.sorted f).length = 80 := by rw [(Merge.sorted_perm f).length_eq]; simp
  have hnet : (network x0).length = 20 := by
    have := congrArg List.length hm
    rw [List.length_map, List.length_take, hlen] at this
    exact this
  have hj := congrArg (fun L : List EReal => L[j.val]?) hm
  simp only [List.getElem?_map, List.getElem?_take, if_pos j.isLt] at hj
  have hlt : j.val < (network x0).length := by rw [hnet]; exact j.isLt
  rw [← hj, out_network, canon_pieces x0 j s l _ (by simp), List.getD_eq_getElem?_getD,
    List.getElem?_eq_getElem hlt, Option.getD_some, Option.map_some]

variable (m : (ℓ : Loc nD τ sig) → Buf (Elt Ideal) ℓ)

theorem index_in : ∀ t : Fin cfg0.N, win0_0.index t = ![0, 0, t.val, 0] := by decide +kernel
theorem index_out : ∀ t : Fin cfg0.N, win0_1.index t = ![0, t.val, 0] := by decide +kernel

/-- The number of the query at row `r`, lane `l`. -/
def query (r : Fin 32) (l : Fin 128) : Fin 4096 := ⟨128 * r.val + l.val, by omega⟩

/-- The lists as the call takes them: entry `i` of list `p` of the query at row `r`, lane `l`. -/
theorem laid_out (c : Dev nD) (p : Fin 4) (i : Fin 20) (r : Fin 32) (l : Fin 128) :
    (V m c main_v4 : FVec Ideal S4x20x32x128 .f32) (ix4 p i r l)
      = m ((c : Thread nD τ).loc main_arg0) (ix3 (query r l) p i) := by
  have e : (V m c main_v4 : FVec Ideal S4x20x32x128 .f32)
      = shapeCast S4x20x32x128 (transpose S4x20x4096 [1, 2, 0] (m ((c : Thread nD τ).loc main_arg0) : FVec Ideal S4096x4x20 .f32)
          transposes_S4096x4x20_S4x20x4096_1_2_0) shapeCasts_S4x20x4096_S4x20x32x128 := by
    dsimp only [V, V0, List.flatten_cons, List.flatten_nil, List.append_nil, List.cons_append, List.nil_append]
    after_results <;> rfl
  rw [e]
  have hr := r.isLt; have hl := l.isLt; have hp := p.isLt; have hi := i.isLt
  refine (shapeCast_apply _ _ (ix4 p i r l) (ix3 p i (query r l)) ?_).trans ?_
  · rewrite [Shape.rowMajor_val_three, Shape.rowMajor_val_four]
    show (p.val * 20 + i.val) * 4096 + (128 * r.val + l.val) = ((p.val * 20 + i.val) * 32 + r.val) * 128 + l.val
    omega
  · exact transpose_apply [1, 2, 0] _ _ _ (ix3 (query r l) p i) (fun b => match b with
      | ⟨0, _⟩ => rfl
      | ⟨1, _⟩ => rfl
      | ⟨2, _⟩ => rfl)

/-- The reference's twenty largest of each query, in the layout of the call. -/
def best (x0 : FVec Ideal S4096x4x20 .f32) : FVec Ideal S20x32x128 .f32 := fun i =>
  Cert.MergedReferenceIdeal.Read.val_main_values (F := Ideal) x0 (ix2 (query (i 1) (i 2)) (i 0))

/-- The array the call leaves is the reference's twenty largest. -/
theorem final (h : Cert.Pre_MergedIdeal_sorted_lists m) (c : Dev nD) :
    (dats m 0 c).arrAt 1 cfg0.N = best (m ((c : Thread nD τ).loc main_arg0)) := by
  refine (dats m 0 c).arrAt_eq_of_covers 1 _ (by decide +kernel) fun t hf y => ?_
  blk_simp
  rw [after0_1]
  obtain ⟨j, s, l, rfl⟩ : ∃ (j : Fin 20) (s : Fin 8) (l : Fin 128), y = ix3 j s l :=
    ⟨y 0, y 1, y 2, funext fun a => match a with | ⟨0, _⟩ => rfl | ⟨1, _⟩ => rfl | ⟨2, _⟩ => rfl⟩
  have ht : t.val < 4 := t.isLt
  have hemb : (win0_1.blk t).view.emb (ix3 j s l) = ix3 j (⟨8 * t.val + s.val, by omega⟩ : Fin 32) l := by
    blk_ext [index_out t]
    show t.val * 8 + s.val = 8 * t.val + s.val
    omega
  rw [hemb]
  have hin : ∀ p i, (iblk m c 0 t : Vec Ideal S4x20x8x128 .f32) (ix4 p i s l)
      = (V m c main_v4 : FVec Ideal S4x20x32x128 .f32) (ix4 p i (⟨8 * t.val + s.val, by omega⟩ : Fin 32) l) := by
    intro p i
    blk_simp [iblk]
    blk_ext [index_in t]
    show t.val * 8 + s.val = 8 * t.val + s.val
    omega
  refine Option.some.inj ((out_sorted (iblk m c 0 t)
    (Cert.MergedReferenceIdeal.Read.candidates (m ((c : Thread nD τ).loc main_arg0)) (query ⟨8 * t.val + s.val, by omega⟩ l)) j s l
    (fun p i => ?_) (fun p i => ?_)).trans (Cert.MergedReferenceIdeal.Read.result_sorted _ _ _).symm)
  · rw [Cert.MergedReferenceIdeal.Read.candidates_place]
    exact (hin p i).trans (laid_out m c p i _ l)
  · rw [Cert.MergedReferenceIdeal.Read.candidates_place, Cert.MergedReferenceIdeal.Read.candidates_place]
    exact descends _ (h c) _ p i

end Cert.MergedIdeal.Gen
-- ==== Proof.MergeLargest.lean ====
module

public import proofs.«01_k».proof.Proof.MergeValue
public import Idealize.ShloMosaic.PureOps.Reduce

/-!
# The largest of each list is its first entry

The kernel takes the first entry of each list; the reference takes the maximum over the list.
-/

@[expose] public section

noncomputable section

namespace Cert.MergedIdeal.Gen

open Idealize.ShloMosaic hiding ix2 ix3 ix4
open Idealize.ShloMosaic.TcCoe Idealize.ShloMosaic.ValueIdx Cert.MergedIdeal.Facts₀
open Idealize.SL Idealize.SL.Sem

/-- The maximum, from the least value, of numbers none above the first is the first. -/
theorem fold_first (g : Fin 20 → EReal) (h : ∀ i : Fin 19, g i.succ ≤ g i.castSucc) :
    (Finset.univ : Finset (Fin 20)).fold max ⊥ g = g 0 := by
  have anti : Antitone g := Fin.antitone_iff_succ_le.2 h
  refine le_antisymm ?_ ?_
  · exact Finset.fold_max_le _ |>.2 ⟨bot_le, fun i _ => anti (Fin.zero_le i)⟩
  · exact (Finset.le_fold_max _).2 (Or.inr ⟨0, Finset.mem_univ _, le_rfl⟩)

theorem reduces_last : Cert.MergedReferenceIdeal.S4096x4x20.Reduces [2] Cert.MergedReferenceIdeal.S4096x4 := by decide

theorem lift_last (q : Fin 4096) (p : Fin 4) (k : Fin 20) : reduces_last.lift (ix2 q p) k = ix3 q p k := by
  funext a
  match a with
  | ⟨0, _⟩ => rfl
  | ⟨1, _⟩ => rfl
  | ⟨2, _⟩ => rfl

/-- The reference's maximum over a descending list. -/
theorem largest_first (x : FVec Ideal Cert.MergedReferenceIdeal.S4096x4x20 .f32)
    (h : ∀ q p (i : Fin 19), (x (ix3 q p i.succ) : EReal) ≤ x (ix3 q p i.castSucc)) (q : Fin 4096) (p : Fin 4) :
    Cert.MergedReferenceIdeal.Read.val_main_v0 (F := Ideal) x (ix2 q p) = x (ix3 q p 0) := by
  unfold Cert.MergedReferenceIdeal.Read.val_main_v0
  have hb : (Cert.MergedReferenceIdeal.Read.val_main_cst (F := Ideal) (Shape.Idx.first Cert.MergedReferenceIdeal.Facts₀.h_S_) : EReal) = ⊥ := by
    show Ideal.ofBits .f32 0xFF800000#32 = ⊥
    simp [Ideal.ofBits, Ideal.ieee]
  refine (Host.reduce_eq_fold_single (max : EReal → EReal → EReal) _ _ _ reduces_last _ _).trans ?_
  rw [hb]
  refine Eq.trans ?_ (fold_first (fun k => x (ix3 q p k)) (h q p))
  refine Finset.fold_congr fun k _ => ?_
  exact congrArg x (lift_last q p k)

variable (m : (ℓ : Loc nD τ sig) → Buf (Elt Ideal) ℓ)

/-- The kernel's largest of each list is the reference's. -/
theorem largest (h : Cert.Pre_MergedIdeal_sorted_lists m) (c : Dev nD) :
    V m c main_v2 = Cert.MergedReferenceIdeal.Read.val_main_v3 (F := Ideal) (m ((c : Thread nD τ).loc main_arg0)) := by
  have e : (V m c main_v2 : FVec Ideal S2x2048x4 .f32)
      = shapeCast S2x2048x4 (shapeCast S4096x4 (extractStridedSlice S4096x4x1 ![0, 0, 0]
          (m ((c : Thread nD τ).loc main_arg0) : FVec Ideal S4096x4x20 .f32) slices_S4096x4x20_S4096x4x1_0_0_0)
          shapeCasts_S4096x4x1_S4096x4) shapeCasts_S4096x4_S2x2048x4 := by
    dsimp only [V, V0, List.flatten_cons, List.flatten_nil, List.append_nil, List.cons_append, List.nil_append]
    after_results <;> rfl
  refine e.trans ?_
  unfold Cert.MergedReferenceIdeal.Read.val_main_v3
  refine congrArg (fun y : FVec Ideal S4096x4 .f32 => shapeCast S2x2048x4 y shapeCasts_S4096x4_S2x2048x4) ?_
  funext y
  obtain ⟨q, p, rfl⟩ : ∃ (q : Fin 4096) (p : Fin 4), y = ix2 q p :=
    ⟨y 0, y 1, funext fun a => match a with | ⟨0, _⟩ => rfl | ⟨1, _⟩ => rfl⟩
  rw [largest_first _ (fun q p i => descends _ (h c) q p i)]
  refine (shapeCast_apply _ _ (ix2 q p) (ix3 q p (0 : Fin 1)) ?_).trans ?_
  · rewrite [Shape.rowMajor_val_three, Shape.rowMajor_val_two]
    show (q.val * 4 + p.val) * 1 + 0 = q.val * 4 + p.val
    omega
  · refine extractStridedSlice_apply _ _ _ _ _ fun k => ?_
    match k with
    | ⟨0, _⟩ => exact (Nat.zero_add _).symm
    | ⟨1, _⟩ => exact (Nat.zero_add _).symm
    | ⟨2, _⟩ => rfl

end Cert.MergedIdeal.Gen
-- ==== Proof.MergeRun.lean ====
module

public import proofs.«01_k».proof.Proof.MergeLargest

/-!
# The run of the merge kernel, with both results named

After the call the host lays the twenty best out in query order; the largest of each list were taken before it.
-/

@[expose] public section

noncomputable section

namespace Cert.MergedIdeal.Gen

open Idealize.ShloMosaic hiding ix2 ix3 ix4
open Idealize.ShloMosaic.TcCoe Idealize.ShloMosaic.ValueIdx Cert.MergedIdeal.Facts₀
open Idealize.SL Idealize.SL.Sem

variable (m : (ℓ : Loc nD τ sig) → Buf (Elt Ideal) ℓ)

/-- What the lines after the call leave in a buffer. -/
abbrev ends (c : Dev nD) (b : Ref sig .tc) : Buf (Elt Ideal) ((c : Thread nD τ).loc b) :=
  Pipeline.afterTail₀ cfgs (dats m) 0 (V0 m) [hostOps1] c b

/-- The call's result in query order. -/
theorem ends_best (c : Dev nD) : (ends m c main_v8 : FVec Ideal S2x2048x20 .f32)
    = shapeCast S2x2048x20 (transpose S4096x20 [1, 0] (shapeCast S20x4096 ((dats m 0 c).arrAt 1 cfg0.N : FVec Ideal S20x32x128 .f32)
        shapeCasts_S20x32x128_S20x4096) transposes_S20x4096_S4096x20_1_0) shapeCasts_S4096x20_S2x2048x20 := by
  have e := Pipeline.withArrays_arr spec0 launch0.win.arr_inj c (V0 m c) (fun w => (dats m 0 c).arrAt w cfg0.N) 1
  rw [← e]
  dsimp only [ends]
  unfold Pipeline.afterTail₀
  simp only [List.flatten_cons, List.flatten_nil, List.append_nil]
  generalize Pipeline.withArrays (cfgs 0).spec c (V0 m c) (fun w => (dats m 0 c).arrAt w (cfgs 0).N) = W
  after_results <;> rfl

/-- The largest of each list stays. -/
theorem ends_largest (c : Dev nD) : ends m c main_v2 = V m c main_v2 := by
  refine Eq.trans ?_ (Pipeline.withArrays_of_ne spec0 c (V0 m c) (fun w => (dats m 0 c).arrAt w cfg0.N) main_v2
    (by exact (by decide : ∀ w, Pipeline.arrRef spec0 w ≠ main_v2)))
  dsimp only [ends]
  unfold Pipeline.afterTail₀
  simp only [List.flatten_cons, List.flatten_nil, List.append_nil]
  generalize Pipeline.withArrays (cfgs 0).spec c (V0 m c) (fun w => (dats m 0 c).arrAt w (cfgs 0).N) = W
  after_results <;> rfl

/-- The twenty best in query order are the reference's. -/
theorem best_in_order (x : FVec Ideal S4096x4x20 .f32) :
    shapeCast S2x2048x20 (transpose S4096x20 [1, 0] (shapeCast S20x4096 (best x) shapeCasts_S20x32x128_S20x4096)
        transposes_S20x4096_S4096x20_1_0) shapeCasts_S4096x20_S2x2048x20
      = Cert.MergedReferenceIdeal.Read.val_main_v2 (F := Ideal) x := by
  unfold Cert.MergedReferenceIdeal.Read.val_main_v2
  refine congrArg (fun y : FVec Ideal S4096x20 .f32 => shapeCast S2x2048x20 y shapeCasts_S4096x20_S2x2048x20) ?_
  funext y
  obtain ⟨q, j, rfl⟩ : ∃ (q : Fin 4096) (j : Fin 20), y = ix2 q j :=
    ⟨y 0, y 1, funext fun a => match a with | ⟨0, _⟩ => rfl | ⟨1, _⟩ => rfl⟩
  have hq := q.isLt
  refine (transpose_apply [1, 0] _ _ _ (ix2 j q) (fun b => match b with
      | ⟨0, _⟩ => rfl
      | ⟨1, _⟩ => rfl)).trans ?_
  refine (shapeCast_apply _ _ (ix2 j q) (ix3 j (⟨q.val / 128, by omega⟩ : Fin 32) (⟨q.val % 128, by omega⟩ : Fin 128)) ?_).trans ?_
  · rewrite [Shape.rowMajor_val_three, Shape.rowMajor_val_two]
    show (j.val * 32 + q.val / 128) * 128 + q.val % 128 = j.val * 4096 + q.val
    omega
  · have e : query (⟨q.val / 128, by omega⟩ : Fin 32) (⟨q.val % 128, by omega⟩ : Fin 128) = q :=
      Fin.ext (by show 128 * (q.val / 128) + q.val % 128 = q.val; omega)
    show Cert.MergedReferenceIdeal.Read.val_main_values (F := Ideal) x
      (ix2 (query (⟨q.val / 128, by omega⟩ : Fin 32) (⟨q.val % 128, by omega⟩ : Fin 128)) j) = _
    rw [e]

/-- On descending lists the run ends with both results the reference's and the argument unchanged. -/
theorem run_both (ρ : Dev nD → PrngReg) (h : Cert.Pre_MergedIdeal_sorted_lists m) :
    θ_run defs (onTc (τ := τ) (main (F := Ideal))) ⟨m, fun _ => 0, ρ⟩ fun r => ∀ c : Dev nD,
      r.2.mem ((c : Thread nD τ).loc main_v8) = Cert.MergedReferenceIdeal.Read.val_main_v2 (F := Ideal) (m ((c : Thread nD τ).loc main_arg0))
      ∧ r.2.mem ((c : Thread nD τ).loc main_v2) = Cert.MergedReferenceIdeal.Read.val_main_v3 (F := Ideal) (m ((c : Thread nD τ).loc main_arg0))
      ∧ r.2.mem ((c : Thread nD τ).loc main_arg0) = m ((c : Thread nD τ).loc main_arg0) := by
  refine (θ_run defs _ _).mono (fun r hr c => ⟨?_, ?_, ?_⟩) (run_main m ρ)
  · refine ((hr c).2 main_v8 (Pipeline.mem_restRefs_of main_v8 (by decide) (by decide))).trans ((ends_best m c).trans ?_)
    rw [final m h c]
    exact best_in_order _
  · exact ((hr c).2 main_v2 (Pipeline.mem_restRefs_of main_v2 (by decide) (by decide))).trans ((ends_largest m c).trans (largest m h c))
  · exact ((hr c).2 main_arg0 (Pipeline.mem_restRefs_of main_arg0 (by decide) (by decide))).trans (W_main_arg0 m (dats m) c)

end Cert.MergedIdeal.Gen
-- ==== Proof.lean ====
/-
  The claims, assembled: both programs' frames, the reference's frame, the idealization, and the equation of the kernel's
  result with the reference's.
-/
module

public import proofs.«01_k».proof.Defs
public import proofs.«01_k».proof.Proof.Frame
public import proofs.«01_k».proof.Proof.Bits.Frame
public import proofs.«01_k».proof.Proof.Equation
public import proofs.«01_k».proof.Proof.Gen.ReferenceIdeal.Read
public import proofs.«01_k».proof.Proof.Gen.Pre_pre
public import proofs.«01_k».proof.Proof.Gen.Pre_sorted_lists
public import proofs.«01_k».proof.Proof.Gen.Merged.Frame
public import proofs.«01_k».proof.Proof.Gen.MergedIdeal.Frame
public import proofs.«01_k».proof.Proof.MergeRun
public import proofs.«01_k».proof.Proof.Gen.MergedIdeal.Frame
public import proofs.«01_k».proof.Proof.Gen.MergedReferenceIdeal.Read
public import Idealize.ShloMosaic.Lib.Quiescent

@[expose] public section

noncomputable section

namespace Cert.Proof

open Idealize.ShloMosaic Idealize.ShloMosaic.TcCoe Idealize.SL.Sem

theorem kernel_frame : quiescent_Kernel := by
  intro m g _
  exact (θ_run _ _ _).mono (fun _ h => ⟨fun c => (h.1 c).2, h.2⟩) (Cert.Kernel.Hand.run_all m g)

theorem ideal_frame : quiescent_KernelIdeal := by
  intro m g _
  exact (θ_run _ _ _).mono (fun _ h => ⟨fun c => (h.1 c).2, h.2⟩) (Cert.KernelIdeal.Hand.run_all m g)

theorem reference_frame : quiescent_ReferenceIdeal := by
  intro m g _
  exact (θ_run _ _ _).mono (fun r h => ⟨fun c => (h c).2, sem_eq_zero_of_no_sems (by decide) r.2⟩) (Cert.ReferenceIdeal.Value.run m g)

/-- From memories that agree on the arguments, with every named cluster one of the 640, both programs end with the same
    scores. -/
theorem same_scores : algebraic_KernelIdeal_ReferenceIdeal_pre_pre := by
  intro m g m' g' hpre hargs
  refine ⟨fun c => Cert.KernelIdeal.Hand.endAt m c (Proc.devRef .tc Cert.KernelIdeal.main_v44), ?_, ?_⟩
  · exact (θ_run _ _ _).mono (fun _ h c => h.1 c) (Cert.KernelIdeal.Hand.run_all m g)
  · refine (θ_run _ _ _).mono (fun r h c => ⟨?_, (h c).2⟩) (Cert.ReferenceIdeal.Value.run m' g')
    obtain ⟨a0, a1, a2, a3, a4⟩ := hargs c
    refine ((h c).1.trans (Cert.ReferenceIdeal.Read.val_main_v48_eq (F := Ideal) _ _ _ _ _)).trans ?_
    refine Eq.trans ?_ (result_eq m hpre c).symm
    rw [a0, a1, a2, a3, a4]

theorem merge_frame : quiescent_Merged := fun m g _ => Cert.Merged.Gen.frame m g

theorem merge_ideal_frame : quiescent_MergedIdeal := fun m g _ => Cert.MergedIdeal.Gen.frame m g

theorem merge_reference_frame : quiescent_MergedReferenceIdeal := by
  intro m g _
  exact (θ_run _ _ _).mono (fun r h => ⟨fun c => (h c).2.2, sem_eq_zero_of_no_sems (by decide) r.2⟩) (Cert.MergedReferenceIdeal.Value.run m g)

/-- From memories that agree on the argument, with every list descending, both programs end with the same twenty best
    of each query and the same largest of each list. -/
theorem same_best : algebraic_MergedIdeal_MergedReferenceIdeal_pre_sorted_lists := by
  intro m g m' g' hpre hargs
  refine ⟨fun c => Cert.MergedReferenceIdeal.Read.val_main_v2 (F := Ideal) (m ((c.tc : Thread Cert.MergedIdeal.nD Cert.MergedIdeal.τ).loc Cert.MergedIdeal.main_arg0)),
    fun c => Cert.MergedReferenceIdeal.Read.val_main_v3 (F := Ideal) (m ((c.tc : Thread Cert.MergedIdeal.nD Cert.MergedIdeal.τ).loc Cert.MergedIdeal.main_arg0)), ?_, ?_⟩
  · exact Cert.MergedIdeal.Gen.run_both m g hpre
  · refine (θ_run _ _ _).mono (fun r h c => ⟨?_, ?_, (h c).2.2⟩) (Cert.MergedReferenceIdeal.Value.run m' g')
    · refine ((h c).1.trans (Cert.MergedReferenceIdeal.Read.val_main_v2_eq (F := Ideal) _)).trans ?_
      rw [hargs c]
    · refine ((h c).2.1.trans (Cert.MergedReferenceIdeal.Read.val_main_v3_eq (F := Ideal) _)).trans ?_
      rw [hargs c]

end Cert.Proof

theorem Cert.Proof.claim : Cert.Claim :=
  ⟨inferInstance, inferInstance, inferInstance, inferInstance, inferInstance, inferInstance, inferInstance, inferInstance,
    Cert.Proof.kernel_frame, Cert.Proof.ideal_frame, fun m g _ => Cert.Proof.ideal_frame m g trivial,
    Cert.Proof.reference_frame, fun m g _ => Cert.Proof.reference_frame m g trivial,
    Cert.Proof.merge_frame, Cert.Proof.merge_ideal_frame, fun m g _ => Cert.Proof.merge_ideal_frame m g trivial,
    Cert.Proof.merge_reference_frame, fun m g _ => Cert.Proof.merge_reference_frame m g trivial,
    trivial, Cert.Proof.same_scores, trivial, Cert.Proof.same_best⟩
